-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale2" .f32 0x3E0293EE#32 (((11863283 / 134217728) * (Real.log 2)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![1, 4096, 8, 128]⟩ ⟨4, ![1, 65536, 8, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![1, 4096, 8, 128]⟩ ⟨4, ![1, 65536, 8, 128]⟩ 1 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x1024 .f32) (main_arg2 : FVec F S1024x1024 .f32) (main_arg3 : FVec F S1x4096x8x128 .f32) (main_arg4 : FVec F S1x4096x8x128 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .f32 := Host.absf main_arg3
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_scores_ReferenceIdeal.lean ====
abbrev S1x256x1024 : Shape := ⟨3, ![1, 256, 1024]⟩
abbrev S1024x1024 : Shape := ⟨2, ![1024, 1024]⟩
abbrev S1x65536x8x128 : Shape := ⟨4, ![1, 65536, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x65536x8x128 : S_.BroadcastsInDim S1x65536x8x128 (![] : Fin 0 → Fin S1x65536x8x128.rank)
  reducesTo_S1x65536x8x128_S_d0_1_2_3 : S1x65536x8x128.ReducesTo [0, 1, 2, 3] S_

variable [Facts]

def fn {F : FTy → Type} [FloatOps F] (main_arg0 : FVec F S1x256x1024 .f32) (main_arg1 : FVec F S1024x1024 .f32) (main_arg2 : FVec F S1024x1024 .f32) (main_arg3 : FVec F S1x65536x8x128 .f32) (main_arg4 : FVec F S1x65536x8x128 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x65536x8x128 .f32 := Host.absf main_arg3
  let main_cst_2 : FVec F S_ .f32 := constant S_ .f32 0x7F800000#32
  let main_v10 : FVec F S1x65536x8x128 .f32 := broadcastInDim S1x65536x8x128 ![] bcast_S_S1x65536x8x128 main_cst_2
  let main_v11 : IVec S1x65536x8x128 1 := cmpf .olt main_v9 main_v10
  let main_c_3 : IVec S_ 1 := constantI S_ 1 1#1
  let main_v12 : IVec S_ 1 := (fun x v => Host.reduce IntOp.andi x v reducesTo_S1x65536x8x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S256x1152 : Shape := ⟨2, ![256, 1152]⟩
abbrev S240x1152 : Shape := ⟨2, ![240, 1152]⟩
abbrev S256x1024 : Shape := ⟨2, ![256, 1024]⟩
abbrev S4096x1024 : Shape := ⟨2, ![4096, 1024]⟩
abbrev S4x4096x128 : Shape := ⟨3, ![4, 4096, 128]⟩
abbrev S8 : Shape := ⟨1, ![8]⟩
abbrev S15 : Shape := ⟨1, ![15]⟩
abbrev S_ : Shape := ⟨0, ![]⟩
abbrev S1 : Shape := ⟨1, ![1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S128x1024 : Shape := ⟨2, ![128, 1024]⟩
abbrev S128x128 : Shape := ⟨2, ![128, 128]⟩
abbrev S128x4096 : Shape := ⟨2, ![128, 4096]⟩
abbrev S128 : Shape := ⟨1, ![128]⟩
abbrev S128x1 : Shape := ⟨2, ![128, 1]⟩
abbrev S128x120 : Shape := ⟨2, ![128, 120]⟩
abbrev S128x1152 : Shape := ⟨2, ![128, 1152]⟩
abbrev S16x1152 : Shape := ⟨2, ![16, 1152]⟩
abbrev S16x8 : Shape := ⟨2, ![16, 8]⟩
abbrev S16x128 : Shape := ⟨2, ![16, 128]⟩
abbrev S16x1 : Shape := ⟨2, ![16, 1]⟩
abbrev S16x1024 : Shape := ⟨2, ![16, 1024]⟩

abbrev nBuf : Space → Nat
  | .hbm => 6
  | .vmem => 13
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1x4096x8x128, .f32⟩
  | .hbm, ⟨4, _⟩ => ⟨S1x4096x8x128, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S256x1152, .f32⟩
  | .local _ .vmem, ⟨5, _⟩ => ⟨S240x1152, .bf16⟩
  | .local _ .vmem, ⟨6, _⟩ => ⟨S240x1152, .bf16⟩
  | .local _ .vmem, ⟨7, _⟩ => ⟨S256x1024, .bf16⟩
  | .local _ .vmem, ⟨8, _⟩ => ⟨S256x1024, .bf16⟩
  | .local _ .vmem, ⟨9, _⟩ => ⟨S4096x1024, .bf16⟩
  | .local _ .vmem, ⟨10, _⟩ => ⟨S4096x1024, .bf16⟩
  | .local _ .vmem, ⟨11, _⟩ => ⟨S4x4096x128, .f32⟩
  | .local _ .vmem, ⟨12, _⟩ => ⟨S4x4096x128, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v25 : BitVec 32 := Scalar.xori v2 c8_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v28 : BitVec 32 := Scalar.xori v2 c9_i32
  let c1_i32_25 : BitVec 32 := 1#32
  let v29 : BitVec 32 := Scalar.muli v28 c1_i32_25
  let v30 : BitVec 32 := Scalar.addi c0_i32_26 v29
  v30.toNat
def k0_dev10 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v31 : BitVec 32 := Scalar.xori v2 c10_i32
  let c1_i32_28 : BitVec 32 := 1#32
  let v32 : BitVec 32 := Scalar.muli v31 c1_i32_28
  let v33 : BitVec 32 := Scalar.addi c0_i32_29 v32
  v33.toNat
def k0_dev11 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v34 : BitVec 32 := Scalar.xori v2 c11_i32
  let c1_i32_31 : BitVec 32 := 1#32
  let v35 : BitVec 32 := Scalar.muli v34 c1_i32_31
  let v36 : BitVec 32 := Scalar.addi c0_i32_32 v35
  v36.toNat
def k0_dev12 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v37 : BitVec 32 := Scalar.xori v2 c12_i32
  let c1_i32_34 : BitVec 32 := 1#32
  let v38 : BitVec 32 := Scalar.muli v37 c1_i32_34
  let v39 : BitVec 32 := Scalar.addi c0_i32_35 v38
  v39.toNat
def k0_dev13 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v40 : BitVec 32 := Scalar.xori v2 c13_i32
  let c1_i32_37 : BitVec 32 := 1#32
  let v41 : BitVec 32 := Scalar.muli v40 c1_i32_37
  let v42 : BitVec 32 := Scalar.addi c0_i32_38 v41
  v42.toNat
def k0_dev14 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v43 : BitVec 32 := Scalar.xori v2 c14_i32
  let c1_i32_40 : BitVec 32 := 1#32
  let v44 : BitVec 32 := Scalar.muli v43 c1_i32_40
  let v45 : BitVec 32 := Scalar.addi c0_i32_41 v44
  v45.toNat
def k0_dev15 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v46 : BitVec 32 := Scalar.xori v2 c15_i32
  let c1_i32_43 : BitVec 32 := 1#32
  let v47 : BitVec 32 := Scalar.muli v46 c1_i32_43
  let v48 : BitVec 32 := Scalar.addi c0_i32_44 v47
  v48.toNat
def k0_off1 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let v88 : BitVec 32 := Scalar.subi c1_i32_85 v86
  let c128_i32_86 : BitVec 32 := 128#32
  let v89 : BitVec 32 := Scalar.muli v88 c128_i32_86
  let v90 : Index := Scalar.indexCast v89
  let c0_87 : Index := 0#32
  ![v90.toNat, 0]
def k0_off2 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let v88 : BitVec 32 := Scalar.subi c1_i32_85 v86
  let c128_i32_86 : BitVec 32 := 128#32
  let v89 : BitVec 32 := Scalar.muli v88 c128_i32_86
  let v135 : Index := Scalar.indexCast v89
  let c0_133 : Index := 0#32
  ![v135.toNat, 0]
def k0_off3 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let v88 : BitVec 32 := Scalar.subi c1_i32_85 v86
  let c128_i32_86 : BitVec 32 := 128#32
  let v89 : BitVec 32 := Scalar.muli v88 c128_i32_86
  let v182 : Index := Scalar.indexCast v89
  let c128_177 : Index := 128#32
  ![v182.toNat, 128]
def k0_off4 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let v88 : BitVec 32 := Scalar.subi c1_i32_85 v86
  let c128_i32_86 : BitVec 32 := 128#32
  let v89 : BitVec 32 := Scalar.muli v88 c128_i32_86
  let v229 : Index := Scalar.indexCast v89
  let c256_221 : Index := 256#32
  ![v229.toNat, 256]
def k0_off5 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let v88 : BitVec 32 := Scalar.subi c1_i32_85 v86
  let c128_i32_86 : BitVec 32 := 128#32
  let v89 : BitVec 32 := Scalar.muli v88 c128_i32_86
  let v276 : Index := Scalar.indexCast v89
  let c384_265 : Index := 384#32
  ![v276.toNat, 384]
def k0_off6 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let v88 : BitVec 32 := Scalar.subi c1_i32_85 v86
  let c128_i32_86 : BitVec 32 := 128#32
  let v89 : BitVec 32 := Scalar.muli v88 c128_i32_86
  let v323 : Index := Scalar.indexCast v89
  let c512_310 : Index := 512#32
  ![v323.toNat, 512]
def k0_off7 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let v88 : BitVec 32 := Scalar.subi c1_i32_85 v86
  let c128_i32_86 : BitVec 32 := 128#32
  let v89 : BitVec 32 := Scalar.muli v88 c128_i32_86
  let v370 : Index := Scalar.indexCast v89
  let c640_355 : Index := 640#32
  ![v370.toNat, 640]
def k0_off8 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let v88 : BitVec 32 := Scalar.subi c1_i32_85 v86
  let c128_i32_86 : BitVec 32 := 128#32
  let v89 : BitVec 32 := Scalar.muli v88 c128_i32_86
  let v405 : Index := Scalar.indexCast v89
  let c768_384 : Index := 768#32
  ![v405.toNat, 768]
def k0_off9 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let v88 : BitVec 32 := Scalar.subi c1_i32_85 v86
  let c128_i32_86 : BitVec 32 := 128#32
  let v89 : BitVec 32 := Scalar.muli v88 c128_i32_86
  let v440 : Index := Scalar.indexCast v89
  let c896_413 : Index := 896#32
  ![v440.toNat, 896]
def k0_off10 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let v88 : BitVec 32 := Scalar.subi c1_i32_85 v86
  let c128_i32_86 : BitVec 32 := 128#32
  let v89 : BitVec 32 := Scalar.muli v88 c128_i32_86
  let v446 : Index := Scalar.indexCast v89
  let c1024 : Index := 1024#32
  ![v446.toNat, 1024]
def k0_off11 (d0 : Dev nD) : Fin 2 → Nat :=
  let c1_i32_85 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let v88 : BitVec 32 := Scalar.subi c1_i32_85 v86
  let c128_i32_86 : BitVec 32 := 128#32
  let v89 : BitVec 32 := Scalar.muli v88 c128_i32_86
  let v450 : Index := Scalar.indexCast v89
  let c0_416 : Index := 0#32
  ![v450.toNat, 0]
def k0_dev16 (d0 : Dev nD) : Nat :=
  let c0_i32_423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_419 : BitVec 32 := 1#32
  let v456 : BitVec 32 := Scalar.xori v2 c1_i32_419
  let c1_i32_422 : BitVec 32 := 1#32
  let v457 : BitVec 32 := Scalar.muli v456 c1_i32_422
  let v458 : BitVec 32 := Scalar.addi c0_i32_423 v457
  v458.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let v465 : Index := Scalar.indexCast v87
  let c0_428 : Index := 0#32
  ![v465.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let v476 : Index := Scalar.indexCast v87
  let c0_436 : Index := 0#32
  ![v476.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let v489 : Index := Scalar.indexCast v87
  let c128_444 : Index := 128#32
  ![v489.toNat, 128]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let v502 : Index := Scalar.indexCast v87
  let c256_452 : Index := 256#32
  ![v502.toNat, 256]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let v515 : Index := Scalar.indexCast v87
  let c384_460 : Index := 384#32
  ![v515.toNat, 384]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let v528 : Index := Scalar.indexCast v87
  let c512_468 : Index := 512#32
  ![v528.toNat, 512]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let v541 : Index := Scalar.indexCast v87
  let c640_476 : Index := 640#32
  ![v541.toNat, 640]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let v554 : Index := Scalar.indexCast v87
  let c768_484 : Index := 768#32
  ![v554.toNat, 768]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let v567 : Index := Scalar.indexCast v87
  let c896_492 : Index := 896#32
  ![v567.toNat, 896]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let v573 : Index := Scalar.indexCast v87
  let c1024_494 : Index := 1024#32
  ![v573.toNat, 1024]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let v587 : Index := Scalar.indexCast v87
  let c0_510 : Index := 0#32
  ![v587.toNat, 0]
def k0_off23 (d0 : Dev nD) (c2_i32_516 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let v599 : BitVec 32 := Scalar.xori v2 c2_i32_516
  let c1_i32_517 : BitVec 32 := 1#32
  let v600 : BitVec 32 := Scalar.shrsi v599 c1_i32_517
  let c16_i32_518 : BitVec 32 := 16#32
  let v601 : BitVec 32 := Scalar.muli v600 c16_i32_518
  let v602 : BitVec 32 := Scalar.addi v87 v601
  let v603 : Index := Scalar.indexCast v602
  let c0_519 : Index := 0#32
  ![v603.toNat, 0]
def k0_dev17 (d0 : Dev nD) : Nat :=
  let c0_i32_525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_516 : BitVec 32 := 2#32
  let v599 : BitVec 32 := Scalar.xori v2 c2_i32_516
  let c1_i32_524 : BitVec 32 := 1#32
  let v609 : BitVec 32 := Scalar.muli v599 c1_i32_524
  let v610 : BitVec 32 := Scalar.addi c0_i32_525 v609
  v610.toNat
def k0_dev18 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_530 : BitVec 32 := 4#32
  let v617 : BitVec 32 := Scalar.xori v2 c4_i32_530
  let c1_i32_537 : BitVec 32 := 1#32
  let v627 : BitVec 32 := Scalar.muli v617 c1_i32_537
  let v628 : BitVec 32 := Scalar.addi c0_i32_538 v627
  v628.toNat
def k0_dev19 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_542 : BitVec 32 := 6#32
  let v635 : BitVec 32 := Scalar.xori v2 c6_i32_542
  let c1_i32_549 : BitVec 32 := 1#32
  let v645 : BitVec 32 := Scalar.muli v635 c1_i32_549
  let v646 : BitVec 32 := Scalar.addi c0_i32_550 v645
  v646.toNat
def k0_dev20 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_554 : BitVec 32 := 8#32
  let v653 : BitVec 32 := Scalar.xori v2 c8_i32_554
  let c1_i32_561 : BitVec 32 := 1#32
  let v663 : BitVec 32 := Scalar.muli v653 c1_i32_561
  let v664 : BitVec 32 := Scalar.addi c0_i32_562 v663
  v664.toNat
def k0_dev21 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_566 : BitVec 32 := 10#32
  let v671 : BitVec 32 := Scalar.xori v2 c10_i32_566
  let c1_i32_573 : BitVec 32 := 1#32
  let v681 : BitVec 32 := Scalar.muli v671 c1_i32_573
  let v682 : BitVec 32 := Scalar.addi c0_i32_574 v681
  v682.toNat
def k0_dev22 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_578 : BitVec 32 := 12#32
  let v689 : BitVec 32 := Scalar.xori v2 c12_i32_578
  let c1_i32_585 : BitVec 32 := 1#32
  let v699 : BitVec 32 := Scalar.muli v689 c1_i32_585
  let v700 : BitVec 32 := Scalar.addi c0_i32_586 v699
  v700.toNat
def k0_dev23 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_590 : BitVec 32 := 14#32
  let v707 : BitVec 32 := Scalar.xori v2 c14_i32_590
  let c1_i32_597 : BitVec 32 := 1#32
  let v717 : BitVec 32 := Scalar.muli v707 c1_i32_597
  let v718 : BitVec 32 := Scalar.addi c0_i32_598 v717
  v718.toNat
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let c1_i32_514 : BitVec 32 := 1#32
  let v596 : BitVec 32 := Scalar.shrsi v2 c1_i32_514
  let c16_i32_515 : BitVec 32 := 16#32
  let v597 : BitVec 32 := Scalar.muli v596 c16_i32_515
  let v598 : BitVec 32 := Scalar.addi v87 v597
  let v725 : Index := Scalar.indexCast v598
  let c0_602 : Index := 0#32
  ![v725.toNat, 0]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let c1_i32_514 : BitVec 32 := 1#32
  let v596 : BitVec 32 := Scalar.shrsi v2 c1_i32_514
  let c16_i32_515 : BitVec 32 := 16#32
  let v597 : BitVec 32 := Scalar.muli v596 c16_i32_515
  let v598 : BitVec 32 := Scalar.addi v87 v597
  let v867 : Index := Scalar.indexCast v598
  let c0_726 : Index := 0#32
  ![v867.toNat, 0]
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_84 : BitVec 32 := 1#32
  let v86 : BitVec 32 := Scalar.andi v2 c1_i32_84
  let c128_i32 : BitVec 32 := 128#32
  let v87 : BitVec 32 := Scalar.muli v86 c128_i32
  let c1_i32_514 : BitVec 32 := 1#32
  let v596 : BitVec 32 := Scalar.shrsi v2 c1_i32_514
  let c16_i32_515 : BitVec 32 := 16#32
  let v597 : BitVec 32 := Scalar.muli v596 c16_i32_515
  let v598 : BitVec 32 := Scalar.addi v87 v597
  let c0_i32_732 : BitVec 32 := 0#32
  ![v598.toNat, 0]
def k0_dev24 (d0 : Dev nD) : Nat :=
  let c0_i32_731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_727 : BitVec 32 := 1#32
  let v871 : BitVec 32 := Scalar.xori v2 c1_i32_727
  let c1_i32_730 : BitVec 32 := 1#32
  let v872 : BitVec 32 := Scalar.muli v871 c1_i32_730
  let v873 : BitVec 32 := Scalar.addi c0_i32_731 v872
  v873.toNat
def k0_dev25 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_734 : BitVec 32 := 2#32
  let v880 : BitVec 32 := Scalar.xori v2 c2_i32_734
  let c1_i32_737 : BitVec 32 := 1#32
  let v881 : BitVec 32 := Scalar.muli v880 c1_i32_737
  let v882 : BitVec 32 := Scalar.addi c0_i32_738 v881
  v882.toNat
def k0_dev26 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_741 : BitVec 32 := 3#32
  let v889 : BitVec 32 := Scalar.xori v2 c3_i32_741
  let c1_i32_744 : BitVec 32 := 1#32
  let v890 : BitVec 32 := Scalar.muli v889 c1_i32_744
  let v891 : BitVec 32 := Scalar.addi c0_i32_745 v890
  v891.toNat
def k0_dev27 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_748 : BitVec 32 := 4#32
  let v898 : BitVec 32 := Scalar.xori v2 c4_i32_748
  let c1_i32_751 : BitVec 32 := 1#32
  let v899 : BitVec 32 := Scalar.muli v898 c1_i32_751
  let v900 : BitVec 32 := Scalar.addi c0_i32_752 v899
  v900.toNat
def k0_dev28 (d0 : Dev nD) : Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_755 : BitVec 32 := 5#32
  let v907 : BitVec 32 := Scalar.xori v2 c5_i32_755
  let c1_i32_758 : BitVec 32 := 1#32
  let v908 : BitVec 32 := Scalar.muli v907 c1_i32_758
  let v909 : BitVec 32 := Scalar.addi c0_i32_759 v908
  v909.toNat
def k0_dev29 (d0 : Dev nD) : Nat :=
  let c0_i32_766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_762 : BitVec 32 := 6#32
  let v916 : BitVec 32 := Scalar.xori v2 c6_i32_762
  let c1_i32_765 : BitVec 32 := 1#32
  let v917 : BitVec 32 := Scalar.muli v916 c1_i32_765
  let v918 : BitVec 32 := Scalar.addi c0_i32_766 v917
  v918.toNat
def k0_dev30 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_769 : BitVec 32 := 7#32
  let v925 : BitVec 32 := Scalar.xori v2 c7_i32_769
  let c1_i32_772 : BitVec 32 := 1#32
  let v926 : BitVec 32 := Scalar.muli v925 c1_i32_772
  let v927 : BitVec 32 := Scalar.addi c0_i32_773 v926
  v927.toNat
def k0_dev31 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_776 : BitVec 32 := 8#32
  let v934 : BitVec 32 := Scalar.xori v2 c8_i32_776
  let c1_i32_779 : BitVec 32 := 1#32
  let v935 : BitVec 32 := Scalar.muli v934 c1_i32_779
  let v936 : BitVec 32 := Scalar.addi c0_i32_780 v935
  v936.toNat
def k0_dev32 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_783 : BitVec 32 := 9#32
  let v943 : BitVec 32 := Scalar.xori v2 c9_i32_783
  let c1_i32_786 : BitVec 32 := 1#32
  let v944 : BitVec 32 := Scalar.muli v943 c1_i32_786
  let v945 : BitVec 32 := Scalar.addi c0_i32_787 v944
  v945.toNat
def k0_dev33 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_790 : BitVec 32 := 10#32
  let v952 : BitVec 32 := Scalar.xori v2 c10_i32_790
  let c1_i32_793 : BitVec 32 := 1#32
  let v953 : BitVec 32 := Scalar.muli v952 c1_i32_793
  let v954 : BitVec 32 := Scalar.addi c0_i32_794 v953
  v954.toNat
def k0_dev34 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_797 : BitVec 32 := 11#32
  let v961 : BitVec 32 := Scalar.xori v2 c11_i32_797
  let c1_i32_800 : BitVec 32 := 1#32
  let v962 : BitVec 32 := Scalar.muli v961 c1_i32_800
  let v963 : BitVec 32 := Scalar.addi c0_i32_801 v962
  v963.toNat
def k0_dev35 (d0 : Dev nD) : Nat :=
  let c0_i32_808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_804 : BitVec 32 := 12#32
  let v970 : BitVec 32 := Scalar.xori v2 c12_i32_804
  let c1_i32_807 : BitVec 32 := 1#32
  let v971 : BitVec 32 := Scalar.muli v970 c1_i32_807
  let v972 : BitVec 32 := Scalar.addi c0_i32_808 v971
  v972.toNat
def k0_dev36 (d0 : Dev nD) : Nat :=
  let c0_i32_815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_811 : BitVec 32 := 13#32
  let v979 : BitVec 32 := Scalar.xori v2 c13_i32_811
  let c1_i32_814 : BitVec 32 := 1#32
  let v980 : BitVec 32 := Scalar.muli v979 c1_i32_814
  let v981 : BitVec 32 := Scalar.addi c0_i32_815 v980
  v981.toNat
def k0_dev37 (d0 : Dev nD) : Nat :=
  let c0_i32_822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_818 : BitVec 32 := 14#32
  let v988 : BitVec 32 := Scalar.xori v2 c14_i32_818
  let c1_i32_821 : BitVec 32 := 1#32
  let v989 : BitVec 32 := Scalar.muli v988 c1_i32_821
  let v990 : BitVec 32 := Scalar.addi c0_i32_822 v989
  v990.toNat
def k0_dev38 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_825 : BitVec 32 := 15#32
  let v997 : BitVec 32 := Scalar.xori v2 c15_i32_825
  let c1_i32_828 : BitVec 32 := 1#32
  let v998 : BitVec 32 := Scalar.muli v997 c1_i32_828
  let v999 : BitVec 32 := Scalar.addi c0_i32_829 v998
  v999.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale2" => some (((11863283 / 134217728) * (Real.log 2)⁻¹ : ℝ) : EReal)
  | _ => none
-- ==== ReferenceIdeal.lean ====
abbrev S1x256x1024 : Shape := ⟨3, ![1, 256, 1024]⟩
abbrev S1024x1024 : Shape := ⟨2, ![1024, 1024]⟩
abbrev S1x65536x8x128 : Shape := ⟨4, ![1, 65536, 8, 128]⟩
abbrev S256x1024 : Shape := ⟨2, ![256, 1024]⟩
abbrev S256x8x128 : Shape := ⟨3, ![256, 8, 128]⟩
abbrev S65536x8x128 : Shape := ⟨3, ![65536, 8, 128]⟩
abbrev S8x256x65536 : Shape := ⟨3, ![8, 256, 65536]⟩
abbrev S_ : Shape := ⟨0, ![]⟩
abbrev S8x256 : Shape := ⟨2, ![8, 256]⟩
abbrev S8x256x1 : Shape := ⟨3, ![8, 256, 1]⟩
abbrev S8x256x128 : Shape := ⟨3, ![8, 256, 128]⟩

abbrev nBuf : Space → Nat
  | .hbm => 30
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1x65536x8x128, .f32⟩
  | .hbm, ⟨4, _⟩ => ⟨S1x65536x8x128, .f32⟩
  | .hbm, ⟨5, _⟩ => ⟨S256x1024, .f32⟩
  | .hbm, ⟨6, _⟩ => ⟨S256x1024, .f32⟩
  | .hbm, ⟨7, _⟩ => ⟨S256x8x128, .f32⟩
  | .hbm, ⟨8, _⟩ => ⟨S65536x8x128, .f32⟩
  | .hbm, ⟨9, _⟩ => ⟨S8x256x65536, .f32⟩
  | .hbm, ⟨10, _⟩ => ⟨S_, .f32⟩
  | .hbm, ⟨11, _⟩ => ⟨S8x256x65536, .f32⟩
  | .hbm, ⟨12, _⟩ => ⟨S8x256x65536, .f32⟩
  | .hbm, ⟨13, _⟩ => ⟨S_, .f32⟩
  | .hbm, ⟨14, _⟩ => ⟨S8x256, .f32⟩
  | .hbm, ⟨15, _⟩ => ⟨S8x256x1, .f32⟩
  | .hbm, ⟨16, _⟩ => ⟨S8x256x65536, .f32⟩
  | .hbm, ⟨17, _⟩ => ⟨S8x256x65536, .f32⟩
  | .hbm, ⟨18, _⟩ => ⟨S8x256x65536, .f32⟩
  | .hbm, ⟨19, _⟩ => ⟨S_, .f32⟩
  | .hbm, ⟨20, _⟩ => ⟨S8x256, .f32⟩
  | .hbm, ⟨21, _⟩ => ⟨S8x256x1, .f32⟩
  | .hbm, ⟨22, _⟩ => ⟨S65536x8x128, .f32⟩
  | .hbm, ⟨23, _⟩ => ⟨S8x256x128, .f32⟩
  | .hbm, ⟨24, _⟩ => ⟨S8x256x128, .f32⟩
  | .hbm, ⟨25, _⟩ => ⟨S8x256x128, .f32⟩
  | .hbm, ⟨26, _⟩ => ⟨S256x8x128, .f32⟩
  | .hbm, ⟨27, _⟩ => ⟨S256x1024, .f32⟩
  | .hbm, ⟨28, _⟩ => ⟨S256x1024, .f32⟩
  | .hbm, ⟨29, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Flat.lean ====
module

public import proofs.«01_k».proof.Proof.Gen.KernelIdeal.Skeleton
public import Idealize.ShloMosaic.Lib.Tactic
public import Idealize.ShloMosaic.Lib.Tactic.OpenCalls
public import Idealize.ShloMosaic.Lib.Tactic.Stretches

@[expose] public section

set_option maxRecDepth 65536
set_option maxHeartbeats 4000000

namespace Cert.KernelIdeal.Run

open Cert.KernelIdeal Cert.KernelIdeal.Gen

variable {F : Idealize.ShloMosaic.FTy → Type} [Idealize.ShloMosaic.FloatOps F] [Idealize.ShloMosaic.Named F]

set_option open_calls.check false in
open_calls flat := cc0_body [k0_part40, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39]

end Cert.KernelIdeal.Run
-- ==== Proof.Base.lean ====
module

public import proofs.«01_k».proof.Proof.Flat
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The rounds' ghost state twice (the pipeline's staging cells; this kernel's own cells, whose duties are named by
    numbers) and the counters the local transfers draw on. -/
abbrev UU : Type := UR sig nD τ × (Rounds.URounds (GSem nD τ sig) ℕ × Counters)

section
variable {F : FTy → Type} [FloatOps F] [Named F]

abbrev EP : Emb (UR sig nD τ) (MT nD τ sig Unit (Elt F) ℕ UU ℕ) := embL
abbrev ER : Emb (Rounds.URounds (GSem nD τ sig) ℕ) (MT nD τ sig Unit (Elt F) ℕ UU ℕ) :=
  (Emb.inl : Emb (Rounds.URounds (GSem nD τ sig) ℕ) (Rounds.URounds (GSem nD τ sig) ℕ × Counters)).trans embR
abbrev 𝒱₀ : Variants := Variants.none
end

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev kM : Memref sig .tc .hbm S1x4096x8x128 .f32 := Memref.whole main_arg3
abbrev vM : Memref sig .tc .hbm S1x4096x8x128 .f32 := Memref.whole main_arg4
abbrev oM : Memref sig .tc .vmem S1x256x1024 .f32 := Memref.whole cc0_stg3_0
abbrev accM : Memref sig .tc .vmem S256x1152 .f32 := Memref.whole cc0_scratch0
abbrev ssM : Memref sig .tc .vmem S240x1152 .bf16 := Memref.whole cc0_scratch1
abbrev rsM : Memref sig .tc .vmem S240x1152 .bf16 := Memref.whole cc0_scratch2
abbrev gbM : Memref sig .tc .vmem S256x1024 .bf16 := Memref.whole cc0_scratch3
abbrev qM : Memref sig .tc .vmem S256x1024 .bf16 := Memref.whole cc0_scratch4
abbrev kbM : Memref sig .tc .vmem S4096x1024 .bf16 := Memref.whole cc0_scratch5
abbrev vbM : Memref sig .tc .vmem S4096x1024 .bf16 := Memref.whole cc0_scratch6
abbrev ksM : Memref sig .tc .vmem S4x4096x128 .f32 := Memref.whole cc0_scratch7
abbrev vsM : Memref sig .tc .vmem S4x4096x128 .f32 := Memref.whole cc0_scratch8

end Cert.KernelIdeal.Run

end
-- ==== Proof.Geom.lean ====
module

public import proofs.«01_k».proof.Proof.Base
@[expose] public section
set_option maxRecDepth 16384
noncomputable section
/-! Closed forms of the kernel's offsets and peers at a symbolic device `c`. The low bit of the device number says which
half of the 256 query rows the device keeps after the first exchange; the other three bits say which sixteen rows of
that half it reduces and gathers. -/
namespace Cert.KernelIdeal.Run
open Cert.KernelIdeal Cert.KernelIdeal.Gen
open Idealize.ShloMosaic
open Idealize.ShloMosaic.TcCoe

/-- First row of the half that device `c` keeps. -/
def kLo (c : Dev nD) : ℕ := (c.val % 2) * 128
/-- First row of the half that device `c` sends away. -/
def sLo (c : Dev nD) : ℕ := (1 - c.val % 2) * 128
/-- First of the sixteen rows that device `c` reduces. -/
def mLo (c : Dev nD) : ℕ := (c.val % 2) * 128 + (c.val / 2) * 16
/-- The device whose number differs from `c` in the bits of `m`. -/
def peer (c : Dev nD) (m : ℕ) : Dev nD := ⟨(c.val ^^^ m) % 16, Nat.mod_lt _ (by decide)⟩

theorem off1_eq (c : Dev nD) : k0_off1 c = ![sLo c, 0] := by revert c; decide +kernel
instance (c : Dev nD) : ClosedOff (k0_off1 c) := ⟨![sLo c, 0], off1_eq c⟩
theorem off2_eq (c : Dev nD) : k0_off2 c = ![sLo c, 0] := by revert c; decide +kernel
instance (c : Dev nD) : ClosedOff (k0_off2 c) := ⟨![sLo c, 0], off2_eq c⟩
theorem off3_eq (c : Dev nD) : k0_off3 c = ![sLo c, 128] := by revert c; decide +kernel
instance (c : Dev nD) : ClosedOff (k0_off3 c) := ⟨![sLo c, 128], off3_eq c⟩
theorem off4_eq (c : Dev nD) : k0_off4 c = ![sLo c, 256] := by revert c; decide +kernel
instance (c : Dev nD) : ClosedOff (k0_off4 c) := ⟨![sLo c, 256], off4_eq c⟩
theorem off5_eq (c : Dev nD) : k0_off5 c = ![sLo c, 384] := by revert c; decide +kernel
instance (c : Dev nD) : ClosedOff (k0_off5 c) := ⟨![sLo c, 384], off5_eq c⟩
theorem off6_eq (c : Dev nD) : k0_off6 c = ![sLo c, 512] := by revert c; decide +kernel
instance (c : Dev nD) : ClosedOff (k0_off6 c) := ⟨![sLo c, 512], off6_eq c⟩
theorem off7_eq (c : Dev nD) : k0_off7 c = ![sLo c, 640] := by revert c; decide +kernel
instance (c : Dev nD) : ClosedOff (k0_off7 c) := ⟨![sLo c, 640], off7_eq c⟩
theorem off8_eq (c : Dev nD) : k0_off8 c = ![sLo c, 768] := by revert c; decide +kernel
instance (c : Dev nD) : ClosedOff (k0_off8 c) := ⟨![sLo c, 768], off8_eq c⟩
theorem off9_eq (c : Dev nD) : k0_off9 c = ![sLo c, 896] := by revert c; decide +kernel
instance (c : Dev nD) : ClosedOff (k0_off9 c) := ⟨![sLo c, 896], off9_eq c⟩
theorem off10_eq (c : Dev nD) : k0_off10 c = ![sLo c, 1024] := by revert c; decide +kernel
instance (c : Dev nD) : ClosedOff (k0_off10 c) := ⟨![sLo c, 1024], off10_eq c⟩
theorem off11_eq (c : Dev nD) : k0_off11 c = ![sLo c, 0] := by revert c; decide +kernel
instance (c : Dev nD) : ClosedOff (k0_off11 c) := ⟨![sLo c, 0], off11_eq c⟩
theorem off12_eq (c : Dev nD) : k0_off12 c = ![kLo c, 0] := by revert c; decide +kernel
instance (c : Dev nD) : ClosedOff (k0_off12 c) := ⟨![kLo c, 0], off12_eq c⟩
theorem off13_eq (c : Dev nD) : k0_off13 c = ![kLo c, 0] := by revert c; decide +kernel
instance (c : Dev nD) : ClosedOff (k0_off13 c) := ⟨![kLo c, 0], off13_eq c⟩
theorem off14_eq (c : Dev nD) : k0_off14 c = ![kLo c, 128] := by revert c; decide +kernel
instance (c : Dev nD) : ClosedOff (k0_off14 c) := ⟨![kLo c, 128], off14_eq c⟩
theorem off15_eq (c : Dev nD) : k0_off15 c = ![kLo c, 256] := by revert c; decide +kernel
instance (c : Dev nD) : ClosedOff (k0_off15 c) := ⟨![kLo c, 256], off15_eq c⟩
theorem off16_eq (c : Dev nD) : k0_off16 c = ![kLo c, 384] := by revert c; decide +kernel
instance (c : Dev nD) : ClosedOff (k0_off16 c) := ⟨![kLo c, 384], off16_eq c⟩
theorem off17_eq (c : Dev nD) : k0_off17 c = ![kLo c, 512] := by revert c; decide +kernel
instance (c : Dev nD) : ClosedOff (k0_off17 c) := ⟨![kLo c, 512], off17_eq c⟩
theorem off18_eq (c : Dev nD) : k0_off18 c = ![kLo c, 640] := by revert c; decide +kernel
instance (c : Dev nD) : ClosedOff (k0_off18 c) := ⟨![kLo c, 640], off18_eq c⟩
theorem off19_eq (c : Dev nD) : k0_off19 c = ![kLo c, 768] := by revert c; decide +kernel
instance (c : Dev nD) : ClosedOff (k0_off19 c) := ⟨![kLo c, 768], off19_eq c⟩
theorem off20_eq (c : Dev nD) : k0_off20 c = ![kLo c, 896] := by revert c; decide +kernel
instance (c : Dev nD) : ClosedOff (k0_off20 c) := ⟨![kLo c, 896], off20_eq c⟩
theorem off21_eq (c : Dev nD) : k0_off21 c = ![kLo c, 1024] := by revert c; decide +kernel
instance (c : Dev nD) : ClosedOff (k0_off21 c) := ⟨![kLo c, 1024], off21_eq c⟩
theorem off22_eq (c : Dev nD) : k0_off22 c = ![kLo c, 0] := by revert c; decide +kernel
instance (c : Dev nD) : ClosedOff (k0_off22 c) := ⟨![kLo c, 0], off22_eq c⟩
theorem off24_eq (c : Dev nD) : k0_off24 c = ![mLo c, 0] := by revert c; decide +kernel
instance (c : Dev nD) : ClosedOff (k0_off24 c) := ⟨![mLo c, 0], off24_eq c⟩
theorem off25_eq (c : Dev nD) : k0_off25 c = ![mLo c, 0] := by revert c; decide +kernel
instance (c : Dev nD) : ClosedOff (k0_off25 c) := ⟨![mLo c, 0], off25_eq c⟩
theorem off26_eq (c : Dev nD) : k0_off26 c = ![mLo c, 0] := by revert c; decide +kernel
instance (c : Dev nD) : ClosedOff (k0_off26 c) := ⟨![mLo c, 0], off26_eq c⟩
theorem off23_2_eq (c : Dev nD) : k0_off23 c 2#32 = ![mLo (peer c 2), 0] := by revert c; decide +kernel
instance (c : Dev nD) : ClosedOff (k0_off23 c 2#32) := ⟨![mLo (peer c 2), 0], off23_2_eq c⟩
theorem off23_4_eq (c : Dev nD) : k0_off23 c 4#32 = ![mLo (peer c 4), 0] := by revert c; decide +kernel
instance (c : Dev nD) : ClosedOff (k0_off23 c 4#32) := ⟨![mLo (peer c 4), 0], off23_4_eq c⟩
theorem off23_6_eq (c : Dev nD) : k0_off23 c 6#32 = ![mLo (peer c 6), 0] := by revert c; decide +kernel
instance (c : Dev nD) : ClosedOff (k0_off23 c 6#32) := ⟨![mLo (peer c 6), 0], off23_6_eq c⟩
theorem off23_8_eq (c : Dev nD) : k0_off23 c 8#32 = ![mLo (peer c 8), 0] := by revert c; decide +kernel
instance (c : Dev nD) : ClosedOff (k0_off23 c 8#32) := ⟨![mLo (peer c 8), 0], off23_8_eq c⟩
theorem off23_10_eq (c : Dev nD) : k0_off23 c 10#32 = ![mLo (peer c 10), 0] := by revert c; decide +kernel
instance (c : Dev nD) : ClosedOff (k0_off23 c 10#32) := ⟨![mLo (peer c 10), 0], off23_10_eq c⟩
theorem off23_12_eq (c : Dev nD) : k0_off23 c 12#32 = ![mLo (peer c 12), 0] := by revert c; decide +kernel
instance (c : Dev nD) : ClosedOff (k0_off23 c 12#32) := ⟨![mLo (peer c 12), 0], off23_12_eq c⟩
theorem off23_14_eq (c : Dev nD) : k0_off23 c 14#32 = ![mLo (peer c 14), 0] := by revert c; decide +kernel
instance (c : Dev nD) : ClosedOff (k0_off23 c 14#32) := ⟨![mLo (peer c 14), 0], off23_14_eq c⟩
theorem dev1_eq (c : Dev nD) (h : k0_dev1 c < nD) : (⟨k0_dev1 c, h⟩ : Dev nD) = peer c 1 := Fin.ext ((by decide +kernel : ∀ d : Dev nD, k0_dev1 d = (peer d 1).val) c)
theorem dev2_eq (c : Dev nD) (h : k0_dev2 c < nD) : (⟨k0_dev2 c, h⟩ : Dev nD) = peer c 2 := Fin.ext ((by decide +kernel : ∀ d : Dev nD, k0_dev2 d = (peer d 2).val) c)
theorem dev3_eq (c : Dev nD) (h : k0_dev3 c < nD) : (⟨k0_dev3 c, h⟩ : Dev nD) = peer c 3 := Fin.ext ((by decide +kernel : ∀ d : Dev nD, k0_dev3 d = (peer d 3).val) c)
theorem dev4_eq (c : Dev nD) (h : k0_dev4 c < nD) : (⟨k0_dev4 c, h⟩ : Dev nD) = peer c 4 := Fin.ext ((by decide +kernel : ∀ d : Dev nD, k0_dev4 d = (peer d 4).val) c)
theorem dev5_eq (c : Dev nD) (h : k0_dev5 c < nD) : (⟨k0_dev5 c, h⟩ : Dev nD) = peer c 5 := Fin.ext ((by decide +kernel : ∀ d : Dev nD, k0_dev5 d = (peer d 5).val) c)
theorem dev6_eq (c : Dev nD) (h : k0_dev6 c < nD) : (⟨k0_dev6 c, h⟩ : Dev nD) = peer c 6 := Fin.ext ((by decide +kernel : ∀ d : Dev nD, k0_dev6 d = (peer d 6).val) c)
theorem dev7_eq (c : Dev nD) (h : k0_dev7 c < nD) : (⟨k0_dev7 c, h⟩ : Dev nD) = peer c 7 := Fin.ext ((by decide +kernel : ∀ d : Dev nD, k0_dev7 d = (peer d 7).val) c)
theorem dev8_eq (c : Dev nD) (h : k0_dev8 c < nD) : (⟨k0_dev8 c, h⟩ : Dev nD) = peer c 8 := Fin.ext ((by decide +kernel : ∀ d : Dev nD, k0_dev8 d = (peer d 8).val) c)
theorem dev9_eq (c : Dev nD) (h : k0_dev9 c < nD) : (⟨k0_dev9 c, h⟩ : Dev nD) = peer c 9 := Fin.ext ((by decide +kernel : ∀ d : Dev nD, k0_dev9 d = (peer d 9).val) c)
theorem dev10_eq (c : Dev nD) (h : k0_dev10 c < nD) : (⟨k0_dev10 c, h⟩ : Dev nD) = peer c 10 := Fin.ext ((by decide +kernel : ∀ d : Dev nD, k0_dev10 d = (peer d 10).val) c)
theorem dev11_eq (c : Dev nD) (h : k0_dev11 c < nD) : (⟨k0_dev11 c, h⟩ : Dev nD) = peer c 11 := Fin.ext ((by decide +kernel : ∀ d : Dev nD, k0_dev11 d = (peer d 11).val) c)
theorem dev12_eq (c : Dev nD) (h : k0_dev12 c < nD) : (⟨k0_dev12 c, h⟩ : Dev nD) = peer c 12 := Fin.ext ((by decide +kernel : ∀ d : Dev nD, k0_dev12 d = (peer d 12).val) c)
theorem dev13_eq (c : Dev nD) (h : k0_dev13 c < nD) : (⟨k0_dev13 c, h⟩ : Dev nD) = peer c 13 := Fin.ext ((by decide +kernel : ∀ d : Dev nD, k0_dev13 d = (peer d 13).val) c)
theorem dev14_eq (c : Dev nD) (h : k0_dev14 c < nD) : (⟨k0_dev14 c, h⟩ : Dev nD) = peer c 14 := Fin.ext ((by decide +kernel : ∀ d : Dev nD, k0_dev14 d = (peer d 14).val) c)
theorem dev15_eq (c : Dev nD) (h : k0_dev15 c < nD) : (⟨k0_dev15 c, h⟩ : Dev nD) = peer c 15 := Fin.ext ((by decide +kernel : ∀ d : Dev nD, k0_dev15 d = (peer d 15).val) c)
theorem dev16_eq (c : Dev nD) (h : k0_dev16 c < nD) : (⟨k0_dev16 c, h⟩ : Dev nD) = peer c 1 := Fin.ext ((by decide +kernel : ∀ d : Dev nD, k0_dev16 d = (peer d 1).val) c)
theorem dev17_eq (c : Dev nD) (h : k0_dev17 c < nD) : (⟨k0_dev17 c, h⟩ : Dev nD) = peer c 2 := Fin.ext ((by decide +kernel : ∀ d : Dev nD, k0_dev17 d = (peer d 2).val) c)
theorem dev18_eq (c : Dev nD) (h : k0_dev18 c < nD) : (⟨k0_dev18 c, h⟩ : Dev nD) = peer c 4 := Fin.ext ((by decide +kernel : ∀ d : Dev nD, k0_dev18 d = (peer d 4).val) c)
theorem dev19_eq (c : Dev nD) (h : k0_dev19 c < nD) : (⟨k0_dev19 c, h⟩ : Dev nD) = peer c 6 := Fin.ext ((by decide +kernel : ∀ d : Dev nD, k0_dev19 d = (peer d 6).val) c)
theorem dev20_eq (c : Dev nD) (h : k0_dev20 c < nD) : (⟨k0_dev20 c, h⟩ : Dev nD) = peer c 8 := Fin.ext ((by decide +kernel : ∀ d : Dev nD, k0_dev20 d = (peer d 8).val) c)
theorem dev21_eq (c : Dev nD) (h : k0_dev21 c < nD) : (⟨k0_dev21 c, h⟩ : Dev nD) = peer c 10 := Fin.ext ((by decide +kernel : ∀ d : Dev nD, k0_dev21 d = (peer d 10).val) c)
theorem dev22_eq (c : Dev nD) (h : k0_dev22 c < nD) : (⟨k0_dev22 c, h⟩ : Dev nD) = peer c 12 := Fin.ext ((by decide +kernel : ∀ d : Dev nD, k0_dev22 d = (peer d 12).val) c)
theorem dev23_eq (c : Dev nD) (h : k0_dev23 c < nD) : (⟨k0_dev23 c, h⟩ : Dev nD) = peer c 14 := Fin.ext ((by decide +kernel : ∀ d : Dev nD, k0_dev23 d = (peer d 14).val) c)
theorem dev24_eq (c : Dev nD) (h : k0_dev24 c < nD) : (⟨k0_dev24 c, h⟩ : Dev nD) = peer c 1 := Fin.ext ((by decide +kernel : ∀ d : Dev nD, k0_dev24 d = (peer d 1).val) c)
theorem dev25_eq (c : Dev nD) (h : k0_dev25 c < nD) : (⟨k0_dev25 c, h⟩ : Dev nD) = peer c 2 := Fin.ext ((by decide +kernel : ∀ d : Dev nD, k0_dev25 d = (peer d 2).val) c)
theorem dev26_eq (c : Dev nD) (h : k0_dev26 c < nD) : (⟨k0_dev26 c, h⟩ : Dev nD) = peer c 3 := Fin.ext ((by decide +kernel : ∀ d : Dev nD, k0_dev26 d = (peer d 3).val) c)
theorem dev27_eq (c : Dev nD) (h : k0_dev27 c < nD) : (⟨k0_dev27 c, h⟩ : Dev nD) = peer c 4 := Fin.ext ((by decide +kernel : ∀ d : Dev nD, k0_dev27 d = (peer d 4).val) c)
theorem dev28_eq (c : Dev nD) (h : k0_dev28 c < nD) : (⟨k0_dev28 c, h⟩ : Dev nD) = peer c 5 := Fin.ext ((by decide +kernel : ∀ d : Dev nD, k0_dev28 d = (peer d 5).val) c)
theorem dev29_eq (c : Dev nD) (h : k0_dev29 c < nD) : (⟨k0_dev29 c, h⟩ : Dev nD) = peer c 6 := Fin.ext ((by decide +kernel : ∀ d : Dev nD, k0_dev29 d = (peer d 6).val) c)
theorem dev30_eq (c : Dev nD) (h : k0_dev30 c < nD) : (⟨k0_dev30 c, h⟩ : Dev nD) = peer c 7 := Fin.ext ((by decide +kernel : ∀ d : Dev nD, k0_dev30 d = (peer d 7).val) c)
theorem dev31_eq (c : Dev nD) (h : k0_dev31 c < nD) : (⟨k0_dev31 c, h⟩ : Dev nD) = peer c 8 := Fin.ext ((by decide +kernel : ∀ d : Dev nD, k0_dev31 d = (peer d 8).val) c)
theorem dev32_eq (c : Dev nD) (h : k0_dev32 c < nD) : (⟨k0_dev32 c, h⟩ : Dev nD) = peer c 9 := Fin.ext ((by decide +kernel : ∀ d : Dev nD, k0_dev32 d = (peer d 9).val) c)
theorem dev33_eq (c : Dev nD) (h : k0_dev33 c < nD) : (⟨k0_dev33 c, h⟩ : Dev nD) = peer c 10 := Fin.ext ((by decide +kernel : ∀ d : Dev nD, k0_dev33 d = (peer d 10).val) c)
theorem dev34_eq (c : Dev nD) (h : k0_dev34 c < nD) : (⟨k0_dev34 c, h⟩ : Dev nD) = peer c 11 := Fin.ext ((by decide +kernel : ∀ d : Dev nD, k0_dev34 d = (peer d 11).val) c)
theorem dev35_eq (c : Dev nD) (h : k0_dev35 c < nD) : (⟨k0_dev35 c, h⟩ : Dev nD) = peer c 12 := Fin.ext ((by decide +kernel : ∀ d : Dev nD, k0_dev35 d = (peer d 12).val) c)
theorem dev36_eq (c : Dev nD) (h : k0_dev36 c < nD) : (⟨k0_dev36 c, h⟩ : Dev nD) = peer c 13 := Fin.ext ((by decide +kernel : ∀ d : Dev nD, k0_dev36 d = (peer d 13).val) c)
theorem dev37_eq (c : Dev nD) (h : k0_dev37 c < nD) : (⟨k0_dev37 c, h⟩ : Dev nD) = peer c 14 := Fin.ext ((by decide +kernel : ∀ d : Dev nD, k0_dev37 d = (peer d 14).val) c)
theorem dev38_eq (c : Dev nD) (h : k0_dev38 c < nD) : (⟨k0_dev38 c, h⟩ : Dev nD) = peer c 15 := Fin.ext ((by decide +kernel : ∀ d : Dev nD, k0_dev38 d = (peer d 15).val) c)
end Cert.KernelIdeal.Run
-- ==== Proof.Cut.lean ====
module

public import proofs.«01_k».proof.Proof.Geom
@[expose] public section
set_option maxRecDepth 65536
noncomputable section
/-! The kernel's body cut into eleven stretches, each ending where the next kind of communication begins. -/
namespace Cert.KernelIdeal.Run
open Cert.KernelIdeal Cert.KernelIdeal.Gen
open Idealize.ShloMosaic
variable {F : FTy → Type} [FloatOps F] [Named F]

set_option maxHeartbeats 8000000 in
cut_chain s := flat at 17, 120, 125, 160, 166, 194, 216, 219, 234, 264

end Cert.KernelIdeal.Run
-- ==== Proof.Cont.lean ====
module

public import proofs.«01_k».proof.Proof.Cut
public import Idealize.ShloMosaic.Lib.Pipeline.Value
@[expose] public section
set_option maxRecDepth 16384
noncomputable section
/-! What every buffer holds, as functions of the devices' inputs: the query block, each device's partial attention over its
own keys and values, the pieces exchanged, the reduced rows, and the gathered result. -/
namespace Cert.KernelIdeal.Run
open Cert.KernelIdeal Cert.KernelIdeal.Gen
open Idealize.ShloMosaic
open Idealize.ShloMosaic.TcCoe
variable {F : FTy → Type} [FloatOps F] [Named F]

/-- The inputs of all devices. -/
structure Ins (F : FTy → Type) where
  x : Dev nD → Vec F S1x256x1024 .f32
  wq : Dev nD → Vec F S1024x1024 .f32
  wo : Dev nD → Vec F S1024x1024 .f32
  k : Dev nD → Vec F S1x4096x8x128 .f32
  v : Dev nD → Vec F S1x4096x8x128 .f32

/-- The index of a matrix at row `a` and column `b`, both taken modulo the sizes. -/
def ix2 (n m : ℕ) [NeZero n] [NeZero m] (a b : ℕ) : (⟨2, ![n, m]⟩ : Shape).Idx :=
  fun i => match i with
    | ⟨0, _⟩ => (⟨a % n, Nat.mod_lt _ (Nat.pos_of_ne_zero (NeZero.ne n))⟩ : Fin n)
    | ⟨1, _⟩ => (⟨b % m, Nat.mod_lt _ (Nat.pos_of_ne_zero (NeZero.ne m))⟩ : Fin m)

section Ix
variable {n m : ℕ} [NeZero n] [NeZero m]
theorem ix2_0 (a b : ℕ) : ((ix2 n m a b) 0).val = a % n := rfl
theorem ix2_1 (a b : ℕ) : ((ix2 n m a b) 1).val = b % m := rfl
theorem lt0 (y : (⟨2, ![n, m]⟩ : Shape).Idx) : (y 0).val < n := (y 0).isLt
theorem lt1 (y : (⟨2, ![n, m]⟩ : Shape).Idx) : (y 1).val < m := (y 1).isLt
theorem ext2 {y z : (⟨2, ![n, m]⟩ : Shape).Idx} (h0 : (y 0).val = (z 0).val) (h1 : (y 1).val = (z 1).val) : y = z :=
  funext fun i => match i with
    | ⟨0, _⟩ => Fin.ext h0
    | ⟨1, _⟩ => Fin.ext h1
theorem ix2_eq {y : (⟨2, ![n, m]⟩ : Shape).Idx} {a b : ℕ} (h0 : a = (y 0).val) (h1 : b = (y 1).val) : ix2 n m a b = y := by
  subst h0 h1
  exact ext2 ((ix2_0 _ _).trans (Nat.mod_eq_of_lt (lt0 y))) ((ix2_1 _ _).trans (Nat.mod_eq_of_lt (lt1 y)))
end Ix

/-- Plane `h` of a device's keys (or values): the rows of head `h`. -/
def plane (f : Vec F S1x4096x8x128 .f32) (h : Fin 8) : Vec F S1x4096x128 .f32 :=
  fun i => f fun a => match a with
    | ⟨0, _⟩ => (⟨0, Nat.one_pos⟩ : Fin 1)
    | ⟨1, _⟩ => (i 1 : Fin 4096)
    | ⟨2, _⟩ => h
    | ⟨3, _⟩ => (i 2 : Fin 128)

/-- Head `h` of a device's keys (or values) in the narrow type. -/
def kbV (f : Vec F S1x4096x8x128 .f32) (h : Fin 8) : Vec F S4096x128 .bf16 := k0_pay3 (plane f h)

theorem slices_head (h : Fin 8) : S128x1024.Slices ![0, 128 * h.val] S128x128 := by fin_cases h <;> decide

/-- The exponentials of the scores of head `h`: `q` against the keys `k`. -/
def expV (q : Vec F S128x1024 .bf16) (k : Vec F S4096x128 .bf16) (h : Fin 8) : FVec F S128x4096 .f32 :=
  exp2 (matmul dot_S128x128_S4096x128_S128x4096_1_1_0_0_n_n none
    (extractStridedSlice S128x128 ![0, 128 * h.val] q (slices_head h)) k (constant S128x4096 .f32 0x00000000#32))

/-- The weighted sum of the values of head `h`. -/
def headOut (q : Vec F S128x1024 .bf16) (k v : Vec F S4096x128 .bf16) (h : Fin 8) : FVec F S128x128 .f32 :=
  shapeCast S128x128 (matmul dot_S128x4096_S4096x128_S128x128_1_0_0_1_n_n none (truncf .bf16 (expV q k h) bitsLt_bf16_f32) v
    (constant S128x128 .f32 0x00000000#32)) shapeCasts_S128x128_S128x128

/-- The sum of the weights of head `h`. -/
def headSum (q : Vec F S128x1024 .bf16) (k : Vec F S4096x128 .bf16) (h : Fin 8) : FVec F S128x1 .f32 :=
  shapeCast S128x1 (multiReduction .add [1] S128 (expV q k h) 0x00000000#32 reduces_S128x4096_S128 (.inl rfl) rfl) shapeCasts_S128_S128x1

/-- The eight sums of weights, side by side, then zeros. -/
def sumsV (q : Vec F S128x1024 .bf16) (k : Fin 8 → Vec F S4096x128 .bf16) : FVec F S128x128 .f32 :=
  k0_pay59 (headSum q (k 0) 0) (headSum q (k 1) 1) (headSum q (k 2) 2) (headSum q (k 3) 3) (headSum q (k 4) 4) (headSum q (k 5) 5)
    (headSum q (k 6) 6) (headSum q (k 7) 7)

variable (I : Ins F)

/-- The scaled queries of device `c`. -/
def qV (c : Dev nD) : Vec F S256x1024 .bf16 := k0_pay2 (I.x c) (I.wq c)
/-- Rows `lo` on of the scaled queries. -/
def qHalf (c : Dev nD) (lo : ℕ) : Vec F S128x1024 .bf16 := fun i => qV I c (ix2 256 1024 (lo + (i 0).val) (i 1).val)

/-- A half's partial attention: the eight heads side by side, then the sums. -/
def blkV (q : Vec F S128x1024 .bf16) (k v : Fin 8 → Vec F S4096x128 .bf16) : Vec F S128x1152 .f32 := fun y =>
  if (y 1).val < 1024 then
    headOut q (k ⟨(y 1).val / 128 % 8, Nat.mod_lt _ (by decide)⟩) (v ⟨(y 1).val / 128 % 8, Nat.mod_lt _ (by decide)⟩)
      ⟨(y 1).val / 128 % 8, Nat.mod_lt _ (by decide)⟩ (ix2 128 128 (y 0).val ((y 1).val % 128))
  else sumsV q k (ix2 128 128 (y 0).val ((y 1).val - 1024))

/-- Device `c`'s partial attention over its own keys and values, all 256 rows. -/
def accV (c : Dev nD) : Vec F S256x1152 .f32 := fun y =>
  blkV (qHalf I c ((y 0).val / 128 * 128)) (kbV (I.k c)) (kbV (I.v c)) (ix2 128 1152 ((y 0).val % 128) (y 1).val)

/-- Rows `lo` on, 128 of them. -/
def rowsA (lo : ℕ) (f : Vec F S256x1152 .f32) : Vec F S128x1152 .f32 := fun i => f (ix2 256 1152 (lo + (i 0).val) (i 1).val)
/-- Rows `lo` on, 16 of them. -/
def rowsB (lo : ℕ) (f : Vec F S256x1152 .f32) : Vec F S16x1152 .f32 := fun i => f (ix2 256 1152 (lo + (i 0).val) (i 1).val)

/-- What device `c` sends its first peer: the half it does not keep. -/
def firstV (c : Dev nD) : Vec F S128x1152 .bf16 := k0_pay60 (rowsA (sLo c) (accV I c))
/-- The kept half after the first exchange. -/
def keptV (c : Dev nD) : Vec F S128x1152 .f32 := k0_pay87 (rowsA (kLo c) (accV I c)) (firstV I (peer c 1))
/-- The accumulator after the first exchange, read on the kept rows. -/
def sumV (c : Dev nD) : Vec F S256x1152 .f32 := fun y => keptV I c (ix2 128 1152 ((y 0).val % 128) (y 1).val)
/-- What device `c` sends the peer `peer c m` in the second exchange. -/
def secondV (c : Dev nD) (m : ℕ) : Vec F S16x1152 .bf16 := k0_pay88 (rowsB (mLo (peer c m)) (sumV I c))

/-- The mask of the peer whose piece lies at row `r` of the staging and landing buffers. -/
def mRow (r : ℕ) : ℕ := if r < 128 then 1 else 2 * ((r - 128) / 16 + 1)
/-- The send buffer of device `c`, full. -/
def sendV (c : Dev nD) : Vec F S240x1152 .bf16 := fun y =>
  if (y 0).val < 128 then firstV I c (ix2 128 1152 (y 0).val (y 1).val)
  else secondV I c (mRow (y 0).val) (ix2 16 1152 (((y 0).val - 128) % 16) (y 1).val)
/-- The landing buffer of device `c`, full. -/
def landV (c : Dev nD) : Vec F S240x1152 .bf16 := fun y => sendV I (peer c (mRow (y 0).val)) y

/-- The sixteen rows of the result that device `c` computes, from its eight summands and the output weights. -/
def outRows (s : Vec F S16x1152 .f32) (r : Fin 7 → Vec F S16x1152 .bf16) (wo : Vec F S1024x1024 .f32) : Vec F S16x1024 .bf16 :=
  let a := k0_pay97 (k0_pay96 (k0_pay95 s (r 0) (r 1)) (r 2) (r 3)) (r 4) (r 5)
  k0_pay107 (k0_pay98 a (r 6)) (k0_pay99 a (r 6)) (k0_pay100 a (r 6)) (k0_pay101 a (r 6)) (k0_pay102 a (r 6)) (k0_pay103 a (r 6))
    (k0_pay104 a (r 6)) (k0_pay105 a (r 6)) (k0_pay106 a (r 6)) wo
/-- What device `c` computes of the result. -/
def partV (c : Dev nD) : Vec F S16x1024 .bf16 :=
  outRows (rowsB (mLo c) (sumV I c)) (fun i => secondV I (peer c (2 * (i.val + 1))) (2 * (i.val + 1))) (I.wo c)

/-- The device that computes row `r` of the result. -/
def owner (r : ℕ) : Dev nD := ⟨2 * (r % 128 / 16) + r / 128 % 2, by
  have h1 : r % 128 < 128 := Nat.mod_lt _ (by decide)
  have h2 : r / 128 % 2 < 2 := Nat.mod_lt _ (by decide)
  show _ < 16; omega⟩
/-- The gathered result, the same on every device. -/
def gathV : Vec F S256x1024 .bf16 := fun y => partV I (owner (y 0).val) (ix2 16 1024 ((y 0).val % 16) (y 1).val)
/-- The result block. -/
def resV : Vec F S1x256x1024 .f32 := k0_pay1 (gathV I)

/-! ## Arithmetic of peers and rows -/
theorem peer_peer (c : Dev nD) (m : ℕ) (hm : m < 16) : peer (peer c m) m = c := by
  revert c; interval_cases m <;> decide +kernel
theorem sLo_peer (c : Dev nD) : sLo (peer c 1) = kLo c := by revert c; decide +kernel
theorem kLo_cases (c : Dev nD) : (kLo c = 0 ∧ sLo c = 128) ∨ (kLo c = 128 ∧ sLo c = 0) := by revert c; decide +kernel
theorem mLo_bounds (c : Dev nD) : kLo c ≤ mLo c ∧ mLo c + 16 ≤ kLo c + 128 ∧ mLo c % 16 = 0 := by revert c; decide +kernel
theorem kLo_peer (c : Dev nD) (i : Fin 7) : kLo (peer c (2 * (i.val + 1))) = kLo c := by revert c i; decide +kernel
theorem owner_mLo (c : Dev nD) (j : ℕ) (hj : j < 16) : owner (mLo c + j) = c := by
  revert c; interval_cases j <;> decide +kernel
theorem mLo_owner (r : ℕ) (hr : r < 256) : mLo (owner r) = r / 16 * 16 := by
  exact (by decide +kernel : ∀ r : Fin 256, mLo (owner r.val) = r.val / 16 * 16) ⟨r, hr⟩

end Cert.KernelIdeal.Run
-- ==== Proof.Sched.lean ====
module

public import proofs.«01_k».proof.Proof.Cont
@[expose] public section
set_option maxRecDepth 16384
noncomputable section
/-! # The protocol

Sixteen devices. Device `c` talks to `peer c m`, the device whose number differs from its own in the bits of `m`; for every
`m` this pairs the devices off, so whatever `c` does to `peer c m`, `peer c m` does to `c`.

* The barrier cell of `d`: one unit from each of the fifteen others, the duty named by `m` paid by `peer d m`. With it
  `peer d m` hands `d` the rows of its landing buffer that `d` will fill (for `m = 1` and even `m`; none otherwise) and the
  sixteen rows of its gather buffer that `d` computes. Every device signals all its peers first, and waits for its own
  fifteen units only before its first copy.
* Send cell `i` (`i = 0` for the peer at mask 1, `i = 1..7` for the peers at masks `2 i`): the rows of the send buffer come
  back to their owner when the copy has left. Receive cell `i` of `d`: the rows of `d`'s landing buffer, now holding what
  the peer staged.
* Gather-send cell `j` (`j = 0..14`, peer at mask `j + 1`): a share of the device's own sixteen result rows comes back.
  Gather-receive cell `j` of `d`: the sixteen rows of `d`'s gather buffer that `peer d (j + 1)` computes.
* The eight cells of the key and value copies serve local copies only.

A device waits on cells in the order: local copies (level 0, owing everything but the barrier), barrier (level 1, owing all
receives), send and receive cell 0 (levels 0 and 2, owing the later receives), send and receive cells 1..7 (levels 0 and 3,
owing the gather receives), gather cells (levels 0 and 4, owing nothing). -/
namespace Cert.KernelIdeal.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ UU ℕ

/-! ## Rows -/
/-- The elements of a matrix whose row lies in `[lo, hi)`. -/
def rowSet {n m : ℕ} (lo hi : ℕ) : Finset (⟨2, ![n, m]⟩ : Shape).Idx :=
  Finset.univ.filter fun y => lo ≤ (y 0).val ∧ (y 0).val < hi
theorem mem_rowSet {n m lo hi : ℕ} {y : (⟨2, ![n, m]⟩ : Shape).Idx} : y ∈ rowSet lo hi ↔ lo ≤ (y 0).val ∧ (y 0).val < hi := by
  simp [rowSet]
theorem rect_rows {n m k lo : ℕ} {off size : Fin 2 → ℕ} (h : off = ![lo, 0]) (hs : size = ![k, m])
    (inb : ∀ a, off a + size a ≤ (⟨2, ![n, m]⟩ : Shape).size a) :
    (Rect.unit (s := ⟨2, ![n, m]⟩) off size inb).set = rowSet lo (lo + k) := by
  subst h hs
  ext y
  rw [Rect.mem_set_unit, mem_rowSet]
  have h1 := (y 1).isLt
  constructor
  · intro h; exact h 0
  · intro h a
    match a with
    | ⟨0, _⟩ => exact h
    | ⟨1, _⟩ => exact ⟨Nat.zero_le _, by show (y 1).val < 0 + m; rw [Nat.zero_add]; exact h1⟩
theorem disj_rows {n m a b c d : ℕ} (h : b ≤ c ∨ d ≤ a) : Disjoint (rowSet (n := n) (m := m) a b) (rowSet c d) := by
  rw [Finset.disjoint_left]; intro y h1 h2
  rw [mem_rowSet] at h1 h2; omega
theorem union_rows {n m a b c : ℕ} (h : a ≤ b) (h' : b ≤ c) : rowSet (n := n) (m := m) a c = rowSet a b ∪ rowSet b c := by
  ext y; rw [Finset.mem_union, mem_rowSet, mem_rowSet, mem_rowSet]; omega
theorem rows_all {n m : ℕ} : rowSet (n := n) (m := m) 0 n = Finset.univ := by
  ext y; rw [mem_rowSet]; exact ⟨fun _ => Finset.mem_univ _, fun _ => ⟨Nat.zero_le _, (y 0).isLt⟩⟩

/-- The rows of the send and landing buffers that serve cell `i`. -/
def pA (i : ℕ) : ℕ := if i = 0 then 0 else 112 + 16 * i
def pB (i : ℕ) : ℕ := 128 + 16 * i
/-- The rows of the landing buffer that the peer at mask `m` fills. -/
def lA (m : ℕ) : ℕ := if m = 1 then 0 else if m % 2 = 0 then 112 + 8 * m else 0
def lB (m : ℕ) : ℕ := if m = 1 then 128 else if m % 2 = 0 then 128 + 8 * m else 0

abbrev ssPts (c : Dev nD) (a b : ℕ) (f : Vec F S240x1152 .bf16) : sProp 𝕄 :=
  ssM.view.loc (c : Thread nD τ) ↦[rowSet (n := 240) (m := 1152) a b]{fullShare} f
abbrev rsPts (c : Dev nD) (a b : ℕ) (f : Vec F S240x1152 .bf16) : sProp 𝕄 :=
  rsM.view.loc (c : Thread nD τ) ↦[rowSet (n := 240) (m := 1152) a b]{fullShare} f
abbrev gbPts (c : Dev nD) (a b : ℕ) (q : PosShare TreeShare) (f : Vec F S256x1024 .bf16) : sProp 𝕄 :=
  gbM.view.loc (c : Thread nD τ) ↦[rowSet (n := 256) (m := 1024) a b]{q} f

/-! ## Cells -/
abbrev barS : Sem sig := (SemArray.scalar (sig.barrier 0 rfl) : Sems sig S_).sem

/-- The cells of the protocol: 8 send, 8 receive, 15 gather-send, 15 gather-receive, the barrier. -/
def csem (k : Fin 47) : SemLoc sig :=
  if h : k.val < 16 then .dma ⟨4 + k.val, by show _ < 58; omega⟩
  else if h : k.val < 46 then .dma ⟨12 + k.val, by show _ < 58; omega⟩
  else .reg barS
abbrev kcell (ck : Dev nD × Fin 47) : GSem nD τ sig := ((ck.1 : Thread nD τ), csem ck.2)

/-- The units a copy completing on DMA semaphore `q` brings. -/
def amtQ (q : ℕ) : ℕ :=
  if q = 4 ∨ q = 12 then (ssM.slice (Rect.unit ![0, 0] S128x1152.size inb_S240x1152_S128x1152_0_0) (fun _ => rfl)).view.dmaCredit
  else if q < 20 then (ssM.slice (Rect.unit ![128, 0] S16x1152.size inb_S240x1152_S16x1152_128_0) (fun _ => rfl)).view.dmaCredit
  else (gbM.slice (Rect.unit ![0, 0] S16x1024.size (by decide)) (fun _ => rfl)).view.dmaCredit
theorem amtQ_pos (q : ℕ) : 0 < amtQ q := by
  unfold amtQ; split
  · exact View.dmaCredit_pos _ (by decide)
  · split <;> exact View.dmaCredit_pos _ (by decide)

def amtS : SemLoc sig → ℕ
  | .reg _ => 1
  | .dma q => amtQ q.val

section
variable (I : Ins F)

/-- What `peer d m` hands `d` with its barrier signal. -/
def barPay (d : Dev nD) (m : ℕ) : sProp 𝕄 :=
  iprop((∃ f, rsPts (peer d m) (lA m) (lB m) f) ∗ (∃ f, gbPts (peer d m) (mLo d) (mLo d + 16) fullShare f))
/-- What a copy completing on DMA semaphore `q` of device `c` hands over. -/
def dmaPay (c : Dev nD) (q : ℕ) : sProp 𝕄 :=
  if q < 12 then ssPts c (pA (q - 4)) (pB (q - 4)) (sendV I c)
  else if q < 20 then rsPts c (pA (q - 12)) (pB (q - 12)) (landV I c)
  else if q < 43 then gbPts c (mLo c) (mLo c + 16) (Transfers.shareTokN fullShare (q - 28)) (gathV I)
  else gbPts c (mLo (peer c (q - 42))) (mLo (peer c (q - 42)) + 16) fullShare (gathV I)
def payS (c : Dev nD) : SemLoc sig → ℕ → sProp 𝕄
  | .reg _, m => barPay c m
  | .dma q, _ => dmaPay I c q.val

def dutS : SemLoc sig → Finset ℕ
  | .reg s => if s = barS then Finset.Icc 1 15 else ∅
  | .dma q => if 4 ≤ q.val ∧ (q.val < 20 ∨ 28 ≤ q.val) then {0} else ∅

instance barPay_storable (d : Dev nD) (m : ℕ) : BI.Storable (upEmb : UEmb _ 𝕄) (barPay (F := F) d m) := by unfold barPay; infer_instance
instance dmaPay_storable (c : Dev nD) (q : ℕ) : BI.Storable (upEmb : UEmb _ 𝕄) (dmaPay I c q) := by
  unfold dmaPay; (repeat' split) <;> infer_instance

def Rd : Rounds.Schedule (GSem nD τ sig) ℕ 𝕄 where
  duties g r := if r = 0 ∧ g.1.2 = .tc then dutS g.2 else ∅
  unitless _ := False
  amount g _ _ := amtS g.2
  payload g _ d := payS I g.1.1 g.2 d
  amount_pos g _ _ _ := by
    cases h : g.2 with
    | reg s => exact Nat.one_pos
    | dma q => exact amtQ_pos _

instance Rd_storable (g : GSem nD τ sig) (r : ℕ) (d : ℕ) : BI.Storable (upEmb : UEmb _ 𝕄) ((Rd I).payload g r d) := by
  show BI.Storable upEmb (payS I g.1.1 g.2 d)
  cases g.2 with
  | reg s => exact barPay_storable _ _
  | dma q => exact dmaPay_storable I _ _

theorem Rd_duties (c : Dev nD) (sm : SemLoc sig) : (Rd I).duties ((c : Thread nD τ), sm) 0 = dutS sm := by
  have h : (0 : ℕ) = 0 ∧ (c : Thread nD τ).2 = .tc := ⟨rfl, rfl⟩
  show (if (0 : ℕ) = 0 ∧ (c : Thread nD τ).2 = .tc then dutS sm else ∅) = dutS sm
  rw [if_pos h]
theorem Rd_later (g : GSem nD τ sig) : ∀ r, 1 ≤ r → (Rd I).duties g r = ∅ := fun r hr => by
  unfold Rd; exact if_neg fun h => by omega
theorem Rd_expect_dma (c : Dev nD) (q : DmaSem sig) (h : dutS (.dma q) = {0}) : (Rd I).expect ((c : Thread nD τ), .dma q) 0 = amtQ q.val := by
  unfold Schedule.expect Schedule.amountOf; rw [Rd_duties, h, Finset.sum_singleton]; rfl
theorem Rd_expect_bar (c : Dev nD) : (Rd I).expect ((c : Thread nD τ), .reg barS) 0 = 15 := by
  unfold Schedule.expect Schedule.amountOf; rw [Rd_duties]
  show ∑ d ∈ (if barS = barS then Finset.Icc 1 15 else ∅), 1 = 15
  rw [if_pos rfl]; rfl
end

/-! ## What a device owes, in the order it pays -/
/-- The `i`-th payment to another device: the mask, the cell, the units. -/
def payAt (i : ℕ) : ℕ × Fin 47 × ℕ :=
  if i < 15 then (i + 1, 46, 1)
  else if i = 15 then (1, 8, amtQ 12)
  else if i < 23 then (2 * (i - 15), Fin.ofNat 47 (8 + (i - 15)), amtQ 13)
  else (i - 22, Fin.ofNat 47 (31 + (i - 23)), amtQ 43)
def payT (c : Dev nD) (i : ℕ) : CellTallies nD τ sig Unit :=
  tallyAt (kcell (peer c (payAt i).1, (payAt i).2.1)) () (payAt i).2.2
/-- What device `c` still owes after `j` payments. -/
def oweT (c : Dev nD) (j : ℕ) : CellTallies nD τ sig Unit := ∑ i ∈ Finset.Ico j 38, payT c i
theorem oweT_step (c : Dev nD) (j : ℕ) (hj : j < 38) : oweT c j = oweT c (j + 1) + payT c j := by
  unfold oweT; rw [Finset.sum_eq_sum_Ico_succ_bot hj, add_comm]
theorem oweT_end (c : Dev nD) : oweT c 38 = 0 := by unfold oweT; rw [Finset.Ico_self, Finset.sum_empty]
/-- Device `c` after `j` payments, whatever waits it has on record. -/
def owesE (c : Dev nD) (j : ℕ) : sProp 𝕄 := iprop(∃ W, owes (c : Thread nD τ) (oweT c j) W)

/-! ## Levels -/
def lvS : SemLoc sig → ℕ
  | .reg _ => 1
  | .dma q => if q.val = 12 then 2 else if 13 ≤ q.val ∧ q.val < 20 then 3 else if 43 ≤ q.val then 4 else 0
def L (g : GSem nD τ sig) : Finset Unit := if g.1.2 = .tc then {()} else ∅
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl

theorem oweT_pos {c : Dev nD} {j : ℕ} {g : GSem nD τ sig} {u : Unit} (h : 0 < oweT c j g u) :
    ∃ i, j ≤ i ∧ i < 38 ∧ g = kcell (peer c (payAt i).1, (payAt i).2.1) := by
  unfold oweT at h
  rw [Finset.sum_apply, Finsupp.finset_sum_apply] at h
  obtain ⟨i, hi, hp⟩ := Finset.exists_ne_zero_of_sum_ne_zero (Nat.pos_iff_ne_zero.mp h)
  rw [Finset.mem_Ico] at hi
  refine ⟨i, hi.1, hi.2, ?_⟩
  by_contra hn
  exact hp (by unfold payT; rw [tallyAt_apply, if_neg (fun h => hn h.1)])

theorem mayWait_at (c : Dev nD) (sm : SemLoc sig) (j : ℕ) (h : ∀ i, i < 38 → j ≤ i → lvS sm < lvS (csem (payAt i).2.1)) :
    (levAts L lv : sProp 𝕄) ⊢ MayWait (c : Thread nD τ) sm () (oweT c j) :=
  MayOwe.of_cut (L := L) (lev := lv) (lvS sm) (fun p hp => by rw [Finset.mem_singleton.mp hp, L_tc]; exact Finset.mem_singleton_self _)
    (fun g u hg => by obtain ⟨i, _, _, rfl⟩ := oweT_pos hg; exact Finset.mem_singleton_self _)
    (fun p hp => by rw [Finset.mem_singleton.mp hp]; exact Nat.le_refl _)
    (fun g u hg => by obtain ⟨i, h1, h2, rfl⟩ := oweT_pos hg; exact h i h2 h1)

end Cert.KernelIdeal.Run
-- ==== Proof.Steps.lean ====
module

public import proofs.«01_k».proof.Proof.Sched
@[expose] public section
set_option maxRecDepth 16384
noncomputable section
/-! # One rule per step that meets another device -/
namespace Cert.KernelIdeal.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ UU ℕ

variable (I : Ins F)

/-- Every cell's invariant, and that every cell is at round 0. -/
def records (K : Dev nD × Fin 47 → ℕ) : sProp 𝕄 :=
  iprop((bigSep Finset.univ fun ck : Dev nD × Fin 47 => cellInv ER (Rd I) (K ck) (kcell ck))
    ∗ bigSep Finset.univ fun ck : Dev nD × Fin 47 => reached ER (kcell ck) 0)
instance records_persistent (K : Dev nD × Fin 47 → ℕ) : BI.Persistent (records I K) := by unfold records; infer_instance
theorem inv_of (K : Dev nD × Fin 47 → ℕ) (ck : Dev nD × Fin 47) : records I K ⊢ cellInv ER (Rd I) (K ck) (kcell ck) := by
  unfold records; iintro ⟨HI, -⟩
  iapply (show (bigSep Finset.univ fun ck : Dev nD × Fin 47 => (cellInv ER (Rd I) (K ck) (kcell ck) : sProp 𝕄)) ⊢ cellInv ER (Rd I) (K ck) (kcell ck) from
    bigSep_elim (Finset.mem_univ ck)); iexact HI
theorem reached_of (K : Dev nD × Fin 47 → ℕ) (ck : Dev nD × Fin 47) : records I K ⊢ reached ER (kcell ck) 0 := by
  unfold records; iintro ⟨-, HR⟩
  iapply (show (bigSep Finset.univ fun ck : Dev nD × Fin 47 => (reached ER (kcell ck) 0 : sProp 𝕄)) ⊢ reached ER (kcell ck) 0 from
    bigSep_elim (Finset.mem_univ ck)); iexact HR

/-- A family over `[j, n)`: its first member and the rest. -/
theorem peel {Φ : ℕ → sProp 𝕄} (j n : ℕ) (h : j < n) : bigSep (Finset.Ico j n) Φ ⊢ iprop(Φ j ∗ bigSep (Finset.Ico (j + 1) n) Φ) := by
  have hs : Finset.Ico j n = insert j (Finset.Ico (j + 1) n) := by ext x; simp only [Finset.mem_Ico, Finset.mem_insert]; omega
  rw [hs, bigSep_insert (by simp)]
  exact BI.Entails.refl _
/-- A family over `[0, j)` and one more member. -/
theorem push {Φ : ℕ → sProp 𝕄} (i j : ℕ) (h : i ≤ j) : iprop(bigSep (Finset.Ico i j) Φ ∗ Φ j) ⊢ bigSep (Finset.Ico i (j + 1)) Φ := by
  have hs : Finset.Ico i (j + 1) = insert j (Finset.Ico i j) := by ext x; simp only [Finset.mem_Ico, Finset.mem_insert]; omega
  rw [hs, bigSep_insert (by simp)]
  show iprop(bigSep (Finset.Ico i j) Φ ∗ Φ j) ⊢ iprop(Φ j ∗ bigSep (Finset.Ico i j) Φ)
  iintro ⟨H1, H2⟩; isplitl [H2] <;> iassumption
theorem none_yet {Φ : ℕ → sProp 𝕄} (i : ℕ) : (iprop(emp) : sProp 𝕄) ⊢ bigSep (Finset.Ico i i) Φ := by
  rw [Finset.Ico_self, bigSep_empty]
  exact BI.Entails.refl _

abbrev tokAt (ck : Dev nD × Fin 47) (d : ℕ) : sProp 𝕄 := dutyTok ER (kcell ck) 0 d
abbrev posAt (ck : Dev nD × Fin 47) : sProp 𝕄 := atPos ER (kcell ck) 0 ∅ 0
abbrev credAt (ck : Dev nD × Fin 47) (n : ℕ) : sProp 𝕄 := cred (tallyAt (kcell ck) () n)
abbrev zeroAt (ck : Dev nD × Fin 47) : sProp 𝕄 := semVal (kcell ck) 0
abbrev WP (c : Dev nD) {α : Type} (k : Prog (TpuEff nD τ sig (Elt F) Λ₀ .tc) α) (Q : α → sProp 𝕄) : sProp 𝕄 :=
  wp frame (wpE (defs₀ (F := F)) 𝒱₀ (c : Thread nD τ) none) Set.univ k Q

/-- One barrier signal. -/
theorem sig_step (K : Dev nD × Fin 47 → ℕ) (c : Dev nD) (j : ℕ) (hj : j < 15) {dv : Dev nD} (hd : dv = peer c (j + 1))
    {sem : Sem sig} (hs : sem = barS) {α : Type} {Q : α → sProp 𝕄} {k : PUnit → Prog (TpuEff nD τ sig (Elt F) Λ₀ .tc) α} :
    iprop(records I K ∗ owesE c j ∗ tokAt (peer c (j + 1), 46) (j + 1) ∗ barPay (peer c (j + 1)) (j + 1) ∗ (owesE c (j + 1) -∗ WP c (k ⟨⟩) Q))
      ⊢ WP c (semSignalWord dv sem 1#32 >>= k) Q := by
  subst hd hs
  have hp : payAt j = (j + 1, 46, 1) := if_pos hj
  unfold owesE
  show _ ⊢ WP c (.op (.semSignal (peer c (j + 1) : Thread nD τ) barS ((1 : ℕ) : ℤ)) k) Q
  iintro ⟨#HR, ⟨%W, HO⟩, Ht, Hp, Hk⟩
  iapply (Rounds.wp_signal 𝒱₀ ER (Rd I) (c : Thread nD τ) none (dst := (peer c (j + 1) : Thread nD τ)) (κ := K (peer c (j + 1), 46))
      (r := 0) (d := j + 1) (k' := 1) (by rw [Rd_duties]; show j + 1 ∈ (if barS = barS then Finset.Icc 1 15 else ∅); rw [if_pos rfl, Finset.mem_Icc]; omega)
      rfl () (O₀ := oweT c j) (oweT c (j + 1)) (by rw [oweT_step c j (by omega)]; unfold payT; rw [hp]; rfl) (W := W)) $$ [HO Ht Hp]
  · isplitr; · iapply (inv_of I K (peer c (j + 1), 46)); iexact HR
    isplitl [HO]; · iexact HO
    isplitl [Ht]; · iexact Ht
    isplitl [Hp]
    · iapply (Entails.of_eq (show barPay (F := F) (peer c (j + 1)) (j + 1) = (Rd I).payload ((peer c (j + 1) : Thread nD τ), .reg barS) 0 (j + 1) from rfl)); iexact Hp
    iapply (reached_of I K (peer c (j + 1), 46)); iexact HR
  iintro HO
  iapply Hk
  iexists W; iexact HO

/-- One copy to another device. -/
theorem send_step (K : Dev nD × Fin 47 → ℕ) (c : Dev nD) (j m : ℕ) (ks kr : Fin 47) (N : ℕ) (hj : j < 38) (hp : payAt j = (m, kr, N))
    (hds : dutS (csem ks) = {0}) (hdr : dutS (csem kr) = {0}) (hNs : amtS (csem ks) = N) (hNr : amtS (csem kr) = N)
    {sp sp' : Space} {s : Shape} {e : EltTy} {src : Memref sig .tc sp s e} {dst : Memref sig .tc sp' s e} {dv : Dev nD} (hdv : dv = peer c m)
    {qs qr : DmaSem sig} (hqs : SemLoc.dma qs = csem ks) (hqr : SemLoc.dma qr = csem kr) (hN : dst.view.amount (.dma qr) = N)
    {hsc : dst.view.ref.isScScratch = false} {hsrc : src.view.WordExact} {hdst : dst.view.WordExact}
    {hsem : DmaTarget.Typed sp (.dma qr) (.remote (dv : Thread nD τ) dst (.dma qs) hsc)}
    (q : PosShare TreeShare) (fs : Buf (Elt F) (src.view.loc (c : Thread nD τ))) (fd : Buf (Elt F) (dst.view.loc (peer c m : Thread nD τ)))
    (hpay₁ : (src.view.loc (c : Thread nD τ) ↦[src.view.set]{q} fs) ⊢ payS I c (csem ks) 0)
    (hpay₂ : (dst.view.loc (peer c m : Thread nD τ) ↦[dst.view.set]{fullShare} dst.view.write (Elt F) fd (src.view.read (Elt F) fs) Finset.univ)
      ⊢ payS I (peer c m) (csem kr) 0)
    {α : Type} {Q : α → sProp 𝕄} {k : PUnit → Prog (TpuEff nD τ sig (Elt F) Λ₀ .tc) α} :
    iprop(records I K ∗ (src.view.loc (c : Thread nD τ) ↦[src.view.set]{q} fs) ∗ (dst.view.loc (peer c m : Thread nD τ) ↦[dst.view.set]{fullShare} fd)
        ∗ owesE c j ∗ tokAt (c, ks) 0 ∗ tokAt (peer c m, kr) 0 ∗ ((credAt (c, ks) N ∗ owesE c (j + 1)) -∗ WP c (k ⟨⟩) Q))
      ⊢ WP c (Prog.lift (.enqueueDma src (.remote (dv : Thread nD τ) dst (.dma qs) hsc) (.dma qr) hsrc hdst hsem) >>= k) Q := by
  subst hdv
  unfold owesE
  show _ ⊢ WP c (.op (.enqueueDma src (.remote (peer c m : Thread nD τ) dst (.dma qs) hsc) (.dma qr) hsrc hdst hsem) k) Q
  iintro ⟨#HR, Hs, Hd, ⟨%W, HO⟩, Hts, Htr, Hk⟩
  iapply (Rounds.wp_send_pointsTo 𝒱₀ ER (Rd I) (c : Thread nD τ) none (κ₁ := K (c, ks)) (κ₂ := K (peer c m, kr)) (c' := (peer c m : Thread nD τ))
      (r₁ := 0) (r₂ := 0) (d₁ := 0) (d₂ := 0) (q := q) (fs := fs) (fd := fd) (Q := Q) (k := k) (hsem := hsem) (hsrc := hsrc) (hdst := hdst)
      (by rw [hqs, Rd_duties, hds]; exact Finset.mem_singleton_self _) (by rw [hqr, Rd_duties, hdr]; exact Finset.mem_singleton_self _)
      () () N hN (by rw [hqs]; exact hNs) (by rw [hqr]; exact hNr) (O₀ := oweT c j) (oweT c (j + 1))
      (by rw [oweT_step c j hj]; unfold payT; rw [hp, hqr]) (W := W)
      (by rw [hqs]; exact hpay₁) (by rw [hqr]; exact hpay₂)) $$ [Hs Hd HO Hts Htr]
  · rw [hqs, hqr]
    isplitr; · iapply (inv_of I K (c, ks)); iexact HR
    isplitr; · iapply (inv_of I K (peer c m, kr)); iexact HR
    isplitl [Hs]; · iexact Hs
    isplitl [Hd]; · iexact Hd
    isplitl [HO]; · iexact HO
    isplitl [Hts]; · iexact Hts
    isplitr; · iapply (reached_of I K (c, ks)); iexact HR
    isplitl [Htr]; · iexact Htr
    iapply (reached_of I K (peer c m, kr)); iexact HR
  rw [hqs]
  iintro ⟨Hc, HO⟩
  iapply Hk
  isplitl [Hc]; · iexact Hc
  iexists W; iexact HO

/-- One wait for a copy. -/
theorem wait_step (K : Dev nD × Fin 47 → ℕ) (c : Dev nD) (j : ℕ) (k' : Fin 47) (N : ℕ)
    (hw : ∀ i, i < 38 → j ≤ i → lvS (csem k') < lvS (csem (payAt i).2.1))
    (hd : dutS (csem k') = {0}) (hN' : amtS (csem k') = N)
    {sp sp' : Space} {s s' : Shape} {e e' : EltTy} {src : Memref sig .tc sp' s' e'} {dst : Memref sig .tc sp s e}
    {q : DmaSem sig} (hq : SemLoc.dma q = csem k') (hN : dst.view.dmaCredit = N)
    {hsrc : src.view.WordExact} {hdst : dst.view.WordExact}
    {α : Type} {Q : α → sProp 𝕄} {k : PUnit → Prog (TpuEff nD τ sig (Elt F) Λ₀ .tc) α} :
    iprop(records I K ∗ levAts L lv ∗ credAt (c, k') N ∗ owesE c j ∗ posAt (c, k')
        ∗ ((owesE c j ∗ zeroAt (c, k') ∗ payS I c (csem k') 0) -∗ WP c (k ⟨⟩) Q))
      ⊢ WP c (Prog.lift (.waitDma2 q src dst hsrc hdst) >>= k) Q := by
  unfold owesE
  show _ ⊢ WP c (.op (.waitDma2 q src dst hsrc hdst) k) Q
  iintro ⟨#HR, #HL, Hc, ⟨%W, HO⟩, Hp, Hk⟩
  iapply (Rounds.wp_wait_rest_token 𝒱₀ ER (Rd I) (c : Thread nD τ) none (κ := K (c, k'))
      (wpE_waitDma2_eq 𝒱₀ (c : Thread nD τ) none Set.univ) (Set.mem_univ _) () (O := oweT c j) (W := W) (R := 0) (m := 0) (T := ∅)
      (by rw [Nat.zero_add, hN, ← hN', hq]; unfold Schedule.expect Schedule.amountOf; rw [Rd_duties, hd, Finset.sum_singleton]; rfl)) $$ [Hc HO Hp]
  · rw [hq, hN]
    isplitr; · iapply (inv_of I K (c, k')); iexact HR
    isplitl [Hc]; · iexact Hc
    isplitl [HO]; · iexact HO
    isplitr; · iapply (mayWait_at c (csem k') j hw); iexact HL
    iexact Hp
  rw [hq, Rd_duties, hd, Finset.sdiff_empty, bigSep_singleton]
  iintro ⟨HO, Hp, -, Hpay⟩
  imod (Rounds.cell_close ER (Rd I) (Set.mem_univ (K (c, k'))) (fun h => h) (R := 0 + 1) (Rd_later I (kcell (c, k')))) $$ [Hp] with Hz
  · isplitr; · iapply (inv_of I K (c, k')); iexact HR
    iexact Hp
  iapply Hk
  isplitl [HO]; · iexists _; iexact HO
  isplitl [Hz]; · iexact Hz
  iapply (Entails.of_eq (show (Rd I).payload (kcell (c, k')) 0 0 = payS I c (csem k') 0 from rfl)); iexact Hpay

/-- The wait on the barrier. -/
theorem bar_step (K : Dev nD × Fin 47 → ℕ) (c : Dev nD) {sem : Sem sig} (hs : sem = barS)
    {α : Type} {Q : α → sProp 𝕄} {k : PUnit → Prog (TpuEff nD τ sig (Elt F) Λ₀ .tc) α} :
    iprop(records I K ∗ levAts L lv ∗ credAt (c, 46) 15 ∗ owesE c 15 ∗ posAt (c, 46)
        ∗ ((owesE c 15 ∗ zeroAt (c, 46) ∗ bigSep (Finset.Ico 1 16) (barPay (F := F) c)) -∗ WP c (k ⟨⟩) Q))
      ⊢ WP c (semWaitWord sem 15#32 >>= k) Q := by
  subst hs
  unfold owesE
  show _ ⊢ WP c (.op (.semWait barS ((15 : ℕ) : ℤ)) k) Q
  iintro ⟨#HR, #HL, Hc, ⟨%W, HO⟩, Hp, Hk⟩
  iapply (Rounds.wp_wait_rest_token 𝒱₀ ER (Rd I) (c : Thread nD τ) none (κ := K (c, 46)) (k' := 15)
      (wpE_semWait_eq 𝒱₀ (c : Thread nD τ) none Set.univ) (Set.mem_univ _) () (O := oweT c 15) (W := W) (R := 0) (m := 0) (T := ∅)
      (by rw [Nat.zero_add, Rd_expect_bar])) $$ [Hc HO Hp]
  · isplitr; · iapply (inv_of I K (c, 46)); iexact HR
    isplitl [Hc]; · iexact Hc
    isplitl [HO]; · iexact HO
    isplitr; · iapply (mayWait_at c (.reg barS) 15 (by decide)); iexact HL
    iexact Hp
  rw [Rd_duties, Finset.sdiff_empty]
  iintro ⟨HO, Hp, -, Hpay⟩
  imod (Rounds.cell_close ER (Rd I) (Set.mem_univ (K (c, 46))) (fun h => h) (R := 0 + 1) (Rd_later I (kcell (c, 46)))) $$ [Hp] with Hz
  · isplitr; · iapply (inv_of I K (c, 46)); iexact HR
    iexact Hp
  iapply Hk
  isplitl [HO]; · iexists _; iexact HO
  isplitl [Hz]; · iexact Hz
  iapply (Entails.of_eq (show (bigSep (dutS (.reg barS)) (fun d => (Rd I).payload (kcell (c, 46)) 0 d) : sProp 𝕄) = bigSep (Finset.Ico 1 16) (barPay (F := F) c) from rfl))
  iexact Hpay

end Cert.KernelIdeal.Run
-- ==== Proof.Rows.lean ====
module

public import proofs.«01_k».proof.Proof.Steps
@[expose] public section
set_option maxRecDepth 16384
noncomputable section
/-! # Loads, stores and copies of whole rows -/
namespace Cert.KernelIdeal.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ UU ℕ

/-! ## The placement of a block of rows -/
section
variable {n m k lo : ℕ} {off : Fin 2 → ℕ} [NeZero n] [NeZero m] [NeZero k]

theorem emb_rows (h : off = ![lo, 0]) (inb : ∀ a, off a + (⟨2, ![k, m]⟩ : Shape).size a ≤ (⟨2, ![n, m]⟩ : Shape).size a)
    (x : (⟨2, ![k, m]⟩ : Shape).Idx) :
    (Rect.unit (s := ⟨2, ![n, m]⟩) off (⟨2, ![k, m]⟩ : Shape).size inb).emb x = ix2 n m (lo + (x 0).val) (x 1).val := by
  subst h
  have h0 : lo + k ≤ n := inb 0
  have hx := lt0 x
  have hx1 := lt1 x
  refine ext2 ?_ ?_
  · rw [Rect.emb_apply, ix2_0]
    show lo + 1 * (x 0).val = _
    rw [Nat.mod_eq_of_lt (by omega)]; omega
  · rw [Rect.emb_apply, ix2_1]
    show 0 + 1 * (x 1).val = _
    rw [Nat.mod_eq_of_lt hx1]; omega

theorem emb_rows_ex (h : off = ![lo, 0]) (inb : ∀ a, off a + (⟨2, ![k, m]⟩ : Shape).size a ≤ (⟨2, ![n, m]⟩ : Shape).size a)
    {y : (⟨2, ![n, m]⟩ : Shape).Idx} (hy : y ∈ rowSet lo (lo + k)) :
    (Rect.unit (s := ⟨2, ![n, m]⟩) off (⟨2, ![k, m]⟩ : Shape).size inb).emb (ix2 k m ((y 0).val - lo) (y 1).val) = y := by
  rw [mem_rowSet] at hy
  have h1 := lt1 y
  rw [emb_rows h inb, ix2_0, ix2_1, Nat.mod_eq_of_lt (by omega : (y 0).val - lo < k), Nat.mod_eq_of_lt h1]
  exact ix2_eq (by omega) rfl
theorem ix2_back {α : Type} (g : (⟨2, ![n, m]⟩ : Shape).Idx → α) (w : (⟨2, ![k, m]⟩ : Shape).Idx → α)
    (hw : w = fun x => g (ix2 n m (lo + (x 0).val) (x 1).val)) {y : (⟨2, ![n, m]⟩ : Shape).Idx} (hy : y ∈ rowSet lo (lo + k)) :
    w (ix2 k m ((y 0).val - lo) (y 1).val) = g y := by
  rw [mem_rowSet] at hy
  have h1 := lt1 y
  rw [hw]
  exact congrArg g (ix2_eq (by rw [ix2_0, Nat.mod_eq_of_lt (by omega)]; omega) (by rw [ix2_1, Nat.mod_eq_of_lt h1]))
end

/-! ## The buffers' blocks -/
section
variable {k lo : ℕ} [NeZero k] {off : Fin 2 → ℕ}

theorem set_acc (h : off = ![lo, 0]) (inb : ∀ a, off a + (⟨2, ![k, 1152]⟩ : Shape).size a ≤ S256x1152.size a) :
    (accM.access (Rect.unit off (⟨2, ![k, 1152]⟩ : Shape).size inb)).set = rowSet (n := 256) (m := 1152) lo (lo + k) :=
  (View.set_slice_whole cc0_scratch0 _).trans (rect_rows h rfl inb)
theorem set_ss (h : off = ![lo, 0]) (inb : ∀ a, off a + (⟨2, ![k, 1152]⟩ : Shape).size a ≤ S240x1152.size a) :
    (ssM.access (Rect.unit off (⟨2, ![k, 1152]⟩ : Shape).size inb)).set = rowSet (n := 240) (m := 1152) lo (lo + k) :=
  (View.set_slice_whole cc0_scratch1 _).trans (rect_rows h rfl inb)
theorem set_rs (h : off = ![lo, 0]) (inb : ∀ a, off a + (⟨2, ![k, 1152]⟩ : Shape).size a ≤ S240x1152.size a) :
    (rsM.access (Rect.unit off (⟨2, ![k, 1152]⟩ : Shape).size inb)).set = rowSet (n := 240) (m := 1152) lo (lo + k) :=
  (View.set_slice_whole cc0_scratch2 _).trans (rect_rows h rfl inb)
theorem set_gb (h : off = ![lo, 0]) (inb : ∀ a, off a + (⟨2, ![k, 1024]⟩ : Shape).size a ≤ S256x1024.size a) :
    (gbM.access (Rect.unit off (⟨2, ![k, 1024]⟩ : Shape).size inb)).set = rowSet (n := 256) (m := 1024) lo (lo + k) :=
  (View.set_slice_whole cc0_scratch3 _).trans (rect_rows h rfl inb)

/-- Rows read out of a buffer. -/
theorem read_acc (h : off = ![lo, 0]) (inb : ∀ a, off a + (⟨2, ![k, 1152]⟩ : Shape).size a ≤ S256x1152.size a)
    (f : Vec F S256x1152 .f32) :
    (accM.access (Rect.unit off (⟨2, ![k, 1152]⟩ : Shape).size inb)).read (Elt F) f
      = fun x : (⟨2, ![k, 1152]⟩ : Shape).Idx => f (ix2 256 1152 (lo + (x 0).val) (x 1).val) :=
  funext fun x => congrArg f (emb_rows h inb x)
theorem read_rs (h : off = ![lo, 0]) (inb : ∀ a, off a + (⟨2, ![k, 1152]⟩ : Shape).size a ≤ S240x1152.size a)
    (f : Vec F S240x1152 .bf16) :
    (rsM.access (Rect.unit off (⟨2, ![k, 1152]⟩ : Shape).size inb)).read (Elt F) f
      = fun x : (⟨2, ![k, 1152]⟩ : Shape).Idx => f (ix2 240 1152 (lo + (x 0).val) (x 1).val) :=
  funext fun x => congrArg f (emb_rows h inb x)

/-- Rows stored into a buffer. -/
theorem read_ss (h : off = ![lo, 0]) (inb : ∀ a, off a + (⟨2, ![k, 1152]⟩ : Shape).size a ≤ S240x1152.size a)
    (f : Vec F S240x1152 .bf16) :
    (ssM.access (Rect.unit off (⟨2, ![k, 1152]⟩ : Shape).size inb)).read (Elt F) f
      = fun x : (⟨2, ![k, 1152]⟩ : Shape).Idx => f (ix2 240 1152 (lo + (x 0).val) (x 1).val) :=
  funext fun x => congrArg f (emb_rows h inb x)
theorem write_acc (h : off = ![lo, 0]) (inb : ∀ a, off a + (⟨2, ![k, 1152]⟩ : Shape).size a ≤ S256x1152.size a)
    (f : Vec F S256x1152 .f32) (w : Vec F ⟨2, ![k, 1152]⟩ .f32) {y : S256x1152.Idx} (hy : y ∈ rowSet (n := 256) (m := 1152) lo (lo + k)) :
    (accM.access (Rect.unit off (⟨2, ![k, 1152]⟩ : Shape).size inb)).write (Elt F) f w Finset.univ y = w (ix2 k 1152 ((y 0).val - lo) (y 1).val) := by
  conv_lhs => rw [← emb_rows_ex h inb hy]
  exact View.write_emb_of_mem (v := accM.access (Rect.unit off (⟨2, ![k, 1152]⟩ : Shape).size inb)) f w (Finset.mem_univ _)
theorem write_ss (h : off = ![lo, 0]) (inb : ∀ a, off a + (⟨2, ![k, 1152]⟩ : Shape).size a ≤ S240x1152.size a)
    (f : Vec F S240x1152 .bf16) (w : Vec F ⟨2, ![k, 1152]⟩ .bf16) {y : S240x1152.Idx} (hy : y ∈ rowSet (n := 240) (m := 1152) lo (lo + k)) :
    (ssM.access (Rect.unit off (⟨2, ![k, 1152]⟩ : Shape).size inb)).write (Elt F) f w Finset.univ y = w (ix2 k 1152 ((y 0).val - lo) (y 1).val) := by
  conv_lhs => rw [← emb_rows_ex h inb hy]
  exact View.write_emb_of_mem (v := ssM.access (Rect.unit off (⟨2, ![k, 1152]⟩ : Shape).size inb)) f w (Finset.mem_univ _)
theorem write_gb (h : off = ![lo, 0]) (inb : ∀ a, off a + (⟨2, ![k, 1024]⟩ : Shape).size a ≤ S256x1024.size a)
    (f : Vec F S256x1024 .bf16) (w : Vec F ⟨2, ![k, 1024]⟩ .bf16) {y : S256x1024.Idx} (hy : y ∈ rowSet (n := 256) (m := 1024) lo (lo + k)) :
    (gbM.access (Rect.unit off (⟨2, ![k, 1024]⟩ : Shape).size inb)).write (Elt F) f w Finset.univ y = w (ix2 k 1024 ((y 0).val - lo) (y 1).val) := by
  conv_lhs => rw [← emb_rows_ex h inb hy]
  exact View.write_emb_of_mem (v := gbM.access (Rect.unit off (⟨2, ![k, 1024]⟩ : Shape).size inb)) f w (Finset.mem_univ _)

/-- A copy of rows from the send buffer to the same rows of a landing buffer. -/
theorem copy_rs (h : off = ![lo, 0]) (inb : ∀ a, off a + (⟨2, ![k, 1152]⟩ : Shape).size a ≤ S240x1152.size a)
    (f g : Vec F S240x1152 .bf16) {y : S240x1152.Idx} (hy : y ∈ rowSet (n := 240) (m := 1152) lo (lo + k)) :
    (rsM.access (Rect.unit off (⟨2, ![k, 1152]⟩ : Shape).size inb)).write (Elt F) f
      ((ssM.access (Rect.unit off (⟨2, ![k, 1152]⟩ : Shape).size inb)).read (Elt F) g) Finset.univ y = g y := by
  conv_lhs => rw [← emb_rows_ex h inb hy]
  refine (View.write_emb_of_mem (v := rsM.access (Rect.unit off (⟨2, ![k, 1152]⟩ : Shape).size inb)) f _ (Finset.mem_univ _)).trans ?_
  exact congrArg g (emb_rows_ex h inb hy)
theorem read_gb (h : off = ![lo, 0]) (inb : ∀ a, off a + (⟨2, ![k, 1024]⟩ : Shape).size a ≤ S256x1024.size a)
    (f : Vec F S256x1024 .bf16) :
    (gbM.access (Rect.unit off (⟨2, ![k, 1024]⟩ : Shape).size inb)).read (Elt F) f
      = fun x : (⟨2, ![k, 1024]⟩ : Shape).Idx => f (ix2 256 1024 (lo + (x 0).val) (x 1).val) :=
  funext fun x => congrArg f (emb_rows h inb x)
theorem copy_gb (h : off = ![lo, 0]) (inb : ∀ a, off a + (⟨2, ![k, 1024]⟩ : Shape).size a ≤ S256x1024.size a)
    (f g : Vec F S256x1024 .bf16) {y : S256x1024.Idx} (hy : y ∈ rowSet (n := 256) (m := 1024) lo (lo + k)) :
    (gbM.access (Rect.unit off (⟨2, ![k, 1024]⟩ : Shape).size inb)).write (Elt F) f
      ((gbM.access (Rect.unit off (⟨2, ![k, 1024]⟩ : Shape).size inb)).read (Elt F) g) Finset.univ y = g y := by
  exact (write_gb h inb f _ hy).trans (ix2_back g _ (read_gb h inb g) hy)
end

/-! ## Steps -/
theorem load_step (c : Dev nD) {s : Shape} {e : EltTy} {m : Memref sig .tc .vmem s e} {r : Rect s} {hl : m.view.LoadsAt r.toLoadRect}
    {S : Finset (Idx ((m.access r).loc (c : Thread nD τ)))} {q : PosShare TreeShare} {f : Buf (Elt F) ((m.access r).loc (c : Thread nD τ))}
    (hS : (m.access r).set ⊆ S) {α : Type} {Q : α → sProp 𝕄} {k : (r.shape.Idx → Elt F e) → Prog (TpuEff nD τ sig (Elt F) Λ₀ .tc) α} :
    iprop(((m.access r).loc (c : Thread nD τ) ↦[S]{q} f)
        ∗ (((m.access r).loc (c : Thread nD τ) ↦[S]{q} f) -∗ WP c (k ((m.access r).read (Elt F) f)) Q))
      ⊢ WP c (Prog.lift (.load m r.toLoadRect hl) >>= k) Q := by
  simp only [Prog.lift, Prog.bind_op, Prog.bind_ret]
  iintro ⟨H, Hk⟩
  iapply (wp_load_rect 𝒱₀ (c : Thread nD τ) none Set.univ hS) $$ H
  iexact Hk

theorem store_step (c : Dev nD) {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {S : Finset (Idx ((m.access r).loc (c : Thread nD τ)))} {f : Buf (Elt F) ((m.access r).loc (c : Thread nD τ))}
    (g : Buf (Elt F) ((m.access r).loc (c : Thread nD τ)))
    (hS : (m.access r).set ⊆ S) (hg : ∀ y ∈ S, (m.access r).write (Elt F) f w Finset.univ y = g y)
    {α : Type} {Q : α → sProp 𝕄} {k : PUnit → Prog (TpuEff nD τ sig (Elt F) Λ₀ .tc) α} :
    iprop(((m.access r).loc (c : Thread nD τ) ↦[S]{fullShare} f)
        ∗ (((m.access r).loc (c : Thread nD τ) ↦[S]{fullShare} g) -∗ WP c (k ⟨⟩) Q))
      ⊢ WP c (Prog.lift (.store m r w Finset.univ hx hm) >>= k) Q := by
  simp only [Prog.lift, Prog.bind_op, Prog.bind_ret]
  iintro ⟨H, Hk⟩
  iapply (wp_store 𝒱₀ (c : Thread nD τ) none Set.univ hS) $$ H
  rw [pointsTo_congr hg]
  iexact Hk

abbrev accPts (c : Dev nD) (f : Vec F S256x1152 .f32) : sProp 𝕄 := accM.view.loc (c : Thread nD τ) ↦{fullShare} f

theorem load_acc (c : Dev nD) (k lo : ℕ) [NeZero k] {off : Fin 2 → ℕ} (h : off = ![lo, 0])
    (inb : ∀ a, off a + (⟨2, ![k, 1152]⟩ : Shape).size a ≤ S256x1152.size a)
    {hl : accM.view.LoadsAt (Rect.unit (s := S256x1152) off (⟨2, ![k, 1152]⟩ : Shape).size inb).toLoadRect} {f : Vec F S256x1152 .f32} (w : Vec F ⟨2, ![k, 1152]⟩ .f32)
    (hw : (fun x : (⟨2, ![k, 1152]⟩ : Shape).Idx => f (ix2 256 1152 (lo + (x 0).val) (x 1).val)) = w)
    {α : Type} {Q : α → sProp 𝕄} {κ : Vec F ⟨2, ![k, 1152]⟩ .f32 → Prog (TpuEff nD τ sig (Elt F) Λ₀ .tc) α} :
    iprop(accPts c f ∗ (accPts c f -∗ WP c (κ w) Q))
      ⊢ WP c (Prog.lift (TpuEff.load (accM) (Rect.unit (s := S256x1152) off (⟨2, ![k, 1152]⟩ : Shape).size inb).toLoadRect hl) >>= κ) Q := by
  rw [← hw, ← read_acc h inb f]
  exact load_step c (m := accM) (r := Rect.unit off (⟨2, ![k, 1152]⟩ : Shape).size inb) (Finset.subset_univ _)

theorem load_ss (c : Dev nD) (k lo : ℕ) [NeZero k] {off : Fin 2 → ℕ} (h : off = ![lo, 0])
    (inb : ∀ a, off a + (⟨2, ![k, 1152]⟩ : Shape).size a ≤ S240x1152.size a)
    {a b : ℕ} (hA : a = lo) (hB : b = lo + k)
    {hl : ssM.view.LoadsAt (Rect.unit (s := S240x1152) off (⟨2, ![k, 1152]⟩ : Shape).size inb).toLoadRect} {f : Vec F S240x1152 .bf16} (w : Vec F ⟨2, ![k, 1152]⟩ .bf16)
    (hw : (fun x : (⟨2, ![k, 1152]⟩ : Shape).Idx => f (ix2 240 1152 (lo + (x 0).val) (x 1).val)) = w)
    {α : Type} {Q : α → sProp 𝕄} {κ : Vec F ⟨2, ![k, 1152]⟩ .bf16 → Prog (TpuEff nD τ sig (Elt F) Λ₀ .tc) α} :
    iprop(ssPts c a b f ∗ (ssPts c a b f -∗ WP c (κ w) Q))
      ⊢ WP c (Prog.lift (TpuEff.load (ssM) (Rect.unit (s := S240x1152) off (⟨2, ![k, 1152]⟩ : Shape).size inb).toLoadRect hl) >>= κ) Q := by
  rw [← hw, ← read_ss h inb f]
  exact load_step c (m := ssM) (r := Rect.unit off (⟨2, ![k, 1152]⟩ : Shape).size inb) (by rw [set_ss h inb, hA, hB])

theorem load_rs (c : Dev nD) (k lo : ℕ) [NeZero k] {off : Fin 2 → ℕ} (h : off = ![lo, 0])
    (inb : ∀ a, off a + (⟨2, ![k, 1152]⟩ : Shape).size a ≤ S240x1152.size a)
    {a b : ℕ} (hA : a = lo) (hB : b = lo + k)
    {hl : rsM.view.LoadsAt (Rect.unit (s := S240x1152) off (⟨2, ![k, 1152]⟩ : Shape).size inb).toLoadRect} {f : Vec F S240x1152 .bf16} (w : Vec F ⟨2, ![k, 1152]⟩ .bf16)
    (hw : (fun x : (⟨2, ![k, 1152]⟩ : Shape).Idx => f (ix2 240 1152 (lo + (x 0).val) (x 1).val)) = w)
    {α : Type} {Q : α → sProp 𝕄} {κ : Vec F ⟨2, ![k, 1152]⟩ .bf16 → Prog (TpuEff nD τ sig (Elt F) Λ₀ .tc) α} :
    iprop(rsPts c a b f ∗ (rsPts c a b f -∗ WP c (κ w) Q))
      ⊢ WP c (Prog.lift (TpuEff.load (rsM) (Rect.unit (s := S240x1152) off (⟨2, ![k, 1152]⟩ : Shape).size inb).toLoadRect hl) >>= κ) Q := by
  rw [← hw, ← read_rs h inb f]
  exact load_step c (m := rsM) (r := Rect.unit off (⟨2, ![k, 1152]⟩ : Shape).size inb) (by rw [set_rs h inb, hA, hB])

theorem load_gb (c : Dev nD) (k lo : ℕ) [NeZero k] {off : Fin 2 → ℕ} (h : off = ![lo, 0])
    (inb : ∀ a, off a + (⟨2, ![k, 1024]⟩ : Shape).size a ≤ S256x1024.size a)
    {a b : ℕ} (hA : a = lo) (hB : b = lo + k)
    {hl : gbM.view.LoadsAt (Rect.unit (s := S256x1024) off (⟨2, ![k, 1024]⟩ : Shape).size inb).toLoadRect} {f : Vec F S256x1024 .bf16} (w : Vec F ⟨2, ![k, 1024]⟩ .bf16)
    (hw : (fun x : (⟨2, ![k, 1024]⟩ : Shape).Idx => f (ix2 256 1024 (lo + (x 0).val) (x 1).val)) = w)
    {α : Type} {Q : α → sProp 𝕄} {κ : Vec F ⟨2, ![k, 1024]⟩ .bf16 → Prog (TpuEff nD τ sig (Elt F) Λ₀ .tc) α} :
    iprop(gbPts c a b fullShare f ∗ (gbPts c a b fullShare f -∗ WP c (κ w) Q))
      ⊢ WP c (Prog.lift (TpuEff.load (gbM) (Rect.unit (s := S256x1024) off (⟨2, ![k, 1024]⟩ : Shape).size inb).toLoadRect hl) >>= κ) Q := by
  rw [← hw, ← read_gb h inb f]
  exact load_step c (m := gbM) (r := Rect.unit off (⟨2, ![k, 1024]⟩ : Shape).size inb) (by rw [set_gb h inb, hA, hB])

theorem store_ss (c : Dev nD) (k lo : ℕ) [NeZero k] {off : Fin 2 → ℕ} (h : off = ![lo, 0])
    (inb : ∀ a, off a + (⟨2, ![k, 1152]⟩ : Shape).size a ≤ S240x1152.size a) {a b : ℕ} (hA : a = lo) (hB : b = lo + k)
    {w : Vec F ⟨2, ![k, 1152]⟩ .bf16} {hx : (ssM.access (Rect.unit off (⟨2, ![k, 1152]⟩ : Shape).size inb)).Stores Finset.univ}
    {hm : (Finset.univ : Finset (Rect.unit (s := S240x1152) off (⟨2, ![k, 1152]⟩ : Shape).size inb).shape.Idx) = Finset.univ ∨ ∀ a, (Rect.unit (s := S240x1152) off (⟨2, ![k, 1152]⟩ : Shape).size inb).stride a = 1}
    {f : Vec F S240x1152 .bf16} (g : Vec F S240x1152 .bf16)
    (hg : ∀ y : S240x1152.Idx, lo ≤ (y 0).val → (y 0).val < lo + k → w (ix2 k 1152 ((y 0).val - lo) (y 1).val) = g y)
    {α : Type} {Q : α → sProp 𝕄} {κ : PUnit → Prog (TpuEff nD τ sig (Elt F) Λ₀ .tc) α} :
    iprop(ssPts c a b f ∗ (ssPts c a b g -∗ WP c (κ ⟨⟩) Q))
      ⊢ WP c (Prog.lift (.store ssM (Rect.unit off (⟨2, ![k, 1152]⟩ : Shape).size inb) w Finset.univ hx hm) >>= κ) Q := by
  subst hA hB
  exact store_step c (m := ssM) (r := Rect.unit off (⟨2, ![k, 1152]⟩ : Shape).size inb) g (by rw [set_ss h inb])
    (fun y hy => (write_ss h inb f w hy).trans (hg y (mem_rowSet.mp hy).1 (mem_rowSet.mp hy).2))

theorem store_gb (c : Dev nD) (k lo : ℕ) [NeZero k] {off : Fin 2 → ℕ} (h : off = ![lo, 0])
    (inb : ∀ a, off a + (⟨2, ![k, 1024]⟩ : Shape).size a ≤ S256x1024.size a) {a b : ℕ} (hA : a = lo) (hB : b = lo + k)
    {w : Vec F ⟨2, ![k, 1024]⟩ .bf16} {hx : (gbM.access (Rect.unit off (⟨2, ![k, 1024]⟩ : Shape).size inb)).Stores Finset.univ}
    {hm : (Finset.univ : Finset (Rect.unit (s := S256x1024) off (⟨2, ![k, 1024]⟩ : Shape).size inb).shape.Idx) = Finset.univ ∨ ∀ a, (Rect.unit (s := S256x1024) off (⟨2, ![k, 1024]⟩ : Shape).size inb).stride a = 1}
    {f : Vec F S256x1024 .bf16} (g : Vec F S256x1024 .bf16)
    (hg : ∀ y : S256x1024.Idx, lo ≤ (y 0).val → (y 0).val < lo + k → w (ix2 k 1024 ((y 0).val - lo) (y 1).val) = g y)
    {α : Type} {Q : α → sProp 𝕄} {κ : PUnit → Prog (TpuEff nD τ sig (Elt F) Λ₀ .tc) α} :
    iprop(gbPts c a b fullShare f ∗ (gbPts c a b fullShare g -∗ WP c (κ ⟨⟩) Q))
      ⊢ WP c (Prog.lift (.store gbM (Rect.unit off (⟨2, ![k, 1024]⟩ : Shape).size inb) w Finset.univ hx hm) >>= κ) Q := by
  subst hA hB
  exact store_step c (m := gbM) (r := Rect.unit off (⟨2, ![k, 1024]⟩ : Shape).size inb) g (by rw [set_gb h inb])
    (fun y hy => (write_gb h inb f w hy).trans (hg y (mem_rowSet.mp hy).1 (mem_rowSet.mp hy).2))

theorem store_acc (c : Dev nD) (k lo : ℕ) [NeZero k] {off : Fin 2 → ℕ} (h : off = ![lo, 0])
    (inb : ∀ a, off a + (⟨2, ![k, 1152]⟩ : Shape).size a ≤ S256x1152.size a)
    {w : Vec F ⟨2, ![k, 1152]⟩ .f32} {hx : (accM.access (Rect.unit off (⟨2, ![k, 1152]⟩ : Shape).size inb)).Stores Finset.univ}
    {hm : (Finset.univ : Finset (Rect.unit (s := S256x1152) off (⟨2, ![k, 1152]⟩ : Shape).size inb).shape.Idx) = Finset.univ ∨ ∀ a, (Rect.unit (s := S256x1152) off (⟨2, ![k, 1152]⟩ : Shape).size inb).stride a = 1}
    {f : Vec F S256x1152 .f32} (g : Vec F S256x1152 .f32)
    (hg : ∀ y : S256x1152.Idx, lo ≤ (y 0).val → (y 0).val < lo + k → w (ix2 k 1152 ((y 0).val - lo) (y 1).val) = g y)
    {α : Type} {Q : α → sProp 𝕄} {κ : PUnit → Prog (TpuEff nD τ sig (Elt F) Λ₀ .tc) α} :
    iprop(accPts c f ∗ ((∃ f', ⌜∀ y ∈ rowSet (n := 256) (m := 1152) lo (lo + k), f' y = g y⌝ ∗ accPts c f') -∗ WP c (κ ⟨⟩) Q))
      ⊢ WP c (Prog.lift (.store accM (Rect.unit off (⟨2, ![k, 1152]⟩ : Shape).size inb) w Finset.univ hx hm) >>= κ) Q := by
  iintro ⟨H, Hk⟩
  iapply (store_step c (m := accM) (r := Rect.unit off (⟨2, ![k, 1152]⟩ : Shape).size inb)
    ((accM.access (Rect.unit off (⟨2, ![k, 1152]⟩ : Shape).size inb)).write (Elt F) f w Finset.univ) (Finset.subset_univ _) (fun _ _ => rfl))
  isplitl [H]; · iexact H
  iintro H
  iapply Hk
  iexists ((accM.access (Rect.unit off (⟨2, ![k, 1152]⟩ : Shape).size inb)).write (Elt F) f w Finset.univ)
  isplitr
  · ipureintro
    exact fun y hy => (write_acc h inb f w hy).trans (hg y (mem_rowSet.mp hy).1 (mem_rowSet.mp hy).2)
  iexact H

/-! ## What each cell hands over -/
variable (I : Ins F)
theorem pay_send (c : Dev nD) (i : ℕ) (hi : i < 8) (k : Fin 47) (hk : k.val = i) : payS I c (csem k) 0 = ssPts c (pA i) (pB i) (sendV I c) := by
  unfold csem; rw [dif_pos (by omega)]
  show dmaPay I c (4 + k.val) = _
  unfold dmaPay; rw [if_pos (by omega), Nat.add_sub_cancel_left, hk]
theorem pay_recv (c : Dev nD) (i : ℕ) (hi : i < 8) (k : Fin 47) (hk : k.val = 8 + i) : payS I c (csem k) 0 = rsPts c (pA i) (pB i) (landV I c) := by
  unfold csem; rw [dif_pos (by omega)]
  show dmaPay I c (4 + k.val) = _
  unfold dmaPay; rw [if_neg (by omega), if_pos (by omega), show 4 + k.val - 12 = i by omega]
theorem pay_gsend (c : Dev nD) (j : ℕ) (hj : j < 15) (k : Fin 47) (hk : k.val = 16 + j) :
    payS I c (csem k) 0 = gbPts c (mLo c) (mLo c + 16) (Transfers.shareTokN fullShare j) (gathV I) := by
  unfold csem; rw [dif_neg (by omega), dif_pos (by omega)]
  show dmaPay I c (12 + k.val) = _
  unfold dmaPay; rw [if_neg (by omega), if_neg (by omega), if_pos (by omega), show 12 + k.val - 28 = j by omega]
theorem pay_grecv (c : Dev nD) (j : ℕ) (hj : j < 15) (k : Fin 47) (hk : k.val = 31 + j) :
    payS I c (csem k) 0 = gbPts c (mLo (peer c (j + 1))) (mLo (peer c (j + 1)) + 16) fullShare (gathV I) := by
  unfold csem; rw [dif_neg (by omega), dif_pos (by omega)]
  show dmaPay I c (12 + k.val) = _
  unfold dmaPay; rw [if_neg (by omega), if_neg (by omega), if_neg (by omega), show 12 + k.val - 42 = j + 1 by omega]

end Cert.KernelIdeal.Run
-- ==== Proof.First.lean ====
module

public import proofs.«01_k».proof.Proof.Rows
@[expose] public section
set_option maxRecDepth 16384
noncomputable section
/-! # The barrier and the first exchange -/
namespace Cert.KernelIdeal.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ UU ℕ

variable (I : Ins F)

theorem dev_step (c : Dev nD) {α : Type} {Q : α → sProp 𝕄} {k : Dev nD → Prog (TpuEff nD τ sig (Elt F) Λ₀ .tc) α} :
    WP c (k c) Q ⊢ WP c (Prog.lift .deviceId >>= k) Q := by
  simp only [Prog.lift, Prog.bind_op, Prog.bind_ret, wp_deviceId]
  exact BI.Entails.refl _

/-- The mask of the peer of send and receive cell `i`. -/
def mOf (i : ℕ) : ℕ := if i = 0 then 1 else 2 * i
theorem mRow_of {i r : ℕ} (hi : i < 8) (h : pA i ≤ r ∧ r < pB i) : mRow r = mOf i := by
  unfold pA pB at h; unfold mRow mOf
  split at h
  · subst i; rw [if_pos (by omega), if_pos rfl]
  · rw [if_neg (by omega), if_neg (by omega)]; omega
theorem mOf_lt {i : ℕ} (hi : i < 8) : mOf i < 16 := by unfold mOf; split <;> omega
theorem landV_eq (c : Dev nD) {i : ℕ} (hi : i < 8) {y : S240x1152.Idx} (hy : y ∈ rowSet (n := 240) (m := 1152) (pA i) (pB i)) :
    landV I (peer c (mOf i)) y = sendV I c y := by
  rw [mem_rowSet] at hy
  unfold landV
  rw [mRow_of hi hy, peer_peer c _ (mOf_lt hi)]

/-- The copy of send cell `i`. -/
theorem send_ss (K : Dev nD × Fin 47 → ℕ) (c : Dev nD) (i : ℕ) (hi : i < 8) (ks kr : Fin 47) (hks : ks.val = i) (hkr : kr.val = 8 + i) (N : ℕ)
    (hp : payAt (15 + i) = (mOf i, kr, N))
    (hds : dutS (csem ks) = {0}) (hdr : dutS (csem kr) = {0}) (hNs : amtS (csem ks) = N) (hNr : amtS (csem kr) = N)
    (k lo : ℕ) [NeZero k] {off : Fin 2 → ℕ} (h : off = ![lo, 0]) (inb : ∀ a, off a + (⟨2, ![k, 1152]⟩ : Shape).size a ≤ S240x1152.size a)
    (hA : pA i = lo) (hB : pB i = lo + k)
    {h1 h2 : ∀ a, (Rect.unit (s := S240x1152) off (⟨2, ![k, 1152]⟩ : Shape).size inb).stride a = 1}
    {dv : Dev nD} (hdv : dv = peer c (mOf i))
    (qs qr : DmaSem sig) (hqs : SemLoc.dma qs = csem ks) (hqr : SemLoc.dma qr = csem kr)
    (hN : (rsM.slice (Rect.unit off (⟨2, ![k, 1152]⟩ : Shape).size inb) h2).view.amount (.dma qr) = N)
    {hsc : (rsM.slice (Rect.unit off (⟨2, ![k, 1152]⟩ : Shape).size inb) h2).view.ref.isScScratch = false}
    {hsrc : (ssM.slice (Rect.unit off (⟨2, ![k, 1152]⟩ : Shape).size inb) h1).view.WordExact}
    {hdst : (rsM.slice (Rect.unit off (⟨2, ![k, 1152]⟩ : Shape).size inb) h2).view.WordExact}
    {hsem : DmaTarget.Typed .vmem (.dma qr) (.remote (dv : Thread nD τ) (rsM.slice (Rect.unit off (⟨2, ![k, 1152]⟩ : Shape).size inb) h2) (.dma qs) hsc)}
    {α : Type} {Q : α → sProp 𝕄} {κ : PUnit → Prog (TpuEff nD τ sig (Elt F) Λ₀ .tc) α} :
    iprop(records I K ∗ ssPts c (pA i) (pB i) (sendV I c) ∗ (∃ f, rsPts (peer c (mOf i)) (pA i) (pB i) f)
        ∗ owesE c (15 + i) ∗ tokAt (c, ks) 0 ∗ tokAt (peer c (mOf i), kr) 0 ∗ ((credAt (c, ks) N ∗ owesE c (15 + i + 1)) -∗ WP c (κ ⟨⟩) Q))
      ⊢ WP c (Prog.lift (.enqueueDma (ssM.slice (Rect.unit off (⟨2, ![k, 1152]⟩ : Shape).size inb) h1)
          (.remote (dv : Thread nD τ) (rsM.slice (Rect.unit off (⟨2, ![k, 1152]⟩ : Shape).size inb) h2) (.dma qs) hsc) (.dma qr) hsrc hdst hsem) >>= κ) Q := by
  have e1 : (ssM.slice (Rect.unit off (⟨2, ![k, 1152]⟩ : Shape).size inb) h1).view.set = rowSet (n := 240) (m := 1152) (pA i) (pB i) := by
    rw [hA, hB]; exact set_ss h inb
  have e2 : (rsM.slice (Rect.unit off (⟨2, ![k, 1152]⟩ : Shape).size inb) h2).view.set = rowSet (n := 240) (m := 1152) (pA i) (pB i) := by
    rw [hA, hB]; exact set_rs h inb
  iintro ⟨#HR, Hs, ⟨%fd, Hd⟩, HO, Ht1, Ht2, Hk⟩
  iapply (send_step I K c (15 + i) (mOf i) ks kr N (by omega) hp hds hdr hNs hNr hdv hqs hqr hN fullShare (sendV I c) fd
    (by rw [pay_send I c i hi ks hks, e1])
    (by
      rw [pay_recv I (peer c (mOf i)) i hi kr hkr, e2]
      refine Entails.of_eq (pointsTo_congr fun y hy => ?_)
      refine (copy_rs h inb fd (sendV I c) (by rw [← hB, ← hA]; exact hy)).trans (landV_eq I c hi hy).symm))
  isplitr; · iexact HR
  isplitl [Hs]; · rw [e1]; iexact Hs
  isplitl [Hd]; · rw [e2]; iexact Hd
  isplitl [HO]; · iexact HO
  isplitl [Ht1]; · iexact Ht1
  isplitl [Ht2]; · iexact Ht2
  iexact Hk

/-- The wait of send cell `i`. -/
theorem wait_ss (K : Dev nD × Fin 47 → ℕ) (c : Dev nD) (j i : ℕ) (hi : i < 8) (k' : Fin 47) (hk : k'.val = i) (N : ℕ)
    (hw : ∀ i, i < 38 → j ≤ i → lvS (csem k') < lvS (csem (payAt i).2.1)) (hd : dutS (csem k') = {0}) (hN' : amtS (csem k') = N)
    (k lo : ℕ) {off : Fin 2 → ℕ} (h : off = ![lo, 0]) (inb : ∀ a, off a + (⟨2, ![k, 1152]⟩ : Shape).size a ≤ S240x1152.size a)
    {h1 h2 : ∀ a, (Rect.unit (s := S240x1152) off (⟨2, ![k, 1152]⟩ : Shape).size inb).stride a = 1}
    (q : DmaSem sig) (hq : SemLoc.dma q = csem k')
    (hN : (ssM.slice (Rect.unit off (⟨2, ![k, 1152]⟩ : Shape).size inb) h2).view.dmaCredit = N)
    {hsrc : (rsM.slice (Rect.unit off (⟨2, ![k, 1152]⟩ : Shape).size inb) h1).view.WordExact}
    {hdst : (ssM.slice (Rect.unit off (⟨2, ![k, 1152]⟩ : Shape).size inb) h2).view.WordExact}
    {α : Type} {Q : α → sProp 𝕄} {κ : PUnit → Prog (TpuEff nD τ sig (Elt F) Λ₀ .tc) α} :
    iprop(records I K ∗ levAts L lv ∗ credAt (c, k') N ∗ owesE c j ∗ posAt (c, k')
        ∗ ((owesE c j ∗ zeroAt (c, k') ∗ ssPts c (pA i) (pB i) (sendV I c)) -∗ WP c (κ ⟨⟩) Q))
      ⊢ WP c (Prog.lift (.waitDma2 q (rsM.slice (Rect.unit off (⟨2, ![k, 1152]⟩ : Shape).size inb) h1)
          (ssM.slice (Rect.unit off (⟨2, ![k, 1152]⟩ : Shape).size inb) h2) hsrc hdst) >>= κ) Q := by
  rw [← pay_send I c i hi k' hk]
  exact wait_step I K c j k' N hw hd hN' hq hN

/-- The wait of receive cell `i`. -/
theorem wait_rs (K : Dev nD × Fin 47 → ℕ) (c : Dev nD) (j i : ℕ) (hi : i < 8) (k' : Fin 47) (hk : k'.val = 8 + i) (N : ℕ)
    (hw : ∀ i, i < 38 → j ≤ i → lvS (csem k') < lvS (csem (payAt i).2.1)) (hd : dutS (csem k') = {0}) (hN' : amtS (csem k') = N)
    (k lo : ℕ) {off : Fin 2 → ℕ} (h : off = ![lo, 0]) (inb : ∀ a, off a + (⟨2, ![k, 1152]⟩ : Shape).size a ≤ S240x1152.size a)
    {h1 h2 : ∀ a, (Rect.unit (s := S240x1152) off (⟨2, ![k, 1152]⟩ : Shape).size inb).stride a = 1}
    (q : DmaSem sig) (hq : SemLoc.dma q = csem k')
    (hN : (rsM.slice (Rect.unit off (⟨2, ![k, 1152]⟩ : Shape).size inb) h2).view.dmaCredit = N)
    {hsrc : (ssM.slice (Rect.unit off (⟨2, ![k, 1152]⟩ : Shape).size inb) h1).view.WordExact}
    {hdst : (rsM.slice (Rect.unit off (⟨2, ![k, 1152]⟩ : Shape).size inb) h2).view.WordExact}
    {α : Type} {Q : α → sProp 𝕄} {κ : PUnit → Prog (TpuEff nD τ sig (Elt F) Λ₀ .tc) α} :
    iprop(records I K ∗ levAts L lv ∗ credAt (c, k') N ∗ owesE c j ∗ posAt (c, k')
        ∗ ((owesE c j ∗ zeroAt (c, k') ∗ rsPts c (pA i) (pB i) (landV I c)) -∗ WP c (κ ⟨⟩) Q))
      ⊢ WP c (Prog.lift (.waitDma2 q (ssM.slice (Rect.unit off (⟨2, ![k, 1152]⟩ : Shape).size inb) h1)
          (rsM.slice (Rect.unit off (⟨2, ![k, 1152]⟩ : Shape).size inb) h2) hsrc hdst) >>= κ) Q := by
  rw [← pay_recv I c i hi k' hk]
  exact wait_step I K c j k' N hw hd hN' hq hN

/-! ## Signals -/
theorem s1_run (K : Dev nD × Fin 47 → ℕ) (c : Dev nD) {α : Type} {Q : α → sProp 𝕄} {κ : Dev nD → Prog (TpuEff nD τ sig (Elt F) Λ₀ .tc) α} :
    iprop(records I K ∗ owesE c 0
        ∗ (bigSep (Finset.Ico 0 15) fun i => iprop(tokAt (peer c (i + 1), 46) (i + 1) ∗ barPay (F := F) (peer c (i + 1)) (i + 1)))
        ∗ (owesE c 15 -∗ WP c (κ c) Q))
      ⊢ WP c (s1 κ) Q := by
  unfold s1
  iintro ⟨#HR, HO, HB, Hk⟩
  iapply (dev_step c)
  ihave HB := (peel 0 15 (by decide)) $$ HB; icases HB with ⟨⟨Ht, Hp⟩, HB⟩
  iapply (sig_step I K c 0 (by decide) (dev1_eq c _) rfl)
  isplitr; · iexact HR
  isplitl [HO]; · iexact HO
  isplitl [Ht]; · iexact Ht
  isplitl [Hp]; · iexact Hp
  iintro HO
  ihave HB := (peel 1 15 (by decide)) $$ HB; icases HB with ⟨⟨Ht, Hp⟩, HB⟩
  iapply (sig_step I K c 1 (by decide) (dev2_eq c _) rfl)
  isplitr; · iexact HR
  isplitl [HO]; · iexact HO
  isplitl [Ht]; · iexact Ht
  isplitl [Hp]; · iexact Hp
  iintro HO
  ihave HB := (peel 2 15 (by decide)) $$ HB; icases HB with ⟨⟨Ht, Hp⟩, HB⟩
  iapply (sig_step I K c 2 (by decide) (dev3_eq c _) rfl)
  isplitr; · iexact HR
  isplitl [HO]; · iexact HO
  isplitl [Ht]; · iexact Ht
  isplitl [Hp]; · iexact Hp
  iintro HO
  ihave HB := (peel 3 15 (by decide)) $$ HB; icases HB with ⟨⟨Ht, Hp⟩, HB⟩
  iapply (sig_step I K c 3 (by decide) (dev4_eq c _) rfl)
  isplitr; · iexact HR
  isplitl [HO]; · iexact HO
  isplitl [Ht]; · iexact Ht
  isplitl [Hp]; · iexact Hp
  iintro HO
  ihave HB := (peel 4 15 (by decide)) $$ HB; icases HB with ⟨⟨Ht, Hp⟩, HB⟩
  iapply (sig_step I K c 4 (by decide) (dev5_eq c _) rfl)
  isplitr; · iexact HR
  isplitl [HO]; · iexact HO
  isplitl [Ht]; · iexact Ht
  isplitl [Hp]; · iexact Hp
  iintro HO
  ihave HB := (peel 5 15 (by decide)) $$ HB; icases HB with ⟨⟨Ht, Hp⟩, HB⟩
  iapply (sig_step I K c 5 (by decide) (dev6_eq c _) rfl)
  isplitr; · iexact HR
  isplitl [HO]; · iexact HO
  isplitl [Ht]; · iexact Ht
  isplitl [Hp]; · iexact Hp
  iintro HO
  ihave HB := (peel 6 15 (by decide)) $$ HB; icases HB with ⟨⟨Ht, Hp⟩, HB⟩
  iapply (sig_step I K c 6 (by decide) (dev7_eq c _) rfl)
  isplitr; · iexact HR
  isplitl [HO]; · iexact HO
  isplitl [Ht]; · iexact Ht
  isplitl [Hp]; · iexact Hp
  iintro HO
  ihave HB := (peel 7 15 (by decide)) $$ HB; icases HB with ⟨⟨Ht, Hp⟩, HB⟩
  iapply (sig_step I K c 7 (by decide) (dev8_eq c _) rfl)
  isplitr; · iexact HR
  isplitl [HO]; · iexact HO
  isplitl [Ht]; · iexact Ht
  isplitl [Hp]; · iexact Hp
  iintro HO
  ihave HB := (peel 8 15 (by decide)) $$ HB; icases HB with ⟨⟨Ht, Hp⟩, HB⟩
  iapply (sig_step I K c 8 (by decide) (dev9_eq c _) rfl)
  isplitr; · iexact HR
  isplitl [HO]; · iexact HO
  isplitl [Ht]; · iexact Ht
  isplitl [Hp]; · iexact Hp
  iintro HO
  ihave HB := (peel 9 15 (by decide)) $$ HB; icases HB with ⟨⟨Ht, Hp⟩, HB⟩
  iapply (sig_step I K c 9 (by decide) (dev10_eq c _) rfl)
  isplitr; · iexact HR
  isplitl [HO]; · iexact HO
  isplitl [Ht]; · iexact Ht
  isplitl [Hp]; · iexact Hp
  iintro HO
  ihave HB := (peel 10 15 (by decide)) $$ HB; icases HB with ⟨⟨Ht, Hp⟩, HB⟩
  iapply (sig_step I K c 10 (by decide) (dev11_eq c _) rfl)
  isplitr; · iexact HR
  isplitl [HO]; · iexact HO
  isplitl [Ht]; · iexact Ht
  isplitl [Hp]; · iexact Hp
  iintro HO
  ihave HB := (peel 11 15 (by decide)) $$ HB; icases HB with ⟨⟨Ht, Hp⟩, HB⟩
  iapply (sig_step I K c 11 (by decide) (dev12_eq c _) rfl)
  isplitr; · iexact HR
  isplitl [HO]; · iexact HO
  isplitl [Ht]; · iexact Ht
  isplitl [Hp]; · iexact Hp
  iintro HO
  ihave HB := (peel 12 15 (by decide)) $$ HB; icases HB with ⟨⟨Ht, Hp⟩, HB⟩
  iapply (sig_step I K c 12 (by decide) (dev13_eq c _) rfl)
  isplitr; · iexact HR
  isplitl [HO]; · iexact HO
  isplitl [Ht]; · iexact Ht
  isplitl [Hp]; · iexact Hp
  iintro HO
  ihave HB := (peel 13 15 (by decide)) $$ HB; icases HB with ⟨⟨Ht, Hp⟩, HB⟩
  iapply (sig_step I K c 13 (by decide) (dev14_eq c _) rfl)
  isplitr; · iexact HR
  isplitl [HO]; · iexact HO
  isplitl [Ht]; · iexact Ht
  isplitl [Hp]; · iexact Hp
  iintro HO
  ihave HB := (peel 14 15 (by decide)) $$ HB; icases HB with ⟨⟨Ht, Hp⟩, HB⟩
  iapply (sig_step I K c 14 (by decide) (dev15_eq c _) rfl)
  isplitr; · iexact HR
  isplitl [HO]; · iexact HO
  isplitl [Ht]; · iexact Ht
  isplitl [Hp]; · iexact Hp
  iintro HO
  iapply Hk; iexact HO

/-! ## The first copy -/
/-- The fifteen barrier payloads by what they are for. -/
theorem bar_split (c : Dev nD) : bigSep (Finset.Ico 1 16) (barPay (F := F) c)
    ⊢ iprop((∃ f, rsPts (F := F) (peer c (mOf 0)) (pA 0) (pB 0) f)
      ∗ (bigSep (Finset.Ico 1 8) fun i => iprop(∃ f, rsPts (F := F) (peer c (mOf i)) (pA i) (pB i) f))
      ∗ (bigSep (Finset.Ico 0 15) fun j => iprop(∃ f, gbPts (F := F) (peer c (j + 1)) (mLo c) (mLo c + 16) fullShare f))) := by
  unfold barPay
  iintro H
  ihave Hz := (none_yet (F := F) (Φ := fun i => iprop(∃ f, rsPts (F := F) (peer c (mOf i)) (pA i) (pB i) f)) 1) $$ []
  · iempintro
  ihave Hg := (none_yet (F := F) (Φ := fun j => iprop(∃ f, gbPts (F := F) (peer c (j + 1)) (mLo c) (mLo c + 16) fullShare f)) 0) $$ []
  · iempintro
  ihave H := (peel 1 16 (by decide)) $$ H; icases H with ⟨⟨Hr1, Hb⟩, H⟩
  ihave Hg := (push (F := F) 0 0 (by decide)) $$ [Hg Hb]
  · isplitl [Hg]; · iexact Hg
    iexact Hb
  ihave H := (peel 2 16 (by decide)) $$ H; icases H with ⟨⟨Hr, Hb⟩, H⟩
  ihave Hg := (push (F := F) 0 1 (by decide)) $$ [Hg Hb]
  · isplitl [Hg]; · iexact Hg
    iexact Hb
  ihave Hz := (push (F := F) 1 1 (by decide)) $$ [Hz Hr]
  · isplitl [Hz]; · iexact Hz
    iexact Hr
  ihave H := (peel 3 16 (by decide)) $$ H; icases H with ⟨⟨Hr, Hb⟩, H⟩
  ihave Hg := (push (F := F) 0 2 (by decide)) $$ [Hg Hb]
  · isplitl [Hg]; · iexact Hg
    iexact Hb
  ihave H := (peel 4 16 (by decide)) $$ H; icases H with ⟨⟨Hr, Hb⟩, H⟩
  ihave Hg := (push (F := F) 0 3 (by decide)) $$ [Hg Hb]
  · isplitl [Hg]; · iexact Hg
    iexact Hb
  ihave Hz := (push (F := F) 1 2 (by decide)) $$ [Hz Hr]
  · isplitl [Hz]; · iexact Hz
    iexact Hr
  ihave H := (peel 5 16 (by decide)) $$ H; icases H with ⟨⟨Hr, Hb⟩, H⟩
  ihave Hg := (push (F := F) 0 4 (by decide)) $$ [Hg Hb]
  · isplitl [Hg]; · iexact Hg
    iexact Hb
  ihave H := (peel 6 16 (by decide)) $$ H; icases H with ⟨⟨Hr, Hb⟩, H⟩
  ihave Hg := (push (F := F) 0 5 (by decide)) $$ [Hg Hb]
  · isplitl [Hg]; · iexact Hg
    iexact Hb
  ihave Hz := (push (F := F) 1 3 (by decide)) $$ [Hz Hr]
  · isplitl [Hz]; · iexact Hz
    iexact Hr
  ihave H := (peel 7 16 (by decide)) $$ H; icases H with ⟨⟨Hr, Hb⟩, H⟩
  ihave Hg := (push (F := F) 0 6 (by decide)) $$ [Hg Hb]
  · isplitl [Hg]; · iexact Hg
    iexact Hb
  ihave H := (peel 8 16 (by decide)) $$ H; icases H with ⟨⟨Hr, Hb⟩, H⟩
  ihave Hg := (push (F := F) 0 7 (by decide)) $$ [Hg Hb]
  · isplitl [Hg]; · iexact Hg
    iexact Hb
  ihave Hz := (push (F := F) 1 4 (by decide)) $$ [Hz Hr]
  · isplitl [Hz]; · iexact Hz
    iexact Hr
  ihave H := (peel 9 16 (by decide)) $$ H; icases H with ⟨⟨Hr, Hb⟩, H⟩
  ihave Hg := (push (F := F) 0 8 (by decide)) $$ [Hg Hb]
  · isplitl [Hg]; · iexact Hg
    iexact Hb
  ihave H := (peel 10 16 (by decide)) $$ H; icases H with ⟨⟨Hr, Hb⟩, H⟩
  ihave Hg := (push (F := F) 0 9 (by decide)) $$ [Hg Hb]
  · isplitl [Hg]; · iexact Hg
    iexact Hb
  ihave Hz := (push (F := F) 1 5 (by decide)) $$ [Hz Hr]
  · isplitl [Hz]; · iexact Hz
    iexact Hr
  ihave H := (peel 11 16 (by decide)) $$ H; icases H with ⟨⟨Hr, Hb⟩, H⟩
  ihave Hg := (push (F := F) 0 10 (by decide)) $$ [Hg Hb]
  · isplitl [Hg]; · iexact Hg
    iexact Hb
  ihave H := (peel 12 16 (by decide)) $$ H; icases H with ⟨⟨Hr, Hb⟩, H⟩
  ihave Hg := (push (F := F) 0 11 (by decide)) $$ [Hg Hb]
  · isplitl [Hg]; · iexact Hg
    iexact Hb
  ihave Hz := (push (F := F) 1 6 (by decide)) $$ [Hz Hr]
  · isplitl [Hz]; · iexact Hz
    iexact Hr
  ihave H := (peel 13 16 (by decide)) $$ H; icases H with ⟨⟨Hr, Hb⟩, H⟩
  ihave Hg := (push (F := F) 0 12 (by decide)) $$ [Hg Hb]
  · isplitl [Hg]; · iexact Hg
    iexact Hb
  ihave H := (peel 14 16 (by decide)) $$ H; icases H with ⟨⟨Hr, Hb⟩, H⟩
  ihave Hg := (push (F := F) 0 13 (by decide)) $$ [Hg Hb]
  · isplitl [Hg]; · iexact Hg
    iexact Hb
  ihave Hz := (push (F := F) 1 7 (by decide)) $$ [Hz Hr]
  · isplitl [Hz]; · iexact Hz
    iexact Hr
  ihave H := (peel 15 16 (by decide)) $$ H; icases H with ⟨⟨Hr, Hb⟩, H⟩
  ihave Hg := (push (F := F) 0 14 (by decide)) $$ [Hg Hb]
  · isplitl [Hg]; · iexact Hg
    iexact Hb
  isplitl [Hr1]; · iexact Hr1
  isplitl [Hz]; · iexact Hz
  iexact Hg

theorem first_eq (c : Dev nD) {y : S240x1152.Idx} (hy : y ∈ rowSet (n := 240) (m := 1152) 0 128) :
    firstV I c (ix2 128 1152 ((y 0).val - 0) (y 1).val) = sendV I c y := by
  rw [mem_rowSet] at hy
  unfold sendV; rw [if_pos hy.2]; rfl

/-- `f` holds, on the rows `[lo, hi)`, what `g` holds. -/
def Agrees (lo hi : ℕ) (f g : Vec F S256x1152 .f32) : Prop := ∀ y ∈ rowSet (n := 256) (m := 1152) lo hi, f y = g y
theorem agrees_rows {lo hi k : ℕ} [NeZero k] {f g : Vec F S256x1152 .f32} (h : Agrees lo hi f g) {a : ℕ} (h1 : lo ≤ a) (h2 : a + k ≤ hi) (h3 : hi ≤ 256) :
    (fun x : (⟨2, ![k, 1152]⟩ : Shape).Idx => f (ix2 256 1152 (a + (x 0).val) (x 1).val)) = fun x => g (ix2 256 1152 (a + (x 0).val) (x 1).val) :=
  funext fun x => h _ (by
    have := lt0 x
    rw [mem_rowSet, ix2_0, Nat.mod_eq_of_lt (by omega)]; omega)
theorem sLo_le (c : Dev nD) : sLo c + 128 ≤ 256 := by have := kLo_cases c; omega
theorem kLo_le (c : Dev nD) : kLo c + 128 ≤ 256 := by have := kLo_cases c; omega

theorem s3_run (K : Dev nD × Fin 47 → ℕ) (c : Dev nD) (fa : Vec F S256x1152 .f32) (hfa : Agrees (sLo c) (sLo c + 128) fa (accV I c))
    {α : Type} {Q : α → sProp 𝕄} {κ : Prog (TpuEff nD τ sig (Elt F) Λ₀ .tc) α} :
    iprop(records I K ∗ levAts L lv ∗ owesE c 15 ∗ credAt (c, 46) 15 ∗ posAt (c, 46)
        ∗ accPts c fa ∗ (∃ f, ssPts (F := F) c 0 128 f) ∗ tokAt (c, 0) 0 ∗ tokAt (peer c 1, 8) 0
        ∗ ((owesE c 16 ∗ zeroAt (c, 46) ∗ accPts c fa ∗ credAt (c, 0) (amtQ 12)
            ∗ (bigSep (Finset.Ico 1 8) fun i => iprop(∃ f, rsPts (F := F) (peer c (mOf i)) (pA i) (pB i) f))
            ∗ (bigSep (Finset.Ico 0 15) fun j => iprop(∃ f, gbPts (F := F) (peer c (j + 1)) (mLo c) (mLo c + 16) fullShare f))) -∗ WP c κ Q))
      ⊢ WP c (s3 accM ssM (Memref.isWhole_whole _) rsM (Memref.isWhole_whole _) cc0_scratch9 cc0_scratch10 c κ) Q := by
  unfold s3
  iintro ⟨#HR, #HL, HO, Hc, Hp, Ha, ⟨%fs, Hs⟩, Ht1, Ht2, Hk⟩
  iapply (bar_step I K c rfl)
  isplitr; · iexact HR
  isplitr; · iexact HL
  isplitl [Hc]; · iexact Hc
  isplitl [HO]; · iexact HO
  isplitl [Hp]; · iexact Hp
  iintro ⟨HO, Hz, Hb⟩
  ihave Hb := (bar_split (F := F) c) $$ Hb
  icases Hb with ⟨Hr1, Hrs, Hgs⟩
  iapply (load_step c (m := accM) (Finset.subset_univ _))
  isplitl [Ha]; · iexact Ha
  iintro Ha
  iapply (load_step c (m := ssM) (by rw [set_ss rfl]))
  isplitl [Hs]; · iexact Hs
  iintro Hs
  iapply (store_step c (m := ssM) (sendV I c) (by rw [set_ss rfl]) (fun y hy => by
    refine (write_ss rfl _ _ _ hy).trans ?_
    rw [read_acc (off11_eq c)]
    refine (congrFun ?_ _).trans (first_eq I c hy)
    unfold firstV rowsA
    exact congrArg k0_pay60 (agrees_rows hfa le_rfl le_rfl (sLo_le c))))
  isplitl [Hs]; · iexact Hs
  iintro Hs
  iapply (send_ss I K c 0 (by decide) 0 8 rfl rfl (amtQ 12) rfl rfl rfl rfl rfl 128 0 rfl inb_S240x1152_S128x1152_0_0 rfl rfl (dev16_eq c _)
    ((SemArray.slice cc0_scratch9 (Rect.unit ![0] S1.size inb_S8_S1_0)).squeeze S_ squeezes_S1_S_).sem
    ((SemArray.slice cc0_scratch10 (Rect.unit ![0] S1.size inb_S8_S1_0)).squeeze S_ squeezes_S1_S_).sem rfl rfl rfl)
  isplitr; · iexact HR
  isplitl [Hs]; · iexact Hs
  isplitl [Hr1]; · iexact Hr1
  isplitl [HO]; · iexact HO
  isplitl [Ht1]; · iexact Ht1
  isplitl [Ht2]; · iexact Ht2
  iintro ⟨Hc, HO⟩
  iapply Hk
  isplitl [HO]; · iexact HO
  isplitl [Hz]; · iexact Hz
  isplitl [Ha]; · iexact Ha
  isplitl [Hc]; · iexact Hc
  isplitl [Hrs]; · iexact Hrs
  iexact Hgs

end Cert.KernelIdeal.Run
-- ==== Proof.Second.lean ====
module

public import proofs.«01_k».proof.Proof.First
@[expose] public section
set_option maxRecDepth 16384
noncomputable section
/-! # The kept half's sum and the second exchange -/
namespace Cert.KernelIdeal.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ UU ℕ

variable (I : Ins F)

abbrev fk (n : ℕ) : Fin 47 := Fin.ofNat 47 n

theorem pay_lv : ∀ i, i < 38 → 0 < lvS (csem (payAt i).2.1) := by decide +kernel
theorem pay_lv16 : ∀ i, i < 38 → 16 ≤ i → 2 < lvS (csem (payAt i).2.1) := by decide +kernel
theorem pay_lv23 : ∀ i, i < 38 → 23 ≤ i → 3 < lvS (csem (payAt i).2.1) := by decide +kernel
theorem landV_rows0 (c : Dev nD) :
    (fun x : (⟨2, ![128, 1152]⟩ : Shape).Idx => landV I c (ix2 240 1152 (0 + (x 0).val) (x 1).val)) = firstV I (peer c 1) :=
  funext fun x => by
    have h0 := lt0 x
    have h1 := lt1 x
    have e0 : ((ix2 240 1152 (0 + (x 0).val) (x 1).val) 0).val = (x 0).val := by rw [ix2_0, Nat.mod_eq_of_lt (by omega)]; omega
    have e1 : ((ix2 240 1152 (0 + (x 0).val) (x 1).val) 1).val = (x 1).val := by rw [ix2_1, Nat.mod_eq_of_lt h1]
    unfold landV sendV
    rw [e0, e1, if_pos h0, show mRow (x 0).val = 1 from if_pos h0]
    exact congrArg _ (ix2_eq rfl rfl)
theorem landV_rows (c : Dev nD) {i : ℕ} (h1i : 1 ≤ i) (hi : i < 8) :
    (fun x : (⟨2, ![16, 1152]⟩ : Shape).Idx => landV I c (ix2 240 1152 (pA i + (x 0).val) (x 1).val)) = secondV I (peer c (2 * i)) (2 * i) :=
  funext fun x => by
    have h0 := lt0 x
    have h1 := lt1 x
    have hA : pA i = 112 + 16 * i := if_neg (by omega)
    have e0 : ((ix2 240 1152 (pA i + (x 0).val) (x 1).val) 0).val = pA i + (x 0).val := by rw [ix2_0, Nat.mod_eq_of_lt (by omega)]
    have e1 : ((ix2 240 1152 (pA i + (x 0).val) (x 1).val) 1).val = (x 1).val := by rw [ix2_1, Nat.mod_eq_of_lt h1]
    have hm : mRow (pA i + (x 0).val) = 2 * i := by unfold mRow; rw [if_neg (by omega)]; omega
    unfold landV sendV
    rw [e0, e1, if_neg (by omega), hm]
    exact congrArg _ (ix2_eq (by omega) rfl)

theorem second_eq (c : Dev nD) {i : ℕ} (h1i : 1 ≤ i) (hi : i < 8) (w : Vec F S16x1152 .bf16) (hw : w = secondV I c (2 * i))
    {lo : ℕ} (hA : pA i = lo) {y : S240x1152.Idx} (hy : y ∈ rowSet (n := 240) (m := 1152) lo (lo + 16)) :
    w (ix2 16 1152 ((y 0).val - lo) (y 1).val) = sendV I c y := by
  rw [mem_rowSet] at hy
  have hA' : pA i = 112 + 16 * i := if_neg (by omega)
  have hm : mRow (y 0).val = 2 * i := by unfold mRow; rw [if_neg (by omega)]; omega
  unfold sendV; rw [if_neg (by omega), hm, hw]
  congr 1
  rw [show ((y 0).val - 128) % 16 = (y 0).val - lo by omega]

theorem kLo_peer' (c : Dev nD) {i : ℕ} (h1i : 1 ≤ i) (hi : i < 8) : kLo (peer c (2 * i)) = kLo c := by
  have := kLo_peer c ⟨i - 1, by omega⟩
  rwa [show 2 * ((⟨i - 1, by omega⟩ : Fin 7).val + 1) = 2 * i by show 2 * (i - 1 + 1) = _; omega] at this

/-- The sixteen rows for the peer at mask `2 i`, read after the first exchange. -/
theorem rows_second (c : Dev nD) {fa : Vec F S256x1152 .f32} (h : Agrees (kLo c) (kLo c + 128) fa (sumV I c)) {i : ℕ} (h1i : 1 ≤ i) (hi : i < 8) :
    (fun x : (⟨2, ![16, 1152]⟩ : Shape).Idx => fa (ix2 256 1152 (mLo (peer c (2 * i)) + (x 0).val) (x 1).val))
      = rowsB (mLo (peer c (2 * i))) (sumV I c) := by
  have hb := mLo_bounds (peer c (2 * i))
  rw [kLo_peer' c h1i hi] at hb
  exact agrees_rows h hb.1 hb.2.1 (kLo_le c)
theorem rows_own (c : Dev nD) {fa : Vec F S256x1152 .f32} (h : Agrees (kLo c) (kLo c + 128) fa (sumV I c)) :
    (fun x : (⟨2, ![16, 1152]⟩ : Shape).Idx => fa (ix2 256 1152 (mLo c + (x 0).val) (x 1).val)) = rowsB (mLo c) (sumV I c) :=
  agrees_rows h (mLo_bounds c).1 (mLo_bounds c).2.1 (kLo_le c)

set_option maxHeartbeats 2000000 in
theorem s5_run (K : Dev nD × Fin 47 → ℕ) (c : Dev nD) (fa : Vec F S256x1152 .f32) (hfa : Agrees (kLo c) (kLo c + 128) fa (accV I c))
    {α : Type} {Q : α → sProp 𝕄} {κ : Prog (TpuEff nD τ sig (Elt F) Λ₀ .tc) α} :
    iprop(records I K ∗ levAts L lv ∗ owesE c 16 ∗ credAt (c, 0) (amtQ 12) ∗ credAt (c, 8) (amtQ 12) ∗ posAt (c, 0) ∗ posAt (c, 8)
        ∗ accPts c fa
        ∗ ((owesE c 16 ∗ zeroAt (c, 0) ∗ zeroAt (c, 8) ∗ (∃ fa', ⌜Agrees (kLo c) (kLo c + 128) fa' (sumV I c)⌝ ∗ accPts c fa')
            ∗ ssPts c (pA 0) (pB 0) (sendV I c) ∗ rsPts c (pA 0) (pB 0) (landV I c)) -∗ WP c κ Q))
      ⊢ WP c (s5 accM ssM (Memref.isWhole_whole _) rsM (Memref.isWhole_whole _) cc0_scratch9 cc0_scratch10 c κ) Q := by
  unfold s5
  iintro ⟨#HR, #HL, HO, Hc0, Hc8, Hp0, Hp8, Ha, Hk⟩
  iapply (wait_ss I K c 16 0 (by decide) 0 rfl (amtQ 12) (fun i h _ => pay_lv i h) rfl rfl 128 0 rfl inb_S240x1152_S128x1152_0_0
    ((SemArray.slice cc0_scratch9 (Rect.unit ![0] S1.size inb_S8_S1_0)).squeeze S_ squeezes_S1_S_).sem rfl rfl)
  isplitr; · iexact HR
  isplitr; · iexact HL
  isplitl [Hc0]; · iexact Hc0
  isplitl [HO]; · iexact HO
  isplitl [Hp0]; · iexact Hp0
  iintro ⟨HO, Hz0, Hs⟩
  iapply (wait_rs I K c 16 0 (by decide) 8 rfl (amtQ 12) pay_lv16 rfl rfl 128 0 rfl inb_S240x1152_S128x1152_0_0
    ((SemArray.slice cc0_scratch10 (Rect.unit ![0] S1.size inb_S8_S1_0)).squeeze S_ squeezes_S1_S_).sem rfl rfl)
  isplitr; · iexact HR
  isplitr; · iexact HL
  isplitl [Hc8]; · iexact Hc8
  isplitl [HO]; · iexact HO
  isplitl [Hp8]; · iexact Hp8
  iintro ⟨HO, Hz8, Hr⟩
  iapply (load_acc c 128 (kLo c) (off22_eq c) _ (rowsA (kLo c) (accV I c)) (agrees_rows hfa le_rfl le_rfl (kLo_le c)))
  isplitl [Ha]; · iexact Ha
  iintro Ha
  iapply (load_rs c 128 0 rfl inb_S240x1152_S128x1152_0_0 rfl rfl (firstV I (peer c 1)) (landV_rows0 I c))
  isplitl [Hr]; · iexact Hr
  iintro Hr
  iapply (load_acc c 128 (kLo c) (off22_eq c) _ _ rfl)
  isplitl [Ha]; · iexact Ha
  iintro Ha
  iapply (store_acc c 128 (kLo c) (off22_eq c) _ (sumV I c) (fun y h1 h2 => by
    have hk := kLo_cases c
    unfold sumV
    rw [show (y 0).val % 128 = (y 0).val - kLo c by omega]
    rfl))
  isplitl [Ha]; · iexact Ha
  iintro Ha
  iapply Hk
  isplitl [HO]; · iexact HO
  isplitl [Hz0]; · iexact Hz0
  isplitl [Hz8]; · iexact Hz8
  isplitl [Ha]; · iexact Ha
  isplitl [Hs]; · iexact Hs
  iexact Hr

set_option maxHeartbeats 2000000 in
/-- Copies on the send side of the second exchange. -/
theorem s6_run (K : Dev nD × Fin 47 → ℕ) (c : Dev nD) (fa : Vec F S256x1152 .f32) (hfa : Agrees (kLo c) (kLo c + 128) fa (sumV I c))
    {α : Type} {Q : α → sProp 𝕄} {κ : Prog (TpuEff nD τ sig (Elt F) Λ₀ .tc) α} :
    iprop(records I K ∗ owesE c 16 ∗ accPts c fa
        ∗ (bigSep (Finset.Ico 1 8) fun i => iprop(∃ f, ssPts (F := F) c (pA i) (pB i) f))
        ∗ (bigSep (Finset.Ico 1 8) fun i => iprop(∃ f, rsPts (F := F) (peer c (mOf i)) (pA i) (pB i) f))
        ∗ (bigSep (Finset.Ico 1 8) fun i => iprop(tokAt (F := F) (c, fk i) 0 ∗ tokAt (peer c (mOf i), fk (8 + i)) 0))
        ∗ ((owesE c 23 ∗ accPts c fa ∗ (bigSep (Finset.Ico 1 8) fun i => credAt (F := F) (c, fk i) (amtQ 13))) -∗ WP c κ Q))
      ⊢ WP c (s6 accM ssM (Memref.isWhole_whole _) rsM (Memref.isWhole_whole _) cc0_scratch9 cc0_scratch10 c κ) Q := by
  unfold s6
  iintro ⟨#HR, HO, Ha, Hss, Hrs, Hts, Hk⟩
  ihave Hcs := (none_yet (F := F) (Φ := fun i => credAt (F := F) (c, fk i) (amtQ 13)) 1) $$ []
  · iempintro
  ihave Hss := (peel 1 8 (by decide)) $$ Hss; icases Hss with ⟨⟨%f1, Hs⟩, Hss⟩
  ihave Hrs := (peel 1 8 (by decide)) $$ Hrs; icases Hrs with ⟨Hr, Hrs⟩
  ihave Hts := (peel 1 8 (by decide)) $$ Hts; icases Hts with ⟨⟨Ht1, Ht2⟩, Hts⟩
  iapply (load_acc c 16 (mLo (peer c 2)) (off23_2_eq c) _ _ (rows_second I c hfa (i := 1) (by decide) (by decide)))
  isplitl [Ha]; · iexact Ha
  iintro Ha
  iapply (load_ss c 16 128 rfl inb_S240x1152_S16x1152_128_0 rfl rfl _ rfl)
  isplitl [Hs]; · iexact Hs
  iintro Hs
  iapply (store_ss c 16 128 rfl inb_S240x1152_S16x1152_128_0 rfl rfl (sendV I c) (fun y h1 h2 => second_eq I c (i := 1) (by decide) (by decide) _ rfl rfl (mem_rowSet.mpr ⟨h1, h2⟩)))
  isplitl [Hs]; · iexact Hs
  iintro Hs
  iapply (send_ss I K c 1 (by decide) (fk 1) (fk (8 + 1)) rfl rfl (amtQ 13) rfl rfl rfl rfl rfl 16 128 rfl inb_S240x1152_S16x1152_128_0 rfl rfl (dev17_eq c _)
    ((SemArray.slice cc0_scratch9 (Rect.unit ![1] S1.size inb_S8_S1_1)).squeeze S_ squeezes_S1_S_).sem
    ((SemArray.slice cc0_scratch10 (Rect.unit ![1] S1.size inb_S8_S1_1)).squeeze S_ squeezes_S1_S_).sem rfl rfl rfl)
  isplitr; · iexact HR
  isplitl [Hs]; · iexact Hs
  isplitl [Hr]; · iexact Hr
  isplitl [HO]; · iexact HO
  isplitl [Ht1]; · iexact Ht1
  isplitl [Ht2]; · iexact Ht2
  iintro ⟨Hc, HO⟩
  ihave Hcs := (push (F := F) 1 1 (by decide)) $$ [Hcs Hc]
  · isplitl [Hcs]; · iexact Hcs
    iexact Hc
  ihave Hss := (peel 2 8 (by decide)) $$ Hss; icases Hss with ⟨⟨%f2, Hs⟩, Hss⟩
  ihave Hrs := (peel 2 8 (by decide)) $$ Hrs; icases Hrs with ⟨Hr, Hrs⟩
  ihave Hts := (peel 2 8 (by decide)) $$ Hts; icases Hts with ⟨⟨Ht1, Ht2⟩, Hts⟩
  iapply (load_acc c 16 (mLo (peer c 4)) (off23_4_eq c) _ _ (rows_second I c hfa (i := 2) (by decide) (by decide)))
  isplitl [Ha]; · iexact Ha
  iintro Ha
  iapply (load_ss c 16 144 rfl inb_S240x1152_S16x1152_144_0 rfl rfl _ rfl)
  isplitl [Hs]; · iexact Hs
  iintro Hs
  iapply (store_ss c 16 144 rfl inb_S240x1152_S16x1152_144_0 rfl rfl (sendV I c) (fun y h1 h2 => second_eq I c (i := 2) (by decide) (by decide) _ rfl rfl (mem_rowSet.mpr ⟨h1, h2⟩)))
  isplitl [Hs]; · iexact Hs
  iintro Hs
  iapply (send_ss I K c 2 (by decide) (fk 2) (fk (8 + 2)) rfl rfl (amtQ 13) rfl rfl rfl rfl rfl 16 144 rfl inb_S240x1152_S16x1152_144_0 rfl rfl (dev18_eq c _)
    ((SemArray.slice cc0_scratch9 (Rect.unit ![2] S1.size inb_S8_S1_2)).squeeze S_ squeezes_S1_S_).sem
    ((SemArray.slice cc0_scratch10 (Rect.unit ![2] S1.size inb_S8_S1_2)).squeeze S_ squeezes_S1_S_).sem rfl rfl rfl)
  isplitr; · iexact HR
  isplitl [Hs]; · iexact Hs
  isplitl [Hr]; · iexact Hr
  isplitl [HO]; · iexact HO
  isplitl [Ht1]; · iexact Ht1
  isplitl [Ht2]; · iexact Ht2
  iintro ⟨Hc, HO⟩
  ihave Hcs := (push (F := F) 1 2 (by decide)) $$ [Hcs Hc]
  · isplitl [Hcs]; · iexact Hcs
    iexact Hc
  ihave Hss := (peel 3 8 (by decide)) $$ Hss; icases Hss with ⟨⟨%f3, Hs⟩, Hss⟩
  ihave Hrs := (peel 3 8 (by decide)) $$ Hrs; icases Hrs with ⟨Hr, Hrs⟩
  ihave Hts := (peel 3 8 (by decide)) $$ Hts; icases Hts with ⟨⟨Ht1, Ht2⟩, Hts⟩
  iapply (load_acc c 16 (mLo (peer c 6)) (off23_6_eq c) _ _ (rows_second I c hfa (i := 3) (by decide) (by decide)))
  isplitl [Ha]; · iexact Ha
  iintro Ha
  iapply (load_ss c 16 160 rfl inb_S240x1152_S16x1152_160_0 rfl rfl _ rfl)
  isplitl [Hs]; · iexact Hs
  iintro Hs
  iapply (store_ss c 16 160 rfl inb_S240x1152_S16x1152_160_0 rfl rfl (sendV I c) (fun y h1 h2 => second_eq I c (i := 3) (by decide) (by decide) _ rfl rfl (mem_rowSet.mpr ⟨h1, h2⟩)))
  isplitl [Hs]; · iexact Hs
  iintro Hs
  iapply (send_ss I K c 3 (by decide) (fk 3) (fk (8 + 3)) rfl rfl (amtQ 13) rfl rfl rfl rfl rfl 16 160 rfl inb_S240x1152_S16x1152_160_0 rfl rfl (dev19_eq c _)
    ((SemArray.slice cc0_scratch9 (Rect.unit ![3] S1.size inb_S8_S1_3)).squeeze S_ squeezes_S1_S_).sem
    ((SemArray.slice cc0_scratch10 (Rect.unit ![3] S1.size inb_S8_S1_3)).squeeze S_ squeezes_S1_S_).sem rfl rfl rfl)
  isplitr; · iexact HR
  isplitl [Hs]; · iexact Hs
  isplitl [Hr]; · iexact Hr
  isplitl [HO]; · iexact HO
  isplitl [Ht1]; · iexact Ht1
  isplitl [Ht2]; · iexact Ht2
  iintro ⟨Hc, HO⟩
  ihave Hcs := (push (F := F) 1 3 (by decide)) $$ [Hcs Hc]
  · isplitl [Hcs]; · iexact Hcs
    iexact Hc
  ihave Hss := (peel 4 8 (by decide)) $$ Hss; icases Hss with ⟨⟨%f4, Hs⟩, Hss⟩
  ihave Hrs := (peel 4 8 (by decide)) $$ Hrs; icases Hrs with ⟨Hr, Hrs⟩
  ihave Hts := (peel 4 8 (by decide)) $$ Hts; icases Hts with ⟨⟨Ht1, Ht2⟩, Hts⟩
  iapply (load_acc c 16 (mLo (peer c 8)) (off23_8_eq c) _ _ (rows_second I c hfa (i := 4) (by decide) (by decide)))
  isplitl [Ha]; · iexact Ha
  iintro Ha
  iapply (load_ss c 16 176 rfl inb_S240x1152_S16x1152_176_0 rfl rfl _ rfl)
  isplitl [Hs]; · iexact Hs
  iintro Hs
  iapply (store_ss c 16 176 rfl inb_S240x1152_S16x1152_176_0 rfl rfl (sendV I c) (fun y h1 h2 => second_eq I c (i := 4) (by decide) (by decide) _ rfl rfl (mem_rowSet.mpr ⟨h1, h2⟩)))
  isplitl [Hs]; · iexact Hs
  iintro Hs
  iapply (send_ss I K c 4 (by decide) (fk 4) (fk (8 + 4)) rfl rfl (amtQ 13) rfl rfl rfl rfl rfl 16 176 rfl inb_S240x1152_S16x1152_176_0 rfl rfl (dev20_eq c _)
    ((SemArray.slice cc0_scratch9 (Rect.unit ![4] S1.size inb_S8_S1_4)).squeeze S_ squeezes_S1_S_).sem
    ((SemArray.slice cc0_scratch10 (Rect.unit ![4] S1.size inb_S8_S1_4)).squeeze S_ squeezes_S1_S_).sem rfl rfl rfl)
  isplitr; · iexact HR
  isplitl [Hs]; · iexact Hs
  isplitl [Hr]; · iexact Hr
  isplitl [HO]; · iexact HO
  isplitl [Ht1]; · iexact Ht1
  isplitl [Ht2]; · iexact Ht2
  iintro ⟨Hc, HO⟩
  ihave Hcs := (push (F := F) 1 4 (by decide)) $$ [Hcs Hc]
  · isplitl [Hcs]; · iexact Hcs
    iexact Hc
  ihave Hss := (peel 5 8 (by decide)) $$ Hss; icases Hss with ⟨⟨%f5, Hs⟩, Hss⟩
  ihave Hrs := (peel 5 8 (by decide)) $$ Hrs; icases Hrs with ⟨Hr, Hrs⟩
  ihave Hts := (peel 5 8 (by decide)) $$ Hts; icases Hts with ⟨⟨Ht1, Ht2⟩, Hts⟩
  iapply (load_acc c 16 (mLo (peer c 10)) (off23_10_eq c) _ _ (rows_second I c hfa (i := 5) (by decide) (by decide)))
  isplitl [Ha]; · iexact Ha
  iintro Ha
  iapply (load_ss c 16 192 rfl inb_S240x1152_S16x1152_192_0 rfl rfl _ rfl)
  isplitl [Hs]; · iexact Hs
  iintro Hs
  iapply (store_ss c 16 192 rfl inb_S240x1152_S16x1152_192_0 rfl rfl (sendV I c) (fun y h1 h2 => second_eq I c (i := 5) (by decide) (by decide) _ rfl rfl (mem_rowSet.mpr ⟨h1, h2⟩)))
  isplitl [Hs]; · iexact Hs
  iintro Hs
  iapply (send_ss I K c 5 (by decide) (fk 5) (fk (8 + 5)) rfl rfl (amtQ 13) rfl rfl rfl rfl rfl 16 192 rfl inb_S240x1152_S16x1152_192_0 rfl rfl (dev21_eq c _)
    ((SemArray.slice cc0_scratch9 (Rect.unit ![5] S1.size inb_S8_S1_5)).squeeze S_ squeezes_S1_S_).sem
    ((SemArray.slice cc0_scratch10 (Rect.unit ![5] S1.size inb_S8_S1_5)).squeeze S_ squeezes_S1_S_).sem rfl rfl rfl)
  isplitr; · iexact HR
  isplitl [Hs]; · iexact Hs
  isplitl [Hr]; · iexact Hr
  isplitl [HO]; · iexact HO
  isplitl [Ht1]; · iexact Ht1
  isplitl [Ht2]; · iexact Ht2
  iintro ⟨Hc, HO⟩
  ihave Hcs := (push (F := F) 1 5 (by decide)) $$ [Hcs Hc]
  · isplitl [Hcs]; · iexact Hcs
    iexact Hc
  ihave Hss := (peel 6 8 (by decide)) $$ Hss; icases Hss with ⟨⟨%f6, Hs⟩, Hss⟩
  ihave Hrs := (peel 6 8 (by decide)) $$ Hrs; icases Hrs with ⟨Hr, Hrs⟩
  ihave Hts := (peel 6 8 (by decide)) $$ Hts; icases Hts with ⟨⟨Ht1, Ht2⟩, Hts⟩
  iapply (load_acc c 16 (mLo (peer c 12)) (off23_12_eq c) _ _ (rows_second I c hfa (i := 6) (by decide) (by decide)))
  isplitl [Ha]; · iexact Ha
  iintro Ha
  iapply (load_ss c 16 208 rfl inb_S240x1152_S16x1152_208_0 rfl rfl _ rfl)
  isplitl [Hs]; · iexact Hs
  iintro Hs
  iapply (store_ss c 16 208 rfl inb_S240x1152_S16x1152_208_0 rfl rfl (sendV I c) (fun y h1 h2 => second_eq I c (i := 6) (by decide) (by decide) _ rfl rfl (mem_rowSet.mpr ⟨h1, h2⟩)))
  isplitl [Hs]; · iexact Hs
  iintro Hs
  iapply (send_ss I K c 6 (by decide) (fk 6) (fk (8 + 6)) rfl rfl (amtQ 13) rfl rfl rfl rfl rfl 16 208 rfl inb_S240x1152_S16x1152_208_0 rfl rfl (dev22_eq c _)
    ((SemArray.slice cc0_scratch9 (Rect.unit ![6] S1.size inb_S8_S1_6)).squeeze S_ squeezes_S1_S_).sem
    ((SemArray.slice cc0_scratch10 (Rect.unit ![6] S1.size inb_S8_S1_6)).squeeze S_ squeezes_S1_S_).sem rfl rfl rfl)
  isplitr; · iexact HR
  isplitl [Hs]; · iexact Hs
  isplitl [Hr]; · iexact Hr
  isplitl [HO]; · iexact HO
  isplitl [Ht1]; · iexact Ht1
  isplitl [Ht2]; · iexact Ht2
  iintro ⟨Hc, HO⟩
  ihave Hcs := (push (F := F) 1 6 (by decide)) $$ [Hcs Hc]
  · isplitl [Hcs]; · iexact Hcs
    iexact Hc
  ihave Hss := (peel 7 8 (by decide)) $$ Hss; icases Hss with ⟨⟨%f7, Hs⟩, Hss⟩
  ihave Hrs := (peel 7 8 (by decide)) $$ Hrs; icases Hrs with ⟨Hr, Hrs⟩
  ihave Hts := (peel 7 8 (by decide)) $$ Hts; icases Hts with ⟨⟨Ht1, Ht2⟩, Hts⟩
  iapply (load_acc c 16 (mLo (peer c 14)) (off23_14_eq c) _ _ (rows_second I c hfa (i := 7) (by decide) (by decide)))
  isplitl [Ha]; · iexact Ha
  iintro Ha
  iapply (load_ss c 16 224 rfl inb_S240x1152_S16x1152_224_0 rfl rfl _ rfl)
  isplitl [Hs]; · iexact Hs
  iintro Hs
  iapply (store_ss c 16 224 rfl inb_S240x1152_S16x1152_224_0 rfl rfl (sendV I c) (fun y h1 h2 => second_eq I c (i := 7) (by decide) (by decide) _ rfl rfl (mem_rowSet.mpr ⟨h1, h2⟩)))
  isplitl [Hs]; · iexact Hs
  iintro Hs
  iapply (send_ss I K c 7 (by decide) (fk 7) (fk (8 + 7)) rfl rfl (amtQ 13) rfl rfl rfl rfl rfl 16 224 rfl inb_S240x1152_S16x1152_224_0 rfl rfl (dev23_eq c _)
    ((SemArray.slice cc0_scratch9 (Rect.unit ![7] S1.size inb_S8_S1_7)).squeeze S_ squeezes_S1_S_).sem
    ((SemArray.slice cc0_scratch10 (Rect.unit ![7] S1.size inb_S8_S1_7)).squeeze S_ squeezes_S1_S_).sem rfl rfl rfl)
  isplitr; · iexact HR
  isplitl [Hs]; · iexact Hs
  isplitl [Hr]; · iexact Hr
  isplitl [HO]; · iexact HO
  isplitl [Ht1]; · iexact Ht1
  isplitl [Ht2]; · iexact Ht2
  iintro ⟨Hc, HO⟩
  ihave Hcs := (push (F := F) 1 7 (by decide)) $$ [Hcs Hc]
  · isplitl [Hcs]; · iexact Hcs
    iexact Hc
  iapply Hk
  isplitl [HO]; · iexact HO
  isplitl [Ha]; · iexact Ha
  iexact Hcs

set_option maxHeartbeats 2000000 in
theorem s7_run (K : Dev nD × Fin 47 → ℕ) (c : Dev nD) (fa : Vec F S256x1152 .f32) (hfa : Agrees (kLo c) (kLo c + 128) fa (sumV I c))
    {α : Type} {Q : α → sProp 𝕄} {κ : Vec F S16x1152 .f32 → Vec F S16x1152 .bf16 → Vec F S16x1152 .bf16 → Vec F S16x1152 .bf16 → Vec F S16x1152 .bf16
      → Vec F S16x1152 .bf16 → Vec F S16x1152 .bf16 → Vec F S16x1152 .bf16 → Prog (TpuEff nD τ sig (Elt F) Λ₀ .tc) α} :
    iprop(records I K ∗ levAts L lv ∗ owesE c 23 ∗ accPts c fa
        ∗ (bigSep (Finset.Ico 1 8) fun i => credAt (F := F) (c, fk i) (amtQ 13))
        ∗ (bigSep (Finset.Ico 1 8) fun i => credAt (F := F) (c, fk (8 + i)) (amtQ 13))
        ∗ (bigSep (Finset.Ico 1 8) fun i => iprop(posAt (F := F) (c, fk i) ∗ posAt (c, fk (8 + i))))
        ∗ ((owesE c 23 ∗ accPts c fa
            ∗ (bigSep (Finset.Ico 1 8) fun i => iprop(zeroAt (F := F) (c, fk i) ∗ zeroAt (c, fk (8 + i))))
            ∗ (bigSep (Finset.Ico 1 8) fun i => iprop(ssPts c (pA i) (pB i) (sendV I c) ∗ rsPts c (pA i) (pB i) (landV I c))))
          -∗ WP c (κ (rowsB (mLo c) (sumV I c)) (secondV I (peer c 2) 2) (secondV I (peer c 4) 4) (secondV I (peer c 6) 6) (secondV I (peer c 8) 8)
              (secondV I (peer c 10) 10) (secondV I (peer c 12) 12) (secondV I (peer c 14) 14)) Q))
      ⊢ WP c (s7 accM ssM (Memref.isWhole_whole _) rsM (Memref.isWhole_whole _) cc0_scratch9 cc0_scratch10 c κ) Q := by
  unfold s7
  iintro ⟨#HR, #HL, HO, Ha, Hcs, Hcr, Hps, Hk⟩
  ihave Hzs := (none_yet (F := F) (Φ := fun i => iprop(zeroAt (F := F) (c, fk i) ∗ zeroAt (c, fk (8 + i)))) 1) $$ []
  · iempintro
  ihave Hbs := (none_yet (F := F) (Φ := fun i => iprop(ssPts c (pA i) (pB i) (sendV I c) ∗ rsPts c (pA i) (pB i) (landV I c))) 1) $$ []
  · iempintro
  iapply (load_acc c 16 (mLo c) (off24_eq c) _ _ (rows_own I c hfa))
  isplitl [Ha]; · iexact Ha
  iintro Ha
  ihave Hcs := (peel 1 8 (by decide)) $$ Hcs; icases Hcs with ⟨Hc1, Hcs⟩
  ihave Hcr := (peel 1 8 (by decide)) $$ Hcr; icases Hcr with ⟨Hc2, Hcr⟩
  ihave Hps := (peel 1 8 (by decide)) $$ Hps; icases Hps with ⟨⟨Hp1, Hp2⟩, Hps⟩
  iapply (wait_ss I K c 23 1 (by decide) (fk 1) rfl (amtQ 13) (fun i h _ => pay_lv i h) rfl rfl 16 128 rfl inb_S240x1152_S16x1152_128_0
    ((SemArray.slice cc0_scratch9 (Rect.unit ![1] S1.size inb_S8_S1_1)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_rs I K c 23 1 (by decide) (fk (8 + 1)) rfl (amtQ 13) pay_lv23 rfl rfl 16 128 rfl inb_S240x1152_S16x1152_128_0
    ((SemArray.slice cc0_scratch10 (Rect.unit ![1] S1.size inb_S8_S1_1)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  iapply (load_rs c 16 128 rfl inb_S240x1152_S16x1152_128_0 rfl rfl (secondV I (peer c (2 * 1)) (2 * 1)) (landV_rows I c (i := 1) (by decide) (by decide)))
  isplitl [Hr]; · iexact Hr
  iintro Hr
  ihave Hzs := (push (F := F) 1 1 (by decide)) $$ [Hzs Hz1 Hz2]
  · isplitl [Hzs]; · iexact Hzs
    isplitl [Hz1]; · iexact Hz1
    iexact Hz2
  ihave Hbs := (push (F := F) 1 1 (by decide)) $$ [Hbs Hs Hr]
  · isplitl [Hbs]; · iexact Hbs
    isplitl [Hs]; · iexact Hs
    iexact Hr
  ihave Hcs := (peel 2 8 (by decide)) $$ Hcs; icases Hcs with ⟨Hc1, Hcs⟩
  ihave Hcr := (peel 2 8 (by decide)) $$ Hcr; icases Hcr with ⟨Hc2, Hcr⟩
  ihave Hps := (peel 2 8 (by decide)) $$ Hps; icases Hps with ⟨⟨Hp1, Hp2⟩, Hps⟩
  iapply (wait_ss I K c 23 2 (by decide) (fk 2) rfl (amtQ 13) (fun i h _ => pay_lv i h) rfl rfl 16 144 rfl inb_S240x1152_S16x1152_144_0
    ((SemArray.slice cc0_scratch9 (Rect.unit ![2] S1.size inb_S8_S1_2)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_rs I K c 23 2 (by decide) (fk (8 + 2)) rfl (amtQ 13) pay_lv23 rfl rfl 16 144 rfl inb_S240x1152_S16x1152_144_0
    ((SemArray.slice cc0_scratch10 (Rect.unit ![2] S1.size inb_S8_S1_2)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  iapply (load_rs c 16 144 rfl inb_S240x1152_S16x1152_144_0 rfl rfl (secondV I (peer c (2 * 2)) (2 * 2)) (landV_rows I c (i := 2) (by decide) (by decide)))
  isplitl [Hr]; · iexact Hr
  iintro Hr
  ihave Hzs := (push (F := F) 1 2 (by decide)) $$ [Hzs Hz1 Hz2]
  · isplitl [Hzs]; · iexact Hzs
    isplitl [Hz1]; · iexact Hz1
    iexact Hz2
  ihave Hbs := (push (F := F) 1 2 (by decide)) $$ [Hbs Hs Hr]
  · isplitl [Hbs]; · iexact Hbs
    isplitl [Hs]; · iexact Hs
    iexact Hr
  ihave Hcs := (peel 3 8 (by decide)) $$ Hcs; icases Hcs with ⟨Hc1, Hcs⟩
  ihave Hcr := (peel 3 8 (by decide)) $$ Hcr; icases Hcr with ⟨Hc2, Hcr⟩
  ihave Hps := (peel 3 8 (by decide)) $$ Hps; icases Hps with ⟨⟨Hp1, Hp2⟩, Hps⟩
  iapply (wait_ss I K c 23 3 (by decide) (fk 3) rfl (amtQ 13) (fun i h _ => pay_lv i h) rfl rfl 16 160 rfl inb_S240x1152_S16x1152_160_0
    ((SemArray.slice cc0_scratch9 (Rect.unit ![3] S1.size inb_S8_S1_3)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_rs I K c 23 3 (by decide) (fk (8 + 3)) rfl (amtQ 13) pay_lv23 rfl rfl 16 160 rfl inb_S240x1152_S16x1152_160_0
    ((SemArray.slice cc0_scratch10 (Rect.unit ![3] S1.size inb_S8_S1_3)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  iapply (load_rs c 16 160 rfl inb_S240x1152_S16x1152_160_0 rfl rfl (secondV I (peer c (2 * 3)) (2 * 3)) (landV_rows I c (i := 3) (by decide) (by decide)))
  isplitl [Hr]; · iexact Hr
  iintro Hr
  ihave Hzs := (push (F := F) 1 3 (by decide)) $$ [Hzs Hz1 Hz2]
  · isplitl [Hzs]; · iexact Hzs
    isplitl [Hz1]; · iexact Hz1
    iexact Hz2
  ihave Hbs := (push (F := F) 1 3 (by decide)) $$ [Hbs Hs Hr]
  · isplitl [Hbs]; · iexact Hbs
    isplitl [Hs]; · iexact Hs
    iexact Hr
  ihave Hcs := (peel 4 8 (by decide)) $$ Hcs; icases Hcs with ⟨Hc1, Hcs⟩
  ihave Hcr := (peel 4 8 (by decide)) $$ Hcr; icases Hcr with ⟨Hc2, Hcr⟩
  ihave Hps := (peel 4 8 (by decide)) $$ Hps; icases Hps with ⟨⟨Hp1, Hp2⟩, Hps⟩
  iapply (wait_ss I K c 23 4 (by decide) (fk 4) rfl (amtQ 13) (fun i h _ => pay_lv i h) rfl rfl 16 176 rfl inb_S240x1152_S16x1152_176_0
    ((SemArray.slice cc0_scratch9 (Rect.unit ![4] S1.size inb_S8_S1_4)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_rs I K c 23 4 (by decide) (fk (8 + 4)) rfl (amtQ 13) pay_lv23 rfl rfl 16 176 rfl inb_S240x1152_S16x1152_176_0
    ((SemArray.slice cc0_scratch10 (Rect.unit ![4] S1.size inb_S8_S1_4)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  iapply (load_rs c 16 176 rfl inb_S240x1152_S16x1152_176_0 rfl rfl (secondV I (peer c (2 * 4)) (2 * 4)) (landV_rows I c (i := 4) (by decide) (by decide)))
  isplitl [Hr]; · iexact Hr
  iintro Hr
  ihave Hzs := (push (F := F) 1 4 (by decide)) $$ [Hzs Hz1 Hz2]
  · isplitl [Hzs]; · iexact Hzs
    isplitl [Hz1]; · iexact Hz1
    iexact Hz2
  ihave Hbs := (push (F := F) 1 4 (by decide)) $$ [Hbs Hs Hr]
  · isplitl [Hbs]; · iexact Hbs
    isplitl [Hs]; · iexact Hs
    iexact Hr
  ihave Hcs := (peel 5 8 (by decide)) $$ Hcs; icases Hcs with ⟨Hc1, Hcs⟩
  ihave Hcr := (peel 5 8 (by decide)) $$ Hcr; icases Hcr with ⟨Hc2, Hcr⟩
  ihave Hps := (peel 5 8 (by decide)) $$ Hps; icases Hps with ⟨⟨Hp1, Hp2⟩, Hps⟩
  iapply (wait_ss I K c 23 5 (by decide) (fk 5) rfl (amtQ 13) (fun i h _ => pay_lv i h) rfl rfl 16 192 rfl inb_S240x1152_S16x1152_192_0
    ((SemArray.slice cc0_scratch9 (Rect.unit ![5] S1.size inb_S8_S1_5)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_rs I K c 23 5 (by decide) (fk (8 + 5)) rfl (amtQ 13) pay_lv23 rfl rfl 16 192 rfl inb_S240x1152_S16x1152_192_0
    ((SemArray.slice cc0_scratch10 (Rect.unit ![5] S1.size inb_S8_S1_5)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  iapply (load_rs c 16 192 rfl inb_S240x1152_S16x1152_192_0 rfl rfl (secondV I (peer c (2 * 5)) (2 * 5)) (landV_rows I c (i := 5) (by decide) (by decide)))
  isplitl [Hr]; · iexact Hr
  iintro Hr
  ihave Hzs := (push (F := F) 1 5 (by decide)) $$ [Hzs Hz1 Hz2]
  · isplitl [Hzs]; · iexact Hzs
    isplitl [Hz1]; · iexact Hz1
    iexact Hz2
  ihave Hbs := (push (F := F) 1 5 (by decide)) $$ [Hbs Hs Hr]
  · isplitl [Hbs]; · iexact Hbs
    isplitl [Hs]; · iexact Hs
    iexact Hr
  ihave Hcs := (peel 6 8 (by decide)) $$ Hcs; icases Hcs with ⟨Hc1, Hcs⟩
  ihave Hcr := (peel 6 8 (by decide)) $$ Hcr; icases Hcr with ⟨Hc2, Hcr⟩
  ihave Hps := (peel 6 8 (by decide)) $$ Hps; icases Hps with ⟨⟨Hp1, Hp2⟩, Hps⟩
  iapply (wait_ss I K c 23 6 (by decide) (fk 6) rfl (amtQ 13) (fun i h _ => pay_lv i h) rfl rfl 16 208 rfl inb_S240x1152_S16x1152_208_0
    ((SemArray.slice cc0_scratch9 (Rect.unit ![6] S1.size inb_S8_S1_6)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_rs I K c 23 6 (by decide) (fk (8 + 6)) rfl (amtQ 13) pay_lv23 rfl rfl 16 208 rfl inb_S240x1152_S16x1152_208_0
    ((SemArray.slice cc0_scratch10 (Rect.unit ![6] S1.size inb_S8_S1_6)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  iapply (load_rs c 16 208 rfl inb_S240x1152_S16x1152_208_0 rfl rfl (secondV I (peer c (2 * 6)) (2 * 6)) (landV_rows I c (i := 6) (by decide) (by decide)))
  isplitl [Hr]; · iexact Hr
  iintro Hr
  ihave Hzs := (push (F := F) 1 6 (by decide)) $$ [Hzs Hz1 Hz2]
  · isplitl [Hzs]; · iexact Hzs
    isplitl [Hz1]; · iexact Hz1
    iexact Hz2
  ihave Hbs := (push (F := F) 1 6 (by decide)) $$ [Hbs Hs Hr]
  · isplitl [Hbs]; · iexact Hbs
    isplitl [Hs]; · iexact Hs
    iexact Hr
  ihave Hcs := (peel 7 8 (by decide)) $$ Hcs; icases Hcs with ⟨Hc1, Hcs⟩
  ihave Hcr := (peel 7 8 (by decide)) $$ Hcr; icases Hcr with ⟨Hc2, Hcr⟩
  ihave Hps := (peel 7 8 (by decide)) $$ Hps; icases Hps with ⟨⟨Hp1, Hp2⟩, Hps⟩
  iapply (wait_ss I K c 23 7 (by decide) (fk 7) rfl (amtQ 13) (fun i h _ => pay_lv i h) rfl rfl 16 224 rfl inb_S240x1152_S16x1152_224_0
    ((SemArray.slice cc0_scratch9 (Rect.unit ![7] S1.size inb_S8_S1_7)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_rs I K c 23 7 (by decide) (fk (8 + 7)) rfl (amtQ 13) pay_lv23 rfl rfl 16 224 rfl inb_S240x1152_S16x1152_224_0
    ((SemArray.slice cc0_scratch10 (Rect.unit ![7] S1.size inb_S8_S1_7)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  iapply (load_rs c 16 224 rfl inb_S240x1152_S16x1152_224_0 rfl rfl (secondV I (peer c (2 * 7)) (2 * 7)) (landV_rows I c (i := 7) (by decide) (by decide)))
  isplitl [Hr]; · iexact Hr
  iintro Hr
  ihave Hzs := (push (F := F) 1 7 (by decide)) $$ [Hzs Hz1 Hz2]
  · isplitl [Hzs]; · iexact Hzs
    isplitl [Hz1]; · iexact Hz1
    iexact Hz2
  ihave Hbs := (push (F := F) 1 7 (by decide)) $$ [Hbs Hs Hr]
  · isplitl [Hbs]; · iexact Hbs
    isplitl [Hs]; · iexact Hs
    iexact Hr
  iapply Hk
  isplitl [HO]; · iexact HO
  isplitl [Ha]; · iexact Ha
  isplitl [Hzs]; · iexact Hzs
  iexact Hbs

end Cert.KernelIdeal.Run
-- ==== Proof.Half.lean ====
module

public import proofs.«01_k».proof.Proof.Second
@[expose] public section
set_option maxRecDepth 16384
noncomputable section
/-! # What a half of the partial attention writes: the stores of a half, read back -/
namespace Cert.KernelIdeal.Run
open Cert.KernelIdeal Cert.KernelIdeal.Gen
open Idealize.ShloMosaic
open Idealize.ShloMosaic.TcCoe
variable {F : FTy → Type} [FloatOps F] [Named F]

variable (I : Ins F)

/-- The contents of the narrow key (or value) buffer: the eight heads side by side. -/
def wideV (f : Vec F S1x4096x8x128 .f32) : Vec F S4096x1024 .bf16 := fun y =>
  kbV f ⟨(y 1).val / 128 % 8, Nat.mod_lt _ (by decide)⟩ (ix2 4096 128 (y 0).val ((y 1).val % 128))

theorem wide_at (f : Vec F S1x4096x8x128 .f32) (h : Fin 8) (y : S4096x1024.Idx) (x : S4096x128.Idx) (h0 : (y 0).val = (x 0).val) (h1 : (y 1).val = 128 * h.val + (x 1).val) :
    wideV f y = kbV f h x := by
  have hx := lt1 x
  have hh := h.isLt
  unfold wideV
  have b : (⟨(y 1).val / 128 % 8, Nat.mod_lt _ (by decide)⟩ : Fin 8) = h := Fin.ext (by show _ % 8 = h.val; omega)
  rw [b]
  exact congrArg _ (ix2_eq (by omega) (by omega))

/-! ## Slots of the wide buffers -/

/-- A slot written and read back. -/
theorem slot_hit (M : Memref sig .tc .vmem S4x4096x128 .f32) {o : Fin 3 → ℕ} {inb : ∀ a, o a + S1x4096x128.size a ≤ S4x4096x128.size a}
    {hr : ∀ a, (Rect.unit (s := S4x4096x128) o S1x4096x128.size inb).stride a = 1} {hq : (Rect.unit (s := S4x4096x128) o S1x4096x128.size inb).shape.Squeezes S4096x128}
    (f : M.view.ty.Contents (Elt F)) (w : Vec F S4096x128 .f32) :
    shapeCast S4096x128 (View.readAt (Elt F) M.view (Rect.unit (s := S4x4096x128) o S1x4096x128.size inb).toLoadRect
      (View.write (Elt F) ((M.slice (Rect.unit (s := S4x4096x128) o S1x4096x128.size inb) hr).squeeze S4096x128 hq).view f w Finset.univ)) shapeCasts_S1x4096x128_S4096x128 = w :=
  (Memref.read_squeeze_slice M (Rect.unit (s := S4x4096x128) o S1x4096x128.size inb) hr hq shapeCasts_S1x4096x128_S4096x128 _).symm.trans (View.read_write_univ _ _)

/-- A slot read past the write of another. -/
theorem slot_miss (M : Memref sig .tc .vmem S4x4096x128 .f32) {o o' : Fin 3 → ℕ} {inb : ∀ a, o a + S1x4096x128.size a ≤ S4x4096x128.size a}
    {inb' : ∀ a, o' a + S1x4096x128.size a ≤ S4x4096x128.size a}
    {hr : ∀ a, (Rect.unit (s := S4x4096x128) o' S1x4096x128.size inb').stride a = 1} {hq : (Rect.unit (s := S4x4096x128) o' S1x4096x128.size inb').shape.Squeezes S4096x128}
    (f : M.view.ty.Contents (Elt F)) (w : Vec F S4096x128 .f32) (h : o 0 ≠ o' 0) :
    View.readAt (Elt F) M.view (Rect.unit (s := S4x4096x128) o S1x4096x128.size inb).toLoadRect
      (View.write (Elt F) ((M.slice (Rect.unit (s := S4x4096x128) o' S1x4096x128.size inb') hr).squeeze S4096x128 hq).view f w Finset.univ)
      = View.readAt (Elt F) M.view (Rect.unit (s := S4x4096x128) o S1x4096x128.size inb).toLoadRect f := by
  apply View.readAt_congr
  intro i hi
  apply View.write_of_not_mem
  intro hj
  obtain ⟨x, hx, rfl⟩ := Finset.mem_map.mp hi
  obtain ⟨z, -, hz⟩ := Finset.mem_map.mp hj
  have h1 : (Rect.unit (s := S4x4096x128) o' S1x4096x128.size inb').emb (Shape.reshapeEquiv hq.numel_eq z) = x := M.view.emb.injective hz
  subst h1
  have h2 := (Rect.mem_set_unit.mp hx) 0
  have h3 : (((Rect.unit (s := S4x4096x128) o' S1x4096x128.size inb').emb (Shape.reshapeEquiv hq.numel_eq z)) 0).val = o' 0 + 1 * ((Shape.reshapeEquiv hq.numel_eq z) 0).val := rfl
  have h4 : ((Shape.reshapeEquiv hq.numel_eq z) 0).val < 1 := ((Shape.reshapeEquiv hq.numel_eq z) 0).isLt
  have h5 : S1x4096x128.size 0 = 1 := rfl
  omega

theorem plane_of {v : Vec F S1x4096x128 .f32} {f : Vec F S1x4096x8x128 .f32} {h : Fin 8}
    (e : shapeCast S4096x128 v shapeCasts_S1x4096x128_S4096x128 = fun x => f fun a => match a with
      | ⟨0, _⟩ => (⟨0, Nat.one_pos⟩ : Fin 1)
      | ⟨1, _⟩ => (x 0 : Fin 4096)
      | ⟨2, _⟩ => h
      | ⟨3, _⟩ => (x 1 : Fin 128)) : v = plane f h := by
  funext i
  have hi : (fun a : Fin 3 => (Fin.cons ⟨0, Nat.one_pos⟩ (fun a : Fin 2 => i a.succ) : S1x4096x128.Idx) a) = i := by
    funext a
    match a with
    | ⟨0, _⟩ => exact Fin.ext (by have := (i 0).isLt; show 0 = (i 0).val; have h1 : (i 0).val < 1 := this; omega)
    | ⟨1, _⟩ => rfl
    | ⟨2, _⟩ => rfl
  have := congrFun e (fun a : Fin 2 => i a.succ)
  exact (congrArg v hi.symm).trans ((shapeCast_dropUnit_apply ![4096, 128] v shapeCasts_S1x4096x128_S4096x128 (fun a : Fin 2 => i a.succ)).symm.trans this)

/-- A head of a device's keys (or values), read by a copy. -/
theorem head_read (M : Memref sig .tc .hbm S1x4096x8x128 .f32) {o : Fin 4 → ℕ} {inb : ∀ a, o a + S1x4096x1x128.size a ≤ S1x4096x8x128.size a}
    {hr : ∀ a, (Rect.unit (s := S1x4096x8x128) o S1x4096x1x128.size inb).stride a = 1} {hq : (Rect.unit (s := S1x4096x8x128) o S1x4096x1x128.size inb).shape.Squeezes S4096x128}
    (f : M.view.ty.Contents (Elt F)) (h : Fin 8) (e : o = ![0, 0, h.val, 0]) :
    ((M.slice (Rect.unit (s := S1x4096x8x128) o S1x4096x1x128.size inb) hr).squeeze S4096x128 hq).view.read (Elt F) f = fun x => M.view.read (Elt F) f fun a => match a with
      | ⟨0, _⟩ => (⟨0, Nat.one_pos⟩ : Fin 1)
      | ⟨1, _⟩ => (x 0 : Fin 4096)
      | ⟨2, _⟩ => h
      | ⟨3, _⟩ => (x 1 : Fin 128) := by
  subst e
  funext x
  refine (congrFun (Memref.read_squeeze_slice M (Rect.unit (s := S1x4096x8x128) _ S1x4096x1x128.size inb) hr hq hq.numel_eq f) x).trans ?_
  refine (shapeCast_apply _ _ x (fun a => match a with
      | ⟨0, _⟩ => (⟨0, Nat.one_pos⟩ : Fin 1)
      | ⟨1, _⟩ => (x 0 : Fin 4096)
      | ⟨2, _⟩ => (⟨0, Nat.one_pos⟩ : Fin 1)
      | ⟨3, _⟩ => (x 1 : Fin 128)) ?_).trans ?_
  · refine (Shape.rowMajor_val_four _).trans (Eq.trans ?_ (Shape.rowMajor_val_two _).symm)
    show ((0 * 4096 + (x 0).val) * 1 + 0) * 128 + (x 1).val = (x 0).val * 128 + (x 1).val
    omega
  · rw [View.readAt_apply]
    refine congrArg _ (funext fun a => Fin.ext ?_)
    match a with
    | ⟨0, _⟩ => rfl
    | ⟨1, _⟩ => show 0 + 1 * (x 0).val = (x 0).val; omega
    | ⟨2, _⟩ => rfl
    | ⟨3, _⟩ => show 0 + 1 * (x 1).val = (x 1).val; omega

/-! ## The stores of a half -/

/-- A whole memref loaded. -/
theorem read_full {cs : Space} {s : Shape} {e : EltTy} (M : Memref sig .tc cs s e) {o : Fin s.rank → ℕ} (h : ∀ a, o a = 0) {inb : ∀ a, o a + s.size a ≤ s.size a} (f : M.view.ty.Contents (Elt F)) :
    View.readAt (Elt F) M.view (Rect.unit (s := s) o s.size inb).toLoadRect f = M.view.read (Elt F) f := by
  funext x
  rw [View.readAt_apply]
  refine congrArg _ (funext fun a => Fin.ext ?_)
  show o a + 1 * (x a).val = (x a).val
  rw [h a]; omega
/-- A whole memref stored. -/
theorem write_full {cs : Space} {s : Shape} {e : EltTy} (M : Memref sig .tc cs s e) {o : Fin s.rank → ℕ} (h : ∀ a, o a = 0) {inb : ∀ a, o a + s.size a ≤ s.size a} (f : M.view.ty.Contents (Elt F))
    (w : Vec F s e) : M.view.read (Elt F) (M.view.writes (Elt F) f [⟨Rect.unit (s := s) o s.size inb, w⟩]) = w := by
  funext x
  refine View.read_writes_cons_hit_of_coords M.view f (Rect.unit (s := s) o s.size inb) w [] x x fun a => ?_
  show (x a).val = o a + 1 * (x a).val
  rw [h a]; omega

theorem row_read (f : Vec F S256x1024 .bf16) (lo : ℕ) (h : lo + 128 ≤ 256) {o : Fin 2 → ℕ} (e : o = ![lo, 0]) {inb : ∀ a, o a + S128x1024.size a ≤ S256x1024.size a} :
    View.readAt (Elt F) qM.view (Rect.unit (s := S256x1024) o S128x1024.size inb).toLoadRect f = fun i => f (ix2 256 1024 (lo + (i 0).val) (i 1).val) := by
  subst e
  funext x
  rw [View.readAt_apply]
  refine congrArg f (ix2_eq ?_ ?_).symm
  · show _ = lo + 1 * (x 0).val; omega
  · show _ = 0 + 1 * (x 1).val; omega

theorem col_read (M : Memref sig .tc .vmem S4096x1024 .bf16) (g : M.view.ty.Contents (Elt F)) (f : Vec F S1x4096x8x128 .f32) (hg : M.view.read (Elt F) g = wideV f) (h : Fin 8) {o : Fin 2 → ℕ}
    (e : o = ![0, 128 * h.val]) {inb : ∀ a, o a + S4096x128.size a ≤ S4096x1024.size a} :
    View.readAt (Elt F) M.view (Rect.unit (s := S4096x1024) o S4096x128.size inb).toLoadRect g = kbV f h := by
  subst e
  funext x
  rw [View.readAt_apply, hg]
  have h0 := lt0 x
  have h1 := lt1 x
  have e1 : ∀ i : Fin 2, (((Rect.unit (s := S4096x1024) ![0, 128 * h.val] S4096x128.size inb).toLoadRect.idx x) i).val = (![0, 128 * h.val] : Fin 2 → ℕ) i + 1 * (x i).val := fun i => rfl
  have a0 := e1 0
  have a1 := e1 1
  simp only [Matrix.cons_val_zero, Matrix.cons_val_one] at a0 a1
  exact wide_at f h _ x (by rw [a0]; omega) (by rw [a1]; omega)

theorem wide_writes (M : Memref sig .tc .vmem S4096x1024 .bf16) (g : M.view.ty.Contents (Elt F)) (f : Vec F S1x4096x8x128 .f32)
    {i0 : ∀ a, (![0, 0] : Fin 2 → ℕ) a + S4096x128.size a ≤ S4096x1024.size a} {i1 : ∀ a, (![0, 128] : Fin 2 → ℕ) a + S4096x128.size a ≤ S4096x1024.size a}
    {i2 : ∀ a, (![0, 256] : Fin 2 → ℕ) a + S4096x128.size a ≤ S4096x1024.size a} {i3 : ∀ a, (![0, 384] : Fin 2 → ℕ) a + S4096x128.size a ≤ S4096x1024.size a}
    {i4 : ∀ a, (![0, 512] : Fin 2 → ℕ) a + S4096x128.size a ≤ S4096x1024.size a} {i5 : ∀ a, (![0, 640] : Fin 2 → ℕ) a + S4096x128.size a ≤ S4096x1024.size a}
    {i6 : ∀ a, (![0, 768] : Fin 2 → ℕ) a + S4096x128.size a ≤ S4096x1024.size a} {i7 : ∀ a, (![0, 896] : Fin 2 → ℕ) a + S4096x128.size a ≤ S4096x1024.size a}
    {w0 w1 w2 w3 w4 w5 w6 w7 : Vec F S4096x128 .bf16}
    (h0 : w0 = kbV f 0) (h1 : w1 = kbV f 1) (h2 : w2 = kbV f 2) (h3 : w3 = kbV f 3) (h4 : w4 = kbV f 4) (h5 : w5 = kbV f 5) (h6 : w6 = kbV f 6) (h7 : w7 = kbV f 7) (y : S4096x1024.Idx) :
    M.view.read (Elt F) (M.view.writes (Elt F) g [⟨Rect.unit (s := S4096x1024) ![0, 896] S4096x128.size i7, w7⟩, ⟨Rect.unit (s := S4096x1024) ![0, 768] S4096x128.size i6, w6⟩, ⟨Rect.unit (s := S4096x1024) ![0, 640] S4096x128.size i5, w5⟩,
      ⟨Rect.unit (s := S4096x1024) ![0, 512] S4096x128.size i4, w4⟩, ⟨Rect.unit (s := S4096x1024) ![0, 384] S4096x128.size i3, w3⟩, ⟨Rect.unit (s := S4096x1024) ![0, 256] S4096x128.size i2, w2⟩,
      ⟨Rect.unit (s := S4096x1024) ![0, 128] S4096x128.size i1, w1⟩, ⟨Rect.unit (s := S4096x1024) ![0, 0] S4096x128.size i0, w0⟩]) y = wideV f y := by
  have key : ∀ (h : Fin 8) (o : Fin 2 → ℕ) (e : o = ![0, 128 * h.val]) (inb : ∀ a, o a + S4096x128.size a ≤ S4096x1024.size a) (w : Vec F S4096x128 .bf16) (hw : w = kbV f h) (x : S4096x128.Idx),
      w x = wideV f ((Rect.unit (s := S4096x1024) o S4096x128.size inb).emb x) := by
    intro h o e inb w hw x
    subst e hw
    have hh := h.isLt
    have h0 := lt0 x
    have h1 := lt1 x
    have a0 : (((Rect.unit (s := S4096x1024) ![0, 128 * h.val] S4096x128.size inb).emb x) 0).val = 0 + 1 * (x 0).val := rfl
    have a1 : (((Rect.unit (s := S4096x1024) ![0, 128 * h.val] S4096x128.size inb).emb x) 1).val = 128 * h.val + 1 * (x 1).val := rfl
    exact (wide_at f h _ x (by rw [a0]; omega) (by rw [a1]; omega)).symm
  refine View.read_writes_apply_of_pieces M.view g (wideV f) _ ?_ y ?_
  · intro p hp
    simp only [List.mem_cons, List.not_mem_nil, or_false] at hp
    rcases hp with rfl | rfl | rfl | rfl | rfl | rfl | rfl | rfl
    · exact key 7 ![0, 896] rfl i7 w7 h7
    · exact key 6 ![0, 768] rfl i6 w6 h6
    · exact key 5 ![0, 640] rfl i5 w5 h5
    · exact key 4 ![0, 512] rfl i4 w4 h4
    · exact key 3 ![0, 384] rfl i3 w3 h3
    · exact key 2 ![0, 256] rfl i2 w2 h2
    · exact key 1 ![0, 128] rfl i1 w1 h1
    · exact key 0 ![0, 0] rfl i0 w0 h0
  · have b0 := lt0 y
    have b1 := lt1 y
    have mem : ∀ (o : ℕ) (inb : ∀ a, (![0, o] : Fin 2 → ℕ) a + S4096x128.size a ≤ S4096x1024.size a), o ≤ (y 1).val → (y 1).val < o + 128 → y ∈ (Rect.unit (s := S4096x1024) ![0, o] S4096x128.size inb).set := by
      intro o inb h1 h2
      rw [Rect.mem_set_unit]
      intro a
      match a with
      | ⟨0, _⟩ => exact ⟨Nat.zero_le _, by show (y 0).val < 0 + 4096; omega⟩
      | ⟨1, _⟩ => exact ⟨h1, h2⟩
    by_cases c7 : 896 ≤ (y 1).val; · exact ⟨_, .head _, mem 896 i7 c7 (by omega)⟩
    by_cases c6 : 768 ≤ (y 1).val; · exact ⟨_, .tail _ (.head _), mem 768 i6 c6 (by omega)⟩
    by_cases c5 : 640 ≤ (y 1).val; · exact ⟨_, .tail _ (.tail _ (.head _)), mem 640 i5 c5 (by omega)⟩
    by_cases c4 : 512 ≤ (y 1).val; · exact ⟨_, .tail _ (.tail _ (.tail _ (.head _))), mem 512 i4 c4 (by omega)⟩
    by_cases c3 : 384 ≤ (y 1).val; · exact ⟨_, .tail _ (.tail _ (.tail _ (.tail _ (.head _)))), mem 384 i3 c3 (by omega)⟩
    by_cases c2 : 256 ≤ (y 1).val; · exact ⟨_, .tail _ (.tail _ (.tail _ (.tail _ (.tail _ (.head _))))), mem 256 i2 c2 (by omega)⟩
    by_cases c1 : 128 ≤ (y 1).val; · exact ⟨_, .tail _ (.tail _ (.tail _ (.tail _ (.tail _ (.tail _ (.head _)))))), mem 128 i1 c1 (by omega)⟩
    exact ⟨_, .tail _ (.tail _ (.tail _ (.tail _ (.tail _ (.tail _ (.tail _ (.head _))))))), mem 0 i0 (by omega) (by omega)⟩

theorem acc_head (c : Dev nD) (lo : ℕ) (hlo : lo = 0 ∨ lo = 128) (h : Fin 8) (o : Fin 2 → ℕ) (e : o = ![lo, 128 * h.val]) (inb : ∀ a, o a + S128x128.size a ≤ S256x1152.size a)
    (w : Vec F S128x128 .f32) (hw : w = headOut (qHalf I c lo) (kbV (I.k c) h) (kbV (I.v c) h) h) (x : S128x128.Idx) : w x = accV I c ((Rect.unit (s := S256x1152) o S128x128.size inb).emb x) := by
  subst e hw
  have hh := h.isLt
  have h0 := lt0 x
  have h1 := lt1 x
  have a0 : (((Rect.unit (s := S256x1152) ![lo, 128 * h.val] S128x128.size inb).emb x) 0).val = lo + 1 * (x 0).val := rfl
  have a1 : (((Rect.unit (s := S256x1152) ![lo, 128 * h.val] S128x128.size inb).emb x) 1).val = 128 * h.val + 1 * (x 1).val := rfl
  have b0 : (((Rect.unit (s := S256x1152) ![lo, 128 * h.val] S128x128.size inb).emb x) 0).val / 128 * 128 = lo := by rw [a0]; omega
  unfold accV blkV
  rw [b0]
  have b1 : ((ix2 128 1152 ((((Rect.unit (s := S256x1152) ![lo, 128 * h.val] S128x128.size inb).emb x) 0).val % 128) (((Rect.unit (s := S256x1152) ![lo, 128 * h.val] S128x128.size inb).emb x) 1).val) 1).val = 128 * h.val + (x 1).val := by
    rw [ix2_1, a1]; omega
  have b2 : ((ix2 128 1152 ((((Rect.unit (s := S256x1152) ![lo, 128 * h.val] S128x128.size inb).emb x) 0).val % 128) (((Rect.unit (s := S256x1152) ![lo, 128 * h.val] S128x128.size inb).emb x) 1).val) 0).val = (x 0).val := by
    rw [ix2_0, a0]; omega
  have b3 : (⟨(128 * h.val + (x 1).val) / 128 % 8, Nat.mod_lt _ (by decide)⟩ : Fin 8) = h := Fin.ext (by show _ % 8 = _; omega)
  simp only [b1, b2, b3]
  rw [if_pos (by omega)]
  refine congrArg _ (ix2_eq ?_ ?_).symm <;> omega

theorem acc_sums (c : Dev nD) (lo : ℕ) (hlo : lo = 0 ∨ lo = 128) (o : Fin 2 → ℕ) (e : o = ![lo, 1024]) (inb : ∀ a, o a + S128x128.size a ≤ S256x1152.size a)
    (w : Vec F S128x128 .f32) (hw : w = sumsV (qHalf I c lo) (kbV (I.k c))) (x : S128x128.Idx) : w x = accV I c ((Rect.unit (s := S256x1152) o S128x128.size inb).emb x) := by
  subst e hw
  have h0 := lt0 x
  have h1 := lt1 x
  have a0 : (((Rect.unit (s := S256x1152) ![lo, 1024] S128x128.size inb).emb x) 0).val = lo + 1 * (x 0).val := rfl
  have a1 : (((Rect.unit (s := S256x1152) ![lo, 1024] S128x128.size inb).emb x) 1).val = 1024 + 1 * (x 1).val := rfl
  have b0 : (((Rect.unit (s := S256x1152) ![lo, 1024] S128x128.size inb).emb x) 0).val / 128 * 128 = lo := by rw [a0]; omega
  unfold accV blkV
  rw [b0]
  have b1 : ((ix2 128 1152 ((((Rect.unit (s := S256x1152) ![lo, 1024] S128x128.size inb).emb x) 0).val % 128) (((Rect.unit (s := S256x1152) ![lo, 1024] S128x128.size inb).emb x) 1).val) 1).val = 1024 + (x 1).val := by
    rw [ix2_1, a1]; omega
  have b2 : ((ix2 128 1152 ((((Rect.unit (s := S256x1152) ![lo, 1024] S128x128.size inb).emb x) 0).val % 128) (((Rect.unit (s := S256x1152) ![lo, 1024] S128x128.size inb).emb x) 1).val) 0).val = (x 0).val := by
    rw [ix2_0, a0]; omega
  simp only [b1, b2]
  rw [if_neg (by omega)]
  refine congrArg _ (ix2_eq ?_ ?_).symm <;> omega

/-- The nine stores of a half leave the half's partial attention. -/
theorem half_agrees (c : Dev nD) (lo : ℕ) (hlo : lo = 0 ∨ lo = 128) (fa : Vec F S256x1152 .f32) {o0 o1 o2 o3 o4 o5 o6 o7 o8 : Fin 2 → ℕ}
    (e0 : o0 = ![lo, 0]) (e1 : o1 = ![lo, 128]) (e2 : o2 = ![lo, 256]) (e3 : o3 = ![lo, 384]) (e4 : o4 = ![lo, 512]) (e5 : o5 = ![lo, 640]) (e6 : o6 = ![lo, 768]) (e7 : o7 = ![lo, 896]) (e8 : o8 = ![lo, 1024])
    {w0 w1 w2 w3 w4 w5 w6 w7 w8 : Vec F S128x128 .f32}
    {i0 : ∀ a, o0 a + S128x128.size a ≤ S256x1152.size a}
    {i1 : ∀ a, o1 a + S128x128.size a ≤ S256x1152.size a}
    {i2 : ∀ a, o2 a + S128x128.size a ≤ S256x1152.size a}
    {i3 : ∀ a, o3 a + S128x128.size a ≤ S256x1152.size a}
    {i4 : ∀ a, o4 a + S128x128.size a ≤ S256x1152.size a}
    {i5 : ∀ a, o5 a + S128x128.size a ≤ S256x1152.size a}
    {i6 : ∀ a, o6 a + S128x128.size a ≤ S256x1152.size a}
    {i7 : ∀ a, o7 a + S128x128.size a ≤ S256x1152.size a}
    {i8 : ∀ a, o8 a + S128x128.size a ≤ S256x1152.size a}
    (h0 : w0 = headOut (qHalf I c lo) (kbV (I.k c) 0) (kbV (I.v c) 0) 0)
    (h1 : w1 = headOut (qHalf I c lo) (kbV (I.k c) 1) (kbV (I.v c) 1) 1)
    (h2 : w2 = headOut (qHalf I c lo) (kbV (I.k c) 2) (kbV (I.v c) 2) 2)
    (h3 : w3 = headOut (qHalf I c lo) (kbV (I.k c) 3) (kbV (I.v c) 3) 3)
    (h4 : w4 = headOut (qHalf I c lo) (kbV (I.k c) 4) (kbV (I.v c) 4) 4)
    (h5 : w5 = headOut (qHalf I c lo) (kbV (I.k c) 5) (kbV (I.v c) 5) 5)
    (h6 : w6 = headOut (qHalf I c lo) (kbV (I.k c) 6) (kbV (I.v c) 6) 6)
    (h7 : w7 = headOut (qHalf I c lo) (kbV (I.k c) 7) (kbV (I.v c) 7) 7)
    (h8 : w8 = sumsV (qHalf I c lo) (kbV (I.k c))) :
    Agrees lo (lo + 128) (accM.view.writes (Elt F) fa [⟨Rect.unit (s := S256x1152) o8 S128x128.size i8, w8⟩, ⟨Rect.unit (s := S256x1152) o7 S128x128.size i7, w7⟩, ⟨Rect.unit (s := S256x1152) o6 S128x128.size i6, w6⟩, ⟨Rect.unit (s := S256x1152) o5 S128x128.size i5, w5⟩, ⟨Rect.unit (s := S256x1152) o4 S128x128.size i4, w4⟩, ⟨Rect.unit (s := S256x1152) o3 S128x128.size i3, w3⟩, ⟨Rect.unit (s := S256x1152) o2 S128x128.size i2, w2⟩, ⟨Rect.unit (s := S256x1152) o1 S128x128.size i1, w1⟩, ⟨Rect.unit (s := S256x1152) o0 S128x128.size i0, w0⟩]) (accV I c) := by
  intro y hy
  rw [mem_rowSet] at hy
  have b1 := lt1 y
  have rd : ∀ g : Vec F S256x1152 .f32, View.read (Elt F) accM.view g = g := fun _ => rfl
  refine (congrFun (rd _).symm y).trans ?_
  refine View.read_writes_apply_of_pieces accM.view fa (accV I c) _ ?_ y ?_
  · intro p hp
    simp only [List.mem_cons, List.not_mem_nil, or_false] at hp
    rcases hp with rfl | rfl | rfl | rfl | rfl | rfl | rfl | rfl | rfl
    · exact acc_sums I c lo hlo o8 e8 i8 w8 h8
    · exact acc_head I c lo hlo 7 o7 e7 i7 w7 h7
    · exact acc_head I c lo hlo 6 o6 e6 i6 w6 h6
    · exact acc_head I c lo hlo 5 o5 e5 i5 w5 h5
    · exact acc_head I c lo hlo 4 o4 e4 i4 w4 h4
    · exact acc_head I c lo hlo 3 o3 e3 i3 w3 h3
    · exact acc_head I c lo hlo 2 o2 e2 i2 w2 h2
    · exact acc_head I c lo hlo 1 o1 e1 i1 w1 h1
    · exact acc_head I c lo hlo 0 o0 e0 i0 w0 h0
  · have mem : ∀ (o : Fin 2 → ℕ) (k : ℕ) (e : o = ![lo, k]) (inb : ∀ a, o a + S128x128.size a ≤ S256x1152.size a), k ≤ (y 1).val → (y 1).val < k + 128 → y ∈ (Rect.unit (s := S256x1152) o S128x128.size inb).set := by
      intro o k e inb h1 h2
      subst e
      rw [Rect.mem_set_unit]
      intro a
      match a with
      | ⟨0, _⟩ => exact ⟨hy.1, hy.2⟩
      | ⟨1, _⟩ => exact ⟨h1, h2⟩
    by_cases c8 : 1024 ≤ (y 1).val; · exact ⟨_, .head _, mem _ 1024 e8 i8 c8 (by omega)⟩
    by_cases c7 : 896 ≤ (y 1).val; · exact ⟨_, .tail _ (.head _), mem _ 896 e7 i7 c7 (by omega)⟩
    by_cases c6 : 768 ≤ (y 1).val; · exact ⟨_, .tail _ (.tail _ (.head _)), mem _ 768 e6 i6 c6 (by omega)⟩
    by_cases c5 : 640 ≤ (y 1).val; · exact ⟨_, .tail _ (.tail _ (.tail _ (.head _))), mem _ 640 e5 i5 c5 (by omega)⟩
    by_cases c4 : 512 ≤ (y 1).val; · exact ⟨_, .tail _ (.tail _ (.tail _ (.tail _ (.head _)))), mem _ 512 e4 i4 c4 (by omega)⟩
    by_cases c3 : 384 ≤ (y 1).val; · exact ⟨_, .tail _ (.tail _ (.tail _ (.tail _ (.tail _ (.head _))))), mem _ 384 e3 i3 c3 (by omega)⟩
    by_cases c2 : 256 ≤ (y 1).val; · exact ⟨_, .tail _ (.tail _ (.tail _ (.tail _ (.tail _ (.tail _ (.head _)))))), mem _ 256 e2 i2 c2 (by omega)⟩
    by_cases c1 : 128 ≤ (y 1).val; · exact ⟨_, .tail _ (.tail _ (.tail _ (.tail _ (.tail _ (.tail _ (.tail _ (.head _))))))), mem _ 128 e1 i1 c1 (by omega)⟩
    exact ⟨_, .tail _ (.tail _ (.tail _ (.tail _ (.tail _ (.tail _ (.tail _ (.tail _ (.head _)))))))), mem _ 0 e0 i0 (by omega) (by omega)⟩

end Cert.KernelIdeal.Run
-- ==== Proof.Local.lean ====
module

public import proofs.«01_k».proof.Proof.Half
@[expose] public section
set_option maxRecDepth 16384
noncomputable section
/-! # The partial attention -/
namespace Cert.KernelIdeal.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ UU ℕ

variable (I : Ins F)

/-- The eight semaphores of the key and value copies, idle. -/
abbrev kvSems (c : Dev nD) : sProp 𝕄 := iprop(semVal ((c : Thread nD τ), .dma 20) 0 ∗ semVal ((c : Thread nD τ), .dma 21) 0 ∗ semVal ((c : Thread nD τ), .dma 22) 0 ∗ semVal ((c : Thread nD τ), .dma 23) 0 ∗ semVal ((c : Thread nD τ), .dma 24) 0 ∗ semVal ((c : Thread nD τ), .dma 25) 0 ∗ semVal ((c : Thread nD τ), .dma 26) 0 ∗ semVal ((c : Thread nD τ), .dma 27) 0)
/-- The inputs the attention reads. -/
abbrev inPts (c : Dev nD) : sProp 𝕄 := iprop((xM.view.loc (c : Thread nD τ) ↦{fullShare} I.x c) ∗ (wqM.view.loc (c : Thread nD τ) ↦{fullShare} I.wq c) ∗ (kM.view.loc (c : Thread nD τ) ↦{fullShare} I.k c) ∗ (vM.view.loc (c : Thread nD τ) ↦{fullShare} I.v c))

theorem acc_intro (c : Dev nD) {lo hi : ℕ} {f g : Vec F S256x1152 .f32} (h : Agrees lo hi f g) : accPts c f ⊢ iprop(∃ f, ⌜Agrees lo hi f g⌝ ∗ accPts c f) := by
  iintro H
  iexists f
  isplitr; · ipureintro; exact h
  iexact H
theorem lvS_kv : ∀ q : DmaSem sig, (20 ≤ q.val ∧ q.val < 28) → lvS (.dma q) = 0 := by decide +kernel

set_option sl_exec.dmaWindow true in
set_option sl_exec.squeezeSlice true in
set_option maxHeartbeats 8000000 in
theorem s2_run (c : Dev nD) {α : Type} {Q : α → sProp 𝕄} {k : Prog (TpuEff nD τ sig (Elt F) Λ₀ .tc) α} :
    iprop(levAts L lv ∗ owesE c 15 ∗ inPts I c ∗ (∃ fa, accM.view.loc (c : Thread nD τ) ↦{fullShare} fa) ∗ (∃ fq, qM.view.loc (c : Thread nD τ) ↦{fullShare} fq) ∗ (∃ fkb, kbM.view.loc (c : Thread nD τ) ↦{fullShare} fkb) ∗ (∃ fvb, vbM.view.loc (c : Thread nD τ) ↦{fullShare} fvb) ∗ (∃ fks, ksM.view.loc (c : Thread nD τ) ↦{fullShare} fks) ∗ (∃ fvs, vsM.view.loc (c : Thread nD τ) ↦{fullShare} fvs) ∗ kvSems (F := F) c
        ∗ ((owesE c 15 ∗ inPts I c ∗ (∃ f, ⌜Agrees (sLo c) (sLo c + 128) f (accV I c)⌝ ∗ accPts c f)
            ∗ (qM.view.loc (c : Thread nD τ) ↦{fullShare} qV I c) ∗ (kbM.view.loc (c : Thread nD τ) ↦{fullShare} wideV (I.k c))
            ∗ (vbM.view.loc (c : Thread nD τ) ↦{fullShare} wideV (I.v c))
            ∗ (∃ fks, ksM.view.loc (c : Thread nD τ) ↦{fullShare} fks) ∗ (∃ fvs, vsM.view.loc (c : Thread nD τ) ↦{fullShare} fvs) ∗ kvSems (F := F) c) -∗ WP c k Q))
      ⊢ WP c (s2 xM wqM kM vM accM qM (Memref.isWhole_whole _) kbM (Memref.isWhole_whole _) vbM (Memref.isWhole_whole _) ksM vsM cc0_scratch11 c k) Q := by
  have hmw : ∀ q : DmaSem sig, (20 ≤ q.val ∧ q.val < 28) → ((levAts L lv : sProp 𝕄) ⊢ MayWait (c : Thread nD τ) (.dma q) () (oweT c 15)) :=
    fun q hq => mayWait_at c (.dma q) 15 (fun i hi _ => by
      have h0 : lvS (.dma q) = 0 := lvS_kv q hq
      rw [h0]; exact pay_lv i hi)
  unfold owesE s2
  show _ ⊢ wp frame (wpE (defs₀ (F := F)) 𝒱₀ (c : Thread nD τ) none) Set.univ _ Q
  iintro ⟨#HLev, ⟨%W, HO⟩, ⟨Hx, Hw, Hk, Hv⟩, ⟨%fa, Ha⟩, ⟨%fq, Hq⟩, ⟨%fkb, Hkb⟩, ⟨%fvb, Hvb⟩, ⟨%fks, Hks⟩, ⟨%fvs, Hvs⟩, ⟨H0, H1, H2, H3, H4, H5, H6, H7⟩, Hcont⟩
  sl_exec
  have k0 : s2_run.sl.v116 I c fks = plane (I.k c) 0 := plane_of (by
    unfold s2_run.sl.v116
    rw [slot_miss ksM, slot_miss ksM, slot_hit ksM]
    · exact head_read kM (I.k c) 0 rfl
    all_goals decide)
  have k1 : s2_run.sl.v163 I c fks = plane (I.k c) 1 := plane_of (by
    unfold s2_run.sl.v163
    rw [slot_miss ksM, slot_miss ksM, slot_hit ksM]
    · exact head_read kM (I.k c) 1 rfl
    all_goals decide)
  have k2 : s2_run.sl.v210 I c fks = plane (I.k c) 2 := plane_of (by
    unfold s2_run.sl.v210
    rw [slot_miss ksM, slot_miss ksM, slot_hit ksM]
    · exact head_read kM (I.k c) 2 rfl
    all_goals decide)
  have k3 : s2_run.sl.v257 I c fks = plane (I.k c) 3 := plane_of (by
    unfold s2_run.sl.v257
    rw [slot_miss ksM, slot_miss ksM, slot_hit ksM]
    · exact head_read kM (I.k c) 3 rfl
    all_goals decide)
  have k4 : s2_run.sl.v304 I c fks = plane (I.k c) 4 := plane_of (by
    unfold s2_run.sl.v304
    rw [slot_miss ksM, slot_miss ksM, slot_hit ksM]
    · exact head_read kM (I.k c) 4 rfl
    all_goals decide)
  have k5 : s2_run.sl.v351 I c fks = plane (I.k c) 5 := plane_of (by
    unfold s2_run.sl.v351
    rw [slot_miss ksM, slot_miss ksM, slot_hit ksM]
    · exact head_read kM (I.k c) 5 rfl
    all_goals decide)
  have k6 : s2_run.sl.v386 I c fks = plane (I.k c) 6 := plane_of (by
    unfold s2_run.sl.v386
    rw [slot_miss ksM, slot_hit ksM]
    · exact head_read kM (I.k c) 6 rfl
    all_goals decide)
  have k7 : s2_run.sl.v421 I c fks = plane (I.k c) 7 := plane_of (by
    unfold s2_run.sl.v421
    rw [slot_hit ksM]
    · exact head_read kM (I.k c) 7 rfl
    all_goals decide)
  have v0 : s2_run.sl.v119 I c fvs = plane (I.v c) 0 := plane_of (by
    unfold s2_run.sl.v119
    rw [slot_miss vsM, slot_miss vsM, slot_hit vsM]
    · exact head_read vM (I.v c) 0 rfl
    all_goals decide)
  have v1 : s2_run.sl.v166 I c fvs = plane (I.v c) 1 := plane_of (by
    unfold s2_run.sl.v166
    rw [slot_miss vsM, slot_miss vsM, slot_hit vsM]
    · exact head_read vM (I.v c) 1 rfl
    all_goals decide)
  have v2 : s2_run.sl.v213 I c fvs = plane (I.v c) 2 := plane_of (by
    unfold s2_run.sl.v213
    rw [slot_miss vsM, slot_miss vsM, slot_hit vsM]
    · exact head_read vM (I.v c) 2 rfl
    all_goals decide)
  have v3 : s2_run.sl.v260 I c fvs = plane (I.v c) 3 := plane_of (by
    unfold s2_run.sl.v260
    rw [slot_miss vsM, slot_miss vsM, slot_hit vsM]
    · exact head_read vM (I.v c) 3 rfl
    all_goals decide)
  have v4 : s2_run.sl.v307 I c fvs = plane (I.v c) 4 := plane_of (by
    unfold s2_run.sl.v307
    rw [slot_miss vsM, slot_miss vsM, slot_hit vsM]
    · exact head_read vM (I.v c) 4 rfl
    all_goals decide)
  have v5 : s2_run.sl.v354 I c fvs = plane (I.v c) 5 := plane_of (by
    unfold s2_run.sl.v354
    rw [slot_miss vsM, slot_miss vsM, slot_hit vsM]
    · exact head_read vM (I.v c) 5 rfl
    all_goals decide)
  have v6 : s2_run.sl.v389 I c fvs = plane (I.v c) 6 := plane_of (by
    unfold s2_run.sl.v389
    rw [slot_miss vsM, slot_hit vsM]
    · exact head_read vM (I.v c) 6 rfl
    all_goals decide)
  have v7 : s2_run.sl.v424 I c fvs = plane (I.v c) 7 := plane_of (by
    unfold s2_run.sl.v424
    rw [slot_hit vsM]
    · exact head_read vM (I.v c) 7 rfl
    all_goals decide)
  have hq : ∀ g : Vec F S256x1024 .bf16, qM.view.writes (Elt F) g (s2_run.sl.Hq_1 I c) = qV I c := by
    intro g
    unfold s2_run.sl.Hq_1
    rw [read_full xM (by decide), read_full wqM (by decide)]
    exact write_full qM (by decide) g _
  have hb : sLo c = 0 ∨ sLo c = 128 := by rcases kLo_cases c with h | h <;> omega
  have hr := fun {inb} => row_read (qV I c) (sLo c) (by omega) (off1_eq c) (inb := inb)
  iapply Hcont
  isplitl [HO]; · iexists _; iexact HO
  isplitl [Hx Hw Hk Hv]
  · isplitl [Hx]; · iexact Hx
    isplitl [Hw]; · iexact Hw
    isplitl [Hk]; · iexact Hk
    iexact Hv
  isplitl [Ha]
  · iapply (acc_intro c (lo := sLo c) (hi := sLo c + 128) (g := accV I c) ?_) $$ Ha
    refine half_agrees I c (sLo c) hb fa (off2_eq c) (off3_eq c) (off4_eq c) (off5_eq c) (off6_eq c) (off7_eq c) (off8_eq c) (off9_eq c) (off10_eq c) ?_ ?_ ?_ ?_ ?_ ?_ ?_ ?_ ?_
    · rw [hq, hr, k0, v0]; rfl
    · rw [hq, hr, k1, v1]; rfl
    · rw [hq, hr, k2, v2]; rfl
    · rw [hq, hr, k3, v3]; rfl
    · rw [hq, hr, k4, v4]; rfl
    · rw [hq, hr, k5, v5]; rfl
    · rw [hq, hr, k6, v6]; rfl
    · rw [hq, hr, k7, v7]; rfl
    · rw [hq, hr, k0, k1, k2, k3, k4, k5, k6, k7]; rfl
  isplitl [Hq]
  · iapply (Entails.of_eq (pointsTo_congr fun y _ => ?_)) $$ Hq
    exact congrFun (hq _) y
  isplitl [Hkb]
  · iapply (Entails.of_eq (pointsTo_congr fun y _ => ?_)) $$ Hkb
    have rd : ∀ g : Vec F S4096x1024 .bf16, View.read (Elt F) kbM.view g = g := fun _ => rfl
    refine (congrFun (rd _).symm y).trans ?_
    refine wide_writes kbM _ (I.k c) ?_ ?_ ?_ ?_ ?_ ?_ ?_ ?_ y
    · rw [k0]; exact shapeCast_self _ _
    · rw [k1]; exact shapeCast_self _ _
    · rw [k2]; exact shapeCast_self _ _
    · rw [k3]; exact shapeCast_self _ _
    · rw [k4]; exact shapeCast_self _ _
    · rw [k5]; exact shapeCast_self _ _
    · rw [k6]; exact shapeCast_self _ _
    · rw [k7]; exact shapeCast_self _ _
  isplitl [Hvb]
  · iapply (Entails.of_eq (pointsTo_congr fun y _ => ?_)) $$ Hvb
    have rd : ∀ g : Vec F S4096x1024 .bf16, View.read (Elt F) vbM.view g = g := fun _ => rfl
    refine (congrFun (rd _).symm y).trans ?_
    refine wide_writes vbM _ (I.v c) ?_ ?_ ?_ ?_ ?_ ?_ ?_ ?_ y
    · rw [v0]; exact shapeCast_self _ _
    · rw [v1]; exact shapeCast_self _ _
    · rw [v2]; exact shapeCast_self _ _
    · rw [v3]; exact shapeCast_self _ _
    · rw [v4]; exact shapeCast_self _ _
    · rw [v5]; exact shapeCast_self _ _
    · rw [v6]; exact shapeCast_self _ _
    · rw [v7]; exact shapeCast_self _ _
  isplitl [Hks]; · iexists _; iexact Hks
  isplitl [Hvs]; · iexists _; iexact Hvs
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 8000000 in
theorem s4_run (c : Dev nD) (fa : Vec F S256x1152 .f32)
    {α : Type} {Q : α → sProp 𝕄} {k : Prog (TpuEff nD τ sig (Elt F) Λ₀ .tc) α} :
    iprop(accPts c fa ∗ (qM.view.loc (c : Thread nD τ) ↦{fullShare} qV I c) ∗ (kbM.view.loc (c : Thread nD τ) ↦{fullShare} wideV (I.k c))
            ∗ (vbM.view.loc (c : Thread nD τ) ↦{fullShare} wideV (I.v c))
        ∗ (((∃ f, ⌜Agrees (kLo c) (kLo c + 128) f (accV I c)⌝ ∗ accPts c f) ∗ (qM.view.loc (c : Thread nD τ) ↦{fullShare} qV I c)
            ∗ (kbM.view.loc (c : Thread nD τ) ↦{fullShare} wideV (I.k c)) ∗ (vbM.view.loc (c : Thread nD τ) ↦{fullShare} wideV (I.v c))) -∗ WP c k Q))
      ⊢ WP c (s4 accM qM kbM vbM c k) Q := by
  unfold s4
  show _ ⊢ wp frame (wpE (defs₀ (F := F)) 𝒱₀ (c : Thread nD τ) none) Set.univ _ Q
  iintro ⟨Ha, Hq, Hkb, Hvb, Hcont⟩
  sl_exec
  iapply Hcont
  isplitl [Ha]
  · iapply (acc_intro c (lo := kLo c) (hi := kLo c + 128) (g := accV I c) ?_) $$ Ha
    have hb : kLo c = 0 ∨ kLo c = 128 := by rcases kLo_cases c with h | h <;> omega
    refine half_agrees I c (kLo c) hb fa (off13_eq c) (off14_eq c) (off15_eq c) (off16_eq c) (off17_eq c) (off18_eq c) (off19_eq c) (off20_eq c) (off21_eq c) ?_ ?_ ?_ ?_ ?_ ?_ ?_ ?_ ?_
    · rw [row_read (qV I c) (kLo c) (by omega) (off12_eq c), col_read kbM (wideV (I.k c)) (I.k c) rfl 0 (o := ![0, 0]) rfl, col_read vbM (wideV (I.v c)) (I.v c) rfl 0 (o := ![0, 0]) rfl]; rfl
    · rw [row_read (qV I c) (kLo c) (by omega) (off12_eq c), col_read kbM (wideV (I.k c)) (I.k c) rfl 1 (o := ![0, 128]) rfl, col_read vbM (wideV (I.v c)) (I.v c) rfl 1 (o := ![0, 128]) rfl]; rfl
    · rw [row_read (qV I c) (kLo c) (by omega) (off12_eq c), col_read kbM (wideV (I.k c)) (I.k c) rfl 2 (o := ![0, 256]) rfl, col_read vbM (wideV (I.v c)) (I.v c) rfl 2 (o := ![0, 256]) rfl]; rfl
    · rw [row_read (qV I c) (kLo c) (by omega) (off12_eq c), col_read kbM (wideV (I.k c)) (I.k c) rfl 3 (o := ![0, 384]) rfl, col_read vbM (wideV (I.v c)) (I.v c) rfl 3 (o := ![0, 384]) rfl]; rfl
    · rw [row_read (qV I c) (kLo c) (by omega) (off12_eq c), col_read kbM (wideV (I.k c)) (I.k c) rfl 4 (o := ![0, 512]) rfl, col_read vbM (wideV (I.v c)) (I.v c) rfl 4 (o := ![0, 512]) rfl]; rfl
    · rw [row_read (qV I c) (kLo c) (by omega) (off12_eq c), col_read kbM (wideV (I.k c)) (I.k c) rfl 5 (o := ![0, 640]) rfl, col_read vbM (wideV (I.v c)) (I.v c) rfl 5 (o := ![0, 640]) rfl]; rfl
    · rw [row_read (qV I c) (kLo c) (by omega) (off12_eq c), col_read kbM (wideV (I.k c)) (I.k c) rfl 6 (o := ![0, 768]) rfl, col_read vbM (wideV (I.v c)) (I.v c) rfl 6 (o := ![0, 768]) rfl]; rfl
    · rw [row_read (qV I c) (kLo c) (by omega) (off12_eq c), col_read kbM (wideV (I.k c)) (I.k c) rfl 7 (o := ![0, 896]) rfl, col_read vbM (wideV (I.v c)) (I.v c) rfl 7 (o := ![0, 896]) rfl]; rfl
    · rw [row_read (qV I c) (kLo c) (by omega) (off12_eq c), col_read kbM (wideV (I.k c)) (I.k c) rfl 0 (o := ![0, 0]) rfl, col_read kbM (wideV (I.k c)) (I.k c) rfl 1 (o := ![0, 128]) rfl, col_read kbM (wideV (I.k c)) (I.k c) rfl 2 (o := ![0, 256]) rfl, col_read kbM (wideV (I.k c)) (I.k c) rfl 3 (o := ![0, 384]) rfl, col_read kbM (wideV (I.k c)) (I.k c) rfl 4 (o := ![0, 512]) rfl, col_read kbM (wideV (I.k c)) (I.k c) rfl 5 (o := ![0, 640]) rfl, col_read kbM (wideV (I.k c)) (I.k c) rfl 6 (o := ![0, 768]) rfl, col_read kbM (wideV (I.k c)) (I.k c) rfl 7 (o := ![0, 896]) rfl]; rfl
  isplitl [Hq]; · iexact Hq
  isplitl [Hkb]; · iexact Hkb
  iexact Hvb

end Cert.KernelIdeal.Run
-- ==== Proof.Third.lean ====
module

public import proofs.«01_k».proof.Proof.Second
@[expose] public section
set_option maxRecDepth 16384
noncomputable section
/-! # The output projection, the gather and the result -/
namespace Cert.KernelIdeal.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ UU ℕ

variable (I : Ins F)

/-! ## Whole buffers -/
section
variable {s : Shape} {off : Fin s.rank → ℕ}
theorem emb_full (h : ∀ a, off a = 0) (inb : ∀ a, off a + s.size a ≤ s.size a) (x : s.Idx) : (Rect.unit (s := s) off s.size inb).emb x = x := by
  funext a
  apply Fin.ext
  rw [Rect.emb_apply]
  show off a + 1 * (x a).val = _
  rw [h a]; omega
end

/-! ## The shares of a gathered block -/
theorem share_split (c : Dev nD) (a b : ℕ) (f : Vec F S256x1024 .bf16) :
    gbPts c a b fullShare f
      ⊣⊢ iprop(gbPts c a b (Transfers.shareDrop fullShare 15) f ∗ bigSep (Finset.Ico 0 15) fun j => gbPts c a b (Transfers.shareTokN fullShare j) f) := by
  have h := Transfers.pointsTo_toks_range (nD := nD) (τ := τ) (sig := sig) (Ix := Unit) (Val := Elt F) (Name := ℕ) (U := UU) (Lvl := ℕ) (ℓ := gbM.view.loc (c : Thread nD τ)) (S := rowSet (n := 256) (m := 1024) a b) (f := f) fullShare 15
  rw [Finset.range_eq_Ico] at h
  exact h

/-! ## Steps -/
/-- A gathering copy towards the peer at mask `j + 1`. -/
theorem send_gb (K : Dev nD × Fin 47 → ℕ) (c : Dev nD) (j : ℕ) (hj : j < 15) (ks kr : Fin 47) (hks : ks.val = 16 + j) (hkr : kr.val = 31 + j)
    (hp : payAt (23 + j) = (j + 1, kr, amtQ 43))
    (hds : dutS (csem ks) = {0}) (hdr : dutS (csem kr) = {0}) (hNs : amtS (csem ks) = amtQ 43) (hNr : amtS (csem kr) = amtQ 43)
    {off : Fin 2 → ℕ} (h : off = ![mLo c, 0]) (inb : ∀ a, off a + S16x1024.size a ≤ S256x1024.size a)
    {h1 h2 : ∀ a, (Rect.unit (s := S256x1024) off S16x1024.size inb).stride a = 1}
    {dv : Dev nD} (hdv : dv = peer c (j + 1))
    (qs qr : DmaSem sig) (hqs : SemLoc.dma qs = csem ks) (hqr : SemLoc.dma qr = csem kr)
    (hN : (gbM.slice (Rect.unit off S16x1024.size inb) h2).view.amount (.dma qr) = amtQ 43)
    {hsc : (gbM.slice (Rect.unit off S16x1024.size inb) h2).view.ref.isScScratch = false}
    {hsrc : (gbM.slice (Rect.unit off S16x1024.size inb) h1).view.WordExact}
    {hdst : (gbM.slice (Rect.unit off S16x1024.size inb) h2).view.WordExact}
    {hsem : DmaTarget.Typed .vmem (.dma qr) (.remote (dv : Thread nD τ) (gbM.slice (Rect.unit off S16x1024.size inb) h2) (.dma qs) hsc)}
    {α : Type} {Q : α → sProp 𝕄} {κ : PUnit → Prog (TpuEff nD τ sig (Elt F) Λ₀ .tc) α} :
    iprop(records I K ∗ gbPts c (mLo c) (mLo c + 16) (Transfers.shareTokN fullShare j) (gathV I)
        ∗ (∃ f, gbPts (peer c (j + 1)) (mLo c) (mLo c + 16) fullShare f)
        ∗ owesE c (23 + j) ∗ tokAt (c, ks) 0 ∗ tokAt (peer c (j + 1), kr) 0 ∗ ((credAt (c, ks) (amtQ 43) ∗ owesE c (23 + j + 1)) -∗ WP c (κ ⟨⟩) Q))
      ⊢ WP c (Prog.lift (.enqueueDma (gbM.slice (Rect.unit off S16x1024.size inb) h1)
          (.remote (dv : Thread nD τ) (gbM.slice (Rect.unit off S16x1024.size inb) h2) (.dma qs) hsc) (.dma qr) hsrc hdst hsem) >>= κ) Q := by
  have e1 : (gbM.slice (Rect.unit off S16x1024.size inb) h1).view.set = rowSet (n := 256) (m := 1024) (mLo c) (mLo c + 16) :=
    set_gb (k := 16) h inb
  iintro ⟨#HR, Hs, ⟨%fd, Hd⟩, HO, Ht1, Ht2, Hk⟩
  iapply (send_step I K c (23 + j) (j + 1) ks kr (amtQ 43) (by omega) hp hds hdr hNs hNr hdv hqs hqr hN (Transfers.shareTokN fullShare j) (gathV I) fd
    (by rw [pay_gsend I c j hj ks hks, e1])
    (by
      rw [pay_grecv I (peer c (j + 1)) j hj kr hkr, peer_peer c (j + 1) (by omega)]
      refine Entails.of_eq ?_
      rw [show (gbM.slice (Rect.unit off S16x1024.size inb) h2).view.set = rowSet (n := 256) (m := 1024) (mLo c) (mLo c + 16) from e1]
      exact pointsTo_congr fun y hy => copy_gb (k := 16) h inb fd (gathV I) hy))
  isplitr; · iexact HR
  isplitl [Hs]; · rw [e1]; iexact Hs
  isplitl [Hd]; · rw [show (gbM.slice (Rect.unit off S16x1024.size inb) h2).view.set = rowSet (n := 256) (m := 1024) (mLo c) (mLo c + 16) from e1]; iexact Hd
  isplitl [HO]; · iexact HO
  isplitl [Ht1]; · iexact Ht1
  isplitl [Ht2]; · iexact Ht2
  iexact Hk

theorem wait_gs (K : Dev nD × Fin 47 → ℕ) (c : Dev nD) (j : ℕ) (hj : j < 15) (k' : Fin 47) (hk : k'.val = 16 + j)
    (hd : dutS (csem k') = {0}) (hN' : amtS (csem k') = amtQ 43)
    {off : Fin 2 → ℕ} (h : off = ![mLo c, 0]) (inb : ∀ a, off a + S16x1024.size a ≤ S256x1024.size a)
    {h1 h2 : ∀ a, (Rect.unit (s := S256x1024) off S16x1024.size inb).stride a = 1}
    (q : DmaSem sig) (hq : SemLoc.dma q = csem k')
    (hN : (gbM.slice (Rect.unit off S16x1024.size inb) h2).view.dmaCredit = amtQ 43)
    {hsrc : (gbM.slice (Rect.unit off S16x1024.size inb) h1).view.WordExact}
    {hdst : (gbM.slice (Rect.unit off S16x1024.size inb) h2).view.WordExact}
    {α : Type} {Q : α → sProp 𝕄} {κ : PUnit → Prog (TpuEff nD τ sig (Elt F) Λ₀ .tc) α} :
    iprop(records I K ∗ levAts L lv ∗ credAt (c, k') (amtQ 43) ∗ owesE c 38 ∗ posAt (c, k')
        ∗ ((owesE c 38 ∗ zeroAt (c, k') ∗ gbPts c (mLo c) (mLo c + 16) (Transfers.shareTokN fullShare j) (gathV I)) -∗ WP c (κ ⟨⟩) Q))
      ⊢ WP c (Prog.lift (.waitDma2 q (gbM.slice (Rect.unit off S16x1024.size inb) h1)
          (gbM.slice (Rect.unit off S16x1024.size inb) h2) hsrc hdst) >>= κ) Q := by
  rw [← pay_gsend I c j hj k' hk]
  exact wait_step I K c 38 k' (amtQ 43) (fun i h1 h2 => absurd h1 (by omega)) hd hN' hq hN

theorem wait_gr (K : Dev nD × Fin 47 → ℕ) (c : Dev nD) (j : ℕ) (hj : j < 15) (k' : Fin 47) (hk : k'.val = 31 + j)
    (hd : dutS (csem k') = {0}) (hN' : amtS (csem k') = amtQ 43)
    {off : Fin 2 → ℕ} (h : off = ![mLo c, 0]) (inb : ∀ a, off a + S16x1024.size a ≤ S256x1024.size a)
    {h1 h2 : ∀ a, (Rect.unit (s := S256x1024) off S16x1024.size inb).stride a = 1}
    (q : DmaSem sig) (hq : SemLoc.dma q = csem k')
    (hN : (gbM.slice (Rect.unit off S16x1024.size inb) h2).view.dmaCredit = amtQ 43)
    {hsrc : (gbM.slice (Rect.unit off S16x1024.size inb) h1).view.WordExact}
    {hdst : (gbM.slice (Rect.unit off S16x1024.size inb) h2).view.WordExact}
    {α : Type} {Q : α → sProp 𝕄} {κ : PUnit → Prog (TpuEff nD τ sig (Elt F) Λ₀ .tc) α} :
    iprop(records I K ∗ levAts L lv ∗ credAt (c, k') (amtQ 43) ∗ owesE c 38 ∗ posAt (c, k')
        ∗ ((owesE c 38 ∗ zeroAt (c, k') ∗ gbPts c (mLo (peer c (j + 1))) (mLo (peer c (j + 1)) + 16) fullShare (gathV I)) -∗ WP c (κ ⟨⟩) Q))
      ⊢ WP c (Prog.lift (.waitDma2 q (gbM.slice (Rect.unit off S16x1024.size inb) h1)
          (gbM.slice (Rect.unit off S16x1024.size inb) h2) hsrc hdst) >>= κ) Q := by
  rw [← pay_grecv I c j hj k' hk]
  exact wait_step I K c 38 k' (amtQ 43) (fun i h1 h2 => absurd h1 (by omega)) hd hN' hq hN

/-! ## The output projection -/
theorem part_eq (c : Dev nD) {y : S256x1024.Idx} (h1 : mLo c ≤ (y 0).val) (h2 : (y 0).val < mLo c + 16) :
    partV I c (ix2 16 1024 ((y 0).val - mLo c) (y 1).val) = gathV I y := by
  have hb := mLo_bounds c
  have ho : owner (y 0).val = c := by
    have := owner_mLo c ((y 0).val - mLo c) (by omega)
    rwa [Nat.add_sub_cancel' h1] at this
  unfold gathV
  rw [ho]
  exact congrArg _ (congrArg (fun r => ix2 16 1024 r (y 1).val) (by omega))

theorem s8_run (c : Dev nD) {α : Type} {Q : α → sProp 𝕄} {κ : Prog (TpuEff nD τ sig (Elt F) Λ₀ .tc) α} :
    iprop((woM.view.loc (c : Thread nD τ) ↦{fullShare} I.wo c) ∗ (∃ f, gbPts (F := F) c (mLo c) (mLo c + 16) fullShare f)
        ∗ (((woM.view.loc (c : Thread nD τ) ↦{fullShare} I.wo c) ∗ gbPts c (mLo c) (mLo c + 16) fullShare (gathV I)) -∗ WP c κ Q))
      ⊢ WP c (s8 woM gbM (Memref.isWhole_whole _) c (rowsB (mLo c) (sumV I c)) (secondV I (peer c 2) 2) (secondV I (peer c 4) 4)
          (secondV I (peer c 6) 6) (secondV I (peer c 8) 8) (secondV I (peer c 10) 10) (secondV I (peer c 12) 12) (secondV I (peer c 14) 14) κ) Q := by
  unfold s8
  iintro ⟨Hw, ⟨%f, Hg⟩, Hk⟩
  iapply (load_step c (m := woM) (Finset.subset_univ _))
  isplitl [Hw]; · iexact Hw
  iintro Hw
  iapply (load_gb c 16 (mLo c) (off25_eq c) _ rfl rfl _ rfl)
  isplitl [Hg]; · iexact Hg
  iintro Hg
  iapply (store_gb c 16 (mLo c) (off25_eq c) _ rfl rfl (gathV I) (fun y h1 h2 => by
    rw [← part_eq I c h1 h2]
    refine congrFun ?_ _
    rw [show ((woM.access (Rect.unit ![0, 0] S1024x1024.size inb_S1024x1024_S1024x1024_0_0)).read (Elt F) (I.wo c)) = I.wo c from
      funext fun x => congrArg (I.wo c) (emb_full (s := S1024x1024) (by decide) _ x)]
    rfl))
  isplitl [Hg]; · iexact Hg
  iintro Hg
  iapply Hk
  isplitl [Hw]; · iexact Hw
  iexact Hg

/-! ## The gather -/
set_option maxHeartbeats 4000000 in
theorem s9_run (K : Dev nD × Fin 47 → ℕ) (c : Dev nD) {α : Type} {Q : α → sProp 𝕄} {κ : Prog (TpuEff nD τ sig (Elt F) Λ₀ .tc) α} :
    iprop(records I K ∗ owesE c 23 ∗ gbPts c (mLo c) (mLo c + 16) fullShare (gathV I)
        ∗ (bigSep (Finset.Ico 0 15) fun j => iprop(∃ f, gbPts (F := F) (peer c (j + 1)) (mLo c) (mLo c + 16) fullShare f))
        ∗ (bigSep (Finset.Ico 0 15) fun j => iprop(tokAt (F := F) (c, fk (16 + j)) 0 ∗ tokAt (peer c (j + 1), fk (31 + j)) 0))
        ∗ ((owesE c 38 ∗ gbPts c (mLo c) (mLo c + 16) (Transfers.shareDrop fullShare 15) (gathV I)
            ∗ bigSep (Finset.Ico 0 15) fun j => credAt (F := F) (c, fk (16 + j)) (amtQ 43)) -∗ WP c κ Q))
      ⊢ WP c (s9 gbM (Memref.isWhole_whole _) cc0_scratch12 cc0_scratch13 c κ) Q := by
  unfold s9
  iintro ⟨#HR, HO, Hg, Hds, Hts, Hk⟩
  ihave Hg := (share_split c (mLo c) (mLo c + 16) (gathV I)).1 $$ Hg
  icases Hg with ⟨Hown, Hss⟩
  ihave Hcs := (none_yet (F := F) (Φ := fun j => credAt (F := F) (c, fk (16 + j)) (amtQ 43)) 0) $$ []
  · iempintro
  ihave Hss := (peel 0 15 (by decide)) $$ Hss; icases Hss with ⟨Hs, Hss⟩
  ihave Hds := (peel 0 15 (by decide)) $$ Hds; icases Hds with ⟨Hd, Hds⟩
  ihave Hts := (peel 0 15 (by decide)) $$ Hts; icases Hts with ⟨⟨Ht1, Ht2⟩, Hts⟩
  iapply (send_gb I K c 0 (by decide) (fk (16 + 0)) (fk (31 + 0)) rfl rfl rfl rfl rfl rfl rfl (off26_eq c) _ (dev24_eq c _)
    ((SemArray.slice cc0_scratch12 (Rect.unit ![0] S1.size inb_S15_S1_0)).squeeze S_ squeezes_S1_S_).sem
    ((SemArray.slice cc0_scratch13 (Rect.unit ![0] S1.size inb_S15_S1_0)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 0 (by decide)) $$ [Hcs Hc]
  · isplitl [Hcs]; · iexact Hcs
    iexact Hc
  ihave Hss := (peel 1 15 (by decide)) $$ Hss; icases Hss with ⟨Hs, Hss⟩
  ihave Hds := (peel 1 15 (by decide)) $$ Hds; icases Hds with ⟨Hd, Hds⟩
  ihave Hts := (peel 1 15 (by decide)) $$ Hts; icases Hts with ⟨⟨Ht1, Ht2⟩, Hts⟩
  iapply (send_gb I K c 1 (by decide) (fk (16 + 1)) (fk (31 + 1)) rfl rfl rfl rfl rfl rfl rfl (off26_eq c) _ (dev25_eq c _)
    ((SemArray.slice cc0_scratch12 (Rect.unit ![1] S1.size inb_S15_S1_1)).squeeze S_ squeezes_S1_S_).sem
    ((SemArray.slice cc0_scratch13 (Rect.unit ![1] S1.size inb_S15_S1_1)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 1 (by decide)) $$ [Hcs Hc]
  · isplitl [Hcs]; · iexact Hcs
    iexact Hc
  ihave Hss := (peel 2 15 (by decide)) $$ Hss; icases Hss with ⟨Hs, Hss⟩
  ihave Hds := (peel 2 15 (by decide)) $$ Hds; icases Hds with ⟨Hd, Hds⟩
  ihave Hts := (peel 2 15 (by decide)) $$ Hts; icases Hts with ⟨⟨Ht1, Ht2⟩, Hts⟩
  iapply (send_gb I K c 2 (by decide) (fk (16 + 2)) (fk (31 + 2)) rfl rfl rfl rfl rfl rfl rfl (off26_eq c) _ (dev26_eq c _)
    ((SemArray.slice cc0_scratch12 (Rect.unit ![2] S1.size inb_S15_S1_2)).squeeze S_ squeezes_S1_S_).sem
    ((SemArray.slice cc0_scratch13 (Rect.unit ![2] S1.size inb_S15_S1_2)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 2 (by decide)) $$ [Hcs Hc]
  · isplitl [Hcs]; · iexact Hcs
    iexact Hc
  ihave Hss := (peel 3 15 (by decide)) $$ Hss; icases Hss with ⟨Hs, Hss⟩
  ihave Hds := (peel 3 15 (by decide)) $$ Hds; icases Hds with ⟨Hd, Hds⟩
  ihave Hts := (peel 3 15 (by decide)) $$ Hts; icases Hts with ⟨⟨Ht1, Ht2⟩, Hts⟩
  iapply (send_gb I K c 3 (by decide) (fk (16 + 3)) (fk (31 + 3)) rfl rfl rfl rfl rfl rfl rfl (off26_eq c) _ (dev27_eq c _)
    ((SemArray.slice cc0_scratch12 (Rect.unit ![3] S1.size inb_S15_S1_3)).squeeze S_ squeezes_S1_S_).sem
    ((SemArray.slice cc0_scratch13 (Rect.unit ![3] S1.size inb_S15_S1_3)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 3 (by decide)) $$ [Hcs Hc]
  · isplitl [Hcs]; · iexact Hcs
    iexact Hc
  ihave Hss := (peel 4 15 (by decide)) $$ Hss; icases Hss with ⟨Hs, Hss⟩
  ihave Hds := (peel 4 15 (by decide)) $$ Hds; icases Hds with ⟨Hd, Hds⟩
  ihave Hts := (peel 4 15 (by decide)) $$ Hts; icases Hts with ⟨⟨Ht1, Ht2⟩, Hts⟩
  iapply (send_gb I K c 4 (by decide) (fk (16 + 4)) (fk (31 + 4)) rfl rfl rfl rfl rfl rfl rfl (off26_eq c) _ (dev28_eq c _)
    ((SemArray.slice cc0_scratch12 (Rect.unit ![4] S1.size inb_S15_S1_4)).squeeze S_ squeezes_S1_S_).sem
    ((SemArray.slice cc0_scratch13 (Rect.unit ![4] S1.size inb_S15_S1_4)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 4 (by decide)) $$ [Hcs Hc]
  · isplitl [Hcs]; · iexact Hcs
    iexact Hc
  ihave Hss := (peel 5 15 (by decide)) $$ Hss; icases Hss with ⟨Hs, Hss⟩
  ihave Hds := (peel 5 15 (by decide)) $$ Hds; icases Hds with ⟨Hd, Hds⟩
  ihave Hts := (peel 5 15 (by decide)) $$ Hts; icases Hts with ⟨⟨Ht1, Ht2⟩, Hts⟩
  iapply (send_gb I K c 5 (by decide) (fk (16 + 5)) (fk (31 + 5)) rfl rfl rfl rfl rfl rfl rfl (off26_eq c) _ (dev29_eq c _)
    ((SemArray.slice cc0_scratch12 (Rect.unit ![5] S1.size inb_S15_S1_5)).squeeze S_ squeezes_S1_S_).sem
    ((SemArray.slice cc0_scratch13 (Rect.unit ![5] S1.size inb_S15_S1_5)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 5 (by decide)) $$ [Hcs Hc]
  · isplitl [Hcs]; · iexact Hcs
    iexact Hc
  ihave Hss := (peel 6 15 (by decide)) $$ Hss; icases Hss with ⟨Hs, Hss⟩
  ihave Hds := (peel 6 15 (by decide)) $$ Hds; icases Hds with ⟨Hd, Hds⟩
  ihave Hts := (peel 6 15 (by decide)) $$ Hts; icases Hts with ⟨⟨Ht1, Ht2⟩, Hts⟩
  iapply (send_gb I K c 6 (by decide) (fk (16 + 6)) (fk (31 + 6)) rfl rfl rfl rfl rfl rfl rfl (off26_eq c) _ (dev30_eq c _)
    ((SemArray.slice cc0_scratch12 (Rect.unit ![6] S1.size inb_S15_S1_6)).squeeze S_ squeezes_S1_S_).sem
    ((SemArray.slice cc0_scratch13 (Rect.unit ![6] S1.size inb_S15_S1_6)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 6 (by decide)) $$ [Hcs Hc]
  · isplitl [Hcs]; · iexact Hcs
    iexact Hc
  ihave Hss := (peel 7 15 (by decide)) $$ Hss; icases Hss with ⟨Hs, Hss⟩
  ihave Hds := (peel 7 15 (by decide)) $$ Hds; icases Hds with ⟨Hd, Hds⟩
  ihave Hts := (peel 7 15 (by decide)) $$ Hts; icases Hts with ⟨⟨Ht1, Ht2⟩, Hts⟩
  iapply (send_gb I K c 7 (by decide) (fk (16 + 7)) (fk (31 + 7)) rfl rfl rfl rfl rfl rfl rfl (off26_eq c) _ (dev31_eq c _)
    ((SemArray.slice cc0_scratch12 (Rect.unit ![7] S1.size inb_S15_S1_7)).squeeze S_ squeezes_S1_S_).sem
    ((SemArray.slice cc0_scratch13 (Rect.unit ![7] S1.size inb_S15_S1_7)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 7 (by decide)) $$ [Hcs Hc]
  · isplitl [Hcs]; · iexact Hcs
    iexact Hc
  ihave Hss := (peel 8 15 (by decide)) $$ Hss; icases Hss with ⟨Hs, Hss⟩
  ihave Hds := (peel 8 15 (by decide)) $$ Hds; icases Hds with ⟨Hd, Hds⟩
  ihave Hts := (peel 8 15 (by decide)) $$ Hts; icases Hts with ⟨⟨Ht1, Ht2⟩, Hts⟩
  iapply (send_gb I K c 8 (by decide) (fk (16 + 8)) (fk (31 + 8)) rfl rfl rfl rfl rfl rfl rfl (off26_eq c) _ (dev32_eq c _)
    ((SemArray.slice cc0_scratch12 (Rect.unit ![8] S1.size inb_S15_S1_8)).squeeze S_ squeezes_S1_S_).sem
    ((SemArray.slice cc0_scratch13 (Rect.unit ![8] S1.size inb_S15_S1_8)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 8 (by decide)) $$ [Hcs Hc]
  · isplitl [Hcs]; · iexact Hcs
    iexact Hc
  ihave Hss := (peel 9 15 (by decide)) $$ Hss; icases Hss with ⟨Hs, Hss⟩
  ihave Hds := (peel 9 15 (by decide)) $$ Hds; icases Hds with ⟨Hd, Hds⟩
  ihave Hts := (peel 9 15 (by decide)) $$ Hts; icases Hts with ⟨⟨Ht1, Ht2⟩, Hts⟩
  iapply (send_gb I K c 9 (by decide) (fk (16 + 9)) (fk (31 + 9)) rfl rfl rfl rfl rfl rfl rfl (off26_eq c) _ (dev33_eq c _)
    ((SemArray.slice cc0_scratch12 (Rect.unit ![9] S1.size inb_S15_S1_9)).squeeze S_ squeezes_S1_S_).sem
    ((SemArray.slice cc0_scratch13 (Rect.unit ![9] S1.size inb_S15_S1_9)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 9 (by decide)) $$ [Hcs Hc]
  · isplitl [Hcs]; · iexact Hcs
    iexact Hc
  ihave Hss := (peel 10 15 (by decide)) $$ Hss; icases Hss with ⟨Hs, Hss⟩
  ihave Hds := (peel 10 15 (by decide)) $$ Hds; icases Hds with ⟨Hd, Hds⟩
  ihave Hts := (peel 10 15 (by decide)) $$ Hts; icases Hts with ⟨⟨Ht1, Ht2⟩, Hts⟩
  iapply (send_gb I K c 10 (by decide) (fk (16 + 10)) (fk (31 + 10)) rfl rfl rfl rfl rfl rfl rfl (off26_eq c) _ (dev34_eq c _)
    ((SemArray.slice cc0_scratch12 (Rect.unit ![10] S1.size inb_S15_S1_10)).squeeze S_ squeezes_S1_S_).sem
    ((SemArray.slice cc0_scratch13 (Rect.unit ![10] S1.size inb_S15_S1_10)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 10 (by decide)) $$ [Hcs Hc]
  · isplitl [Hcs]; · iexact Hcs
    iexact Hc
  ihave Hss := (peel 11 15 (by decide)) $$ Hss; icases Hss with ⟨Hs, Hss⟩
  ihave Hds := (peel 11 15 (by decide)) $$ Hds; icases Hds with ⟨Hd, Hds⟩
  ihave Hts := (peel 11 15 (by decide)) $$ Hts; icases Hts with ⟨⟨Ht1, Ht2⟩, Hts⟩
  iapply (send_gb I K c 11 (by decide) (fk (16 + 11)) (fk (31 + 11)) rfl rfl rfl rfl rfl rfl rfl (off26_eq c) _ (dev35_eq c _)
    ((SemArray.slice cc0_scratch12 (Rect.unit ![11] S1.size inb_S15_S1_11)).squeeze S_ squeezes_S1_S_).sem
    ((SemArray.slice cc0_scratch13 (Rect.unit ![11] S1.size inb_S15_S1_11)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 11 (by decide)) $$ [Hcs Hc]
  · isplitl [Hcs]; · iexact Hcs
    iexact Hc
  ihave Hss := (peel 12 15 (by decide)) $$ Hss; icases Hss with ⟨Hs, Hss⟩
  ihave Hds := (peel 12 15 (by decide)) $$ Hds; icases Hds with ⟨Hd, Hds⟩
  ihave Hts := (peel 12 15 (by decide)) $$ Hts; icases Hts with ⟨⟨Ht1, Ht2⟩, Hts⟩
  iapply (send_gb I K c 12 (by decide) (fk (16 + 12)) (fk (31 + 12)) rfl rfl rfl rfl rfl rfl rfl (off26_eq c) _ (dev36_eq c _)
    ((SemArray.slice cc0_scratch12 (Rect.unit ![12] S1.size inb_S15_S1_12)).squeeze S_ squeezes_S1_S_).sem
    ((SemArray.slice cc0_scratch13 (Rect.unit ![12] S1.size inb_S15_S1_12)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 12 (by decide)) $$ [Hcs Hc]
  · isplitl [Hcs]; · iexact Hcs
    iexact Hc
  ihave Hss := (peel 13 15 (by decide)) $$ Hss; icases Hss with ⟨Hs, Hss⟩
  ihave Hds := (peel 13 15 (by decide)) $$ Hds; icases Hds with ⟨Hd, Hds⟩
  ihave Hts := (peel 13 15 (by decide)) $$ Hts; icases Hts with ⟨⟨Ht1, Ht2⟩, Hts⟩
  iapply (send_gb I K c 13 (by decide) (fk (16 + 13)) (fk (31 + 13)) rfl rfl rfl rfl rfl rfl rfl (off26_eq c) _ (dev37_eq c _)
    ((SemArray.slice cc0_scratch12 (Rect.unit ![13] S1.size inb_S15_S1_13)).squeeze S_ squeezes_S1_S_).sem
    ((SemArray.slice cc0_scratch13 (Rect.unit ![13] S1.size inb_S15_S1_13)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 13 (by decide)) $$ [Hcs Hc]
  · isplitl [Hcs]; · iexact Hcs
    iexact Hc
  ihave Hss := (peel 14 15 (by decide)) $$ Hss; icases Hss with ⟨Hs, Hss⟩
  ihave Hds := (peel 14 15 (by decide)) $$ Hds; icases Hds with ⟨Hd, Hds⟩
  ihave Hts := (peel 14 15 (by decide)) $$ Hts; icases Hts with ⟨⟨Ht1, Ht2⟩, Hts⟩
  iapply (send_gb I K c 14 (by decide) (fk (16 + 14)) (fk (31 + 14)) rfl rfl rfl rfl rfl rfl rfl (off26_eq c) _ (dev38_eq c _)
    ((SemArray.slice cc0_scratch12 (Rect.unit ![14] S1.size inb_S15_S1_14)).squeeze S_ squeezes_S1_S_).sem
    ((SemArray.slice cc0_scratch13 (Rect.unit ![14] S1.size inb_S15_S1_14)).squeeze S_ squeezes_S1_S_).sem rfl rfl rfl)
  isplitr; · iexact HR
  isplitl [Hs]; · iexact Hs
  isplitl [Hd]; · iexact Hd
  isplitl [HO]; · iexact HO
  isplitl [Ht1]; · iexact Ht1
  isplitl [Ht2]; · iexact Ht2
  iintro ⟨Hc, HO⟩
  ihave Hcs := (push (F := F) 0 14 (by decide)) $$ [Hcs Hc]
  · isplitl [Hcs]; · iexact Hcs
    iexact Hc
  iapply Hk
  isplitl [HO]; · iexact HO
  isplitl [Hown]; · iexact Hown
  iexact Hcs

set_option maxHeartbeats 4000000 in
theorem s10_run (K : Dev nD × Fin 47 → ℕ) (c : Dev nD) {α : Type} {Q : α → sProp 𝕄} {κ : Prog (TpuEff nD τ sig (Elt F) Λ₀ .tc) α} :
    iprop(records I K ∗ levAts L lv ∗ owesE c 38
        ∗ (bigSep (Finset.Ico 0 15) fun j => credAt (F := F) (c, fk (16 + j)) (amtQ 43))
        ∗ (bigSep (Finset.Ico 0 15) fun j => credAt (F := F) (c, fk (31 + j)) (amtQ 43))
        ∗ (bigSep (Finset.Ico 0 15) fun j => iprop(posAt (F := F) (c, fk (16 + j)) ∗ posAt (c, fk (31 + j))))
        ∗ ((owesE c 38
            ∗ (bigSep (Finset.Ico 0 15) fun j => iprop(zeroAt (F := F) (c, fk (16 + j)) ∗ zeroAt (c, fk (31 + j))))
            ∗ (bigSep (Finset.Ico 0 15) fun j => gbPts c (mLo c) (mLo c + 16) (Transfers.shareTokN fullShare j) (gathV I))
            ∗ (bigSep (Finset.Ico 0 15) fun j => gbPts c (mLo (peer c (j + 1))) (mLo (peer c (j + 1)) + 16) fullShare (gathV I))) -∗ WP c κ Q))
      ⊢ WP c (s10 gbM (Memref.isWhole_whole _) cc0_scratch12 cc0_scratch13 c κ) Q := by
  unfold s10
  iintro ⟨#HR, #HL, HO, Hcs, Hcr, Hps, Hk⟩
  ihave Hzs := (none_yet (F := F) (Φ := fun j => iprop(zeroAt (F := F) (c, fk (16 + j)) ∗ zeroAt (c, fk (31 + j)))) 0) $$ []
  · iempintro
  ihave Hss := (none_yet (F := F) (Φ := fun j => gbPts c (mLo c) (mLo c + 16) (Transfers.shareTokN fullShare j) (gathV I)) 0) $$ []
  · iempintro
  ihave Hgs := (none_yet (F := F) (Φ := fun j => gbPts c (mLo (peer c (j + 1))) (mLo (peer c (j + 1)) + 16) fullShare (gathV I)) 0) $$ []
  · iempintro
  ihave Hcs := (peel 0 15 (by decide)) $$ Hcs; icases Hcs with ⟨Hc1, Hcs⟩
  ihave Hcr := (peel 0 15 (by decide)) $$ Hcr; icases Hcr with ⟨Hc2, Hcr⟩
  ihave Hps := (peel 0 15 (by decide)) $$ Hps; icases Hps with ⟨⟨Hp1, Hp2⟩, Hps⟩
  iapply (wait_gs I K c 0 (by decide) (fk (16 + 0)) rfl rfl rfl (off26_eq c) _
    ((SemArray.slice cc0_scratch12 (Rect.unit ![0] S1.size inb_S15_S1_0)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 0 (by decide) (fk (31 + 0)) rfl rfl rfl (off26_eq c) _
    ((SemArray.slice cc0_scratch13 (Rect.unit ![0] S1.size inb_S15_S1_0)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 0 (by decide)) $$ [Hzs Hz1 Hz2]
  · isplitl [Hzs]; · iexact Hzs
    isplitl [Hz1]; · iexact Hz1
    iexact Hz2
  ihave Hss := (push (F := F) 0 0 (by decide)) $$ [Hss Hs]
  · isplitl [Hss]; · iexact Hss
    iexact Hs
  ihave Hgs := (push (F := F) 0 0 (by decide)) $$ [Hgs Hr]
  · isplitl [Hgs]; · iexact Hgs
    iexact Hr
  ihave Hcs := (peel 1 15 (by decide)) $$ Hcs; icases Hcs with ⟨Hc1, Hcs⟩
  ihave Hcr := (peel 1 15 (by decide)) $$ Hcr; icases Hcr with ⟨Hc2, Hcr⟩
  ihave Hps := (peel 1 15 (by decide)) $$ Hps; icases Hps with ⟨⟨Hp1, Hp2⟩, Hps⟩
  iapply (wait_gs I K c 1 (by decide) (fk (16 + 1)) rfl rfl rfl (off26_eq c) _
    ((SemArray.slice cc0_scratch12 (Rect.unit ![1] S1.size inb_S15_S1_1)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 1 (by decide) (fk (31 + 1)) rfl rfl rfl (off26_eq c) _
    ((SemArray.slice cc0_scratch13 (Rect.unit ![1] S1.size inb_S15_S1_1)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 1 (by decide)) $$ [Hzs Hz1 Hz2]
  · isplitl [Hzs]; · iexact Hzs
    isplitl [Hz1]; · iexact Hz1
    iexact Hz2
  ihave Hss := (push (F := F) 0 1 (by decide)) $$ [Hss Hs]
  · isplitl [Hss]; · iexact Hss
    iexact Hs
  ihave Hgs := (push (F := F) 0 1 (by decide)) $$ [Hgs Hr]
  · isplitl [Hgs]; · iexact Hgs
    iexact Hr
  ihave Hcs := (peel 2 15 (by decide)) $$ Hcs; icases Hcs with ⟨Hc1, Hcs⟩
  ihave Hcr := (peel 2 15 (by decide)) $$ Hcr; icases Hcr with ⟨Hc2, Hcr⟩
  ihave Hps := (peel 2 15 (by decide)) $$ Hps; icases Hps with ⟨⟨Hp1, Hp2⟩, Hps⟩
  iapply (wait_gs I K c 2 (by decide) (fk (16 + 2)) rfl rfl rfl (off26_eq c) _
    ((SemArray.slice cc0_scratch12 (Rect.unit ![2] S1.size inb_S15_S1_2)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 2 (by decide) (fk (31 + 2)) rfl rfl rfl (off26_eq c) _
    ((SemArray.slice cc0_scratch13 (Rect.unit ![2] S1.size inb_S15_S1_2)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 2 (by decide)) $$ [Hzs Hz1 Hz2]
  · isplitl [Hzs]; · iexact Hzs
    isplitl [Hz1]; · iexact Hz1
    iexact Hz2
  ihave Hss := (push (F := F) 0 2 (by decide)) $$ [Hss Hs]
  · isplitl [Hss]; · iexact Hss
    iexact Hs
  ihave Hgs := (push (F := F) 0 2 (by decide)) $$ [Hgs Hr]
  · isplitl [Hgs]; · iexact Hgs
    iexact Hr
  ihave Hcs := (peel 3 15 (by decide)) $$ Hcs; icases Hcs with ⟨Hc1, Hcs⟩
  ihave Hcr := (peel 3 15 (by decide)) $$ Hcr; icases Hcr with ⟨Hc2, Hcr⟩
  ihave Hps := (peel 3 15 (by decide)) $$ Hps; icases Hps with ⟨⟨Hp1, Hp2⟩, Hps⟩
  iapply (wait_gs I K c 3 (by decide) (fk (16 + 3)) rfl rfl rfl (off26_eq c) _
    ((SemArray.slice cc0_scratch12 (Rect.unit ![3] S1.size inb_S15_S1_3)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 3 (by decide) (fk (31 + 3)) rfl rfl rfl (off26_eq c) _
    ((SemArray.slice cc0_scratch13 (Rect.unit ![3] S1.size inb_S15_S1_3)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 3 (by decide)) $$ [Hzs Hz1 Hz2]
  · isplitl [Hzs]; · iexact Hzs
    isplitl [Hz1]; · iexact Hz1
    iexact Hz2
  ihave Hss := (push (F := F) 0 3 (by decide)) $$ [Hss Hs]
  · isplitl [Hss]; · iexact Hss
    iexact Hs
  ihave Hgs := (push (F := F) 0 3 (by decide)) $$ [Hgs Hr]
  · isplitl [Hgs]; · iexact Hgs
    iexact Hr
  ihave Hcs := (peel 4 15 (by decide)) $$ Hcs; icases Hcs with ⟨Hc1, Hcs⟩
  ihave Hcr := (peel 4 15 (by decide)) $$ Hcr; icases Hcr with ⟨Hc2, Hcr⟩
  ihave Hps := (peel 4 15 (by decide)) $$ Hps; icases Hps with ⟨⟨Hp1, Hp2⟩, Hps⟩
  iapply (wait_gs I K c 4 (by decide) (fk (16 + 4)) rfl rfl rfl (off26_eq c) _
    ((SemArray.slice cc0_scratch12 (Rect.unit ![4] S1.size inb_S15_S1_4)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 4 (by decide) (fk (31 + 4)) rfl rfl rfl (off26_eq c) _
    ((SemArray.slice cc0_scratch13 (Rect.unit ![4] S1.size inb_S15_S1_4)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 4 (by decide)) $$ [Hzs Hz1 Hz2]
  · isplitl [Hzs]; · iexact Hzs
    isplitl [Hz1]; · iexact Hz1
    iexact Hz2
  ihave Hss := (push (F := F) 0 4 (by decide)) $$ [Hss Hs]
  · isplitl [Hss]; · iexact Hss
    iexact Hs
  ihave Hgs := (push (F := F) 0 4 (by decide)) $$ [Hgs Hr]
  · isplitl [Hgs]; · iexact Hgs
    iexact Hr
  ihave Hcs := (peel 5 15 (by decide)) $$ Hcs; icases Hcs with ⟨Hc1, Hcs⟩
  ihave Hcr := (peel 5 15 (by decide)) $$ Hcr; icases Hcr with ⟨Hc2, Hcr⟩
  ihave Hps := (peel 5 15 (by decide)) $$ Hps; icases Hps with ⟨⟨Hp1, Hp2⟩, Hps⟩
  iapply (wait_gs I K c 5 (by decide) (fk (16 + 5)) rfl rfl rfl (off26_eq c) _
    ((SemArray.slice cc0_scratch12 (Rect.unit ![5] S1.size inb_S15_S1_5)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 5 (by decide) (fk (31 + 5)) rfl rfl rfl (off26_eq c) _
    ((SemArray.slice cc0_scratch13 (Rect.unit ![5] S1.size inb_S15_S1_5)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 5 (by decide)) $$ [Hzs Hz1 Hz2]
  · isplitl [Hzs]; · iexact Hzs
    isplitl [Hz1]; · iexact Hz1
    iexact Hz2
  ihave Hss := (push (F := F) 0 5 (by decide)) $$ [Hss Hs]
  · isplitl [Hss]; · iexact Hss
    iexact Hs
  ihave Hgs := (push (F := F) 0 5 (by decide)) $$ [Hgs Hr]
  · isplitl [Hgs]; · iexact Hgs
    iexact Hr
  ihave Hcs := (peel 6 15 (by decide)) $$ Hcs; icases Hcs with ⟨Hc1, Hcs⟩
  ihave Hcr := (peel 6 15 (by decide)) $$ Hcr; icases Hcr with ⟨Hc2, Hcr⟩
  ihave Hps := (peel 6 15 (by decide)) $$ Hps; icases Hps with ⟨⟨Hp1, Hp2⟩, Hps⟩
  iapply (wait_gs I K c 6 (by decide) (fk (16 + 6)) rfl rfl rfl (off26_eq c) _
    ((SemArray.slice cc0_scratch12 (Rect.unit ![6] S1.size inb_S15_S1_6)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 6 (by decide) (fk (31 + 6)) rfl rfl rfl (off26_eq c) _
    ((SemArray.slice cc0_scratch13 (Rect.unit ![6] S1.size inb_S15_S1_6)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 6 (by decide)) $$ [Hzs Hz1 Hz2]
  · isplitl [Hzs]; · iexact Hzs
    isplitl [Hz1]; · iexact Hz1
    iexact Hz2
  ihave Hss := (push (F := F) 0 6 (by decide)) $$ [Hss Hs]
  · isplitl [Hss]; · iexact Hss
    iexact Hs
  ihave Hgs := (push (F := F) 0 6 (by decide)) $$ [Hgs Hr]
  · isplitl [Hgs]; · iexact Hgs
    iexact Hr
  ihave Hcs := (peel 7 15 (by decide)) $$ Hcs; icases Hcs with ⟨Hc1, Hcs⟩
  ihave Hcr := (peel 7 15 (by decide)) $$ Hcr; icases Hcr with ⟨Hc2, Hcr⟩
  ihave Hps := (peel 7 15 (by decide)) $$ Hps; icases Hps with ⟨⟨Hp1, Hp2⟩, Hps⟩
  iapply (wait_gs I K c 7 (by decide) (fk (16 + 7)) rfl rfl rfl (off26_eq c) _
    ((SemArray.slice cc0_scratch12 (Rect.unit ![7] S1.size inb_S15_S1_7)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 7 (by decide) (fk (31 + 7)) rfl rfl rfl (off26_eq c) _
    ((SemArray.slice cc0_scratch13 (Rect.unit ![7] S1.size inb_S15_S1_7)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 7 (by decide)) $$ [Hzs Hz1 Hz2]
  · isplitl [Hzs]; · iexact Hzs
    isplitl [Hz1]; · iexact Hz1
    iexact Hz2
  ihave Hss := (push (F := F) 0 7 (by decide)) $$ [Hss Hs]
  · isplitl [Hss]; · iexact Hss
    iexact Hs
  ihave Hgs := (push (F := F) 0 7 (by decide)) $$ [Hgs Hr]
  · isplitl [Hgs]; · iexact Hgs
    iexact Hr
  ihave Hcs := (peel 8 15 (by decide)) $$ Hcs; icases Hcs with ⟨Hc1, Hcs⟩
  ihave Hcr := (peel 8 15 (by decide)) $$ Hcr; icases Hcr with ⟨Hc2, Hcr⟩
  ihave Hps := (peel 8 15 (by decide)) $$ Hps; icases Hps with ⟨⟨Hp1, Hp2⟩, Hps⟩
  iapply (wait_gs I K c 8 (by decide) (fk (16 + 8)) rfl rfl rfl (off26_eq c) _
    ((SemArray.slice cc0_scratch12 (Rect.unit ![8] S1.size inb_S15_S1_8)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 8 (by decide) (fk (31 + 8)) rfl rfl rfl (off26_eq c) _
    ((SemArray.slice cc0_scratch13 (Rect.unit ![8] S1.size inb_S15_S1_8)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 8 (by decide)) $$ [Hzs Hz1 Hz2]
  · isplitl [Hzs]; · iexact Hzs
    isplitl [Hz1]; · iexact Hz1
    iexact Hz2
  ihave Hss := (push (F := F) 0 8 (by decide)) $$ [Hss Hs]
  · isplitl [Hss]; · iexact Hss
    iexact Hs
  ihave Hgs := (push (F := F) 0 8 (by decide)) $$ [Hgs Hr]
  · isplitl [Hgs]; · iexact Hgs
    iexact Hr
  ihave Hcs := (peel 9 15 (by decide)) $$ Hcs; icases Hcs with ⟨Hc1, Hcs⟩
  ihave Hcr := (peel 9 15 (by decide)) $$ Hcr; icases Hcr with ⟨Hc2, Hcr⟩
  ihave Hps := (peel 9 15 (by decide)) $$ Hps; icases Hps with ⟨⟨Hp1, Hp2⟩, Hps⟩
  iapply (wait_gs I K c 9 (by decide) (fk (16 + 9)) rfl rfl rfl (off26_eq c) _
    ((SemArray.slice cc0_scratch12 (Rect.unit ![9] S1.size inb_S15_S1_9)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 9 (by decide) (fk (31 + 9)) rfl rfl rfl (off26_eq c) _
    ((SemArray.slice cc0_scratch13 (Rect.unit ![9] S1.size inb_S15_S1_9)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 9 (by decide)) $$ [Hzs Hz1 Hz2]
  · isplitl [Hzs]; · iexact Hzs
    isplitl [Hz1]; · iexact Hz1
    iexact Hz2
  ihave Hss := (push (F := F) 0 9 (by decide)) $$ [Hss Hs]
  · isplitl [Hss]; · iexact Hss
    iexact Hs
  ihave Hgs := (push (F := F) 0 9 (by decide)) $$ [Hgs Hr]
  · isplitl [Hgs]; · iexact Hgs
    iexact Hr
  ihave Hcs := (peel 10 15 (by decide)) $$ Hcs; icases Hcs with ⟨Hc1, Hcs⟩
  ihave Hcr := (peel 10 15 (by decide)) $$ Hcr; icases Hcr with ⟨Hc2, Hcr⟩
  ihave Hps := (peel 10 15 (by decide)) $$ Hps; icases Hps with ⟨⟨Hp1, Hp2⟩, Hps⟩
  iapply (wait_gs I K c 10 (by decide) (fk (16 + 10)) rfl rfl rfl (off26_eq c) _
    ((SemArray.slice cc0_scratch12 (Rect.unit ![10] S1.size inb_S15_S1_10)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 10 (by decide) (fk (31 + 10)) rfl rfl rfl (off26_eq c) _
    ((SemArray.slice cc0_scratch13 (Rect.unit ![10] S1.size inb_S15_S1_10)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 10 (by decide)) $$ [Hzs Hz1 Hz2]
  · isplitl [Hzs]; · iexact Hzs
    isplitl [Hz1]; · iexact Hz1
    iexact Hz2
  ihave Hss := (push (F := F) 0 10 (by decide)) $$ [Hss Hs]
  · isplitl [Hss]; · iexact Hss
    iexact Hs
  ihave Hgs := (push (F := F) 0 10 (by decide)) $$ [Hgs Hr]
  · isplitl [Hgs]; · iexact Hgs
    iexact Hr
  ihave Hcs := (peel 11 15 (by decide)) $$ Hcs; icases Hcs with ⟨Hc1, Hcs⟩
  ihave Hcr := (peel 11 15 (by decide)) $$ Hcr; icases Hcr with ⟨Hc2, Hcr⟩
  ihave Hps := (peel 11 15 (by decide)) $$ Hps; icases Hps with ⟨⟨Hp1, Hp2⟩, Hps⟩
  iapply (wait_gs I K c 11 (by decide) (fk (16 + 11)) rfl rfl rfl (off26_eq c) _
    ((SemArray.slice cc0_scratch12 (Rect.unit ![11] S1.size inb_S15_S1_11)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 11 (by decide) (fk (31 + 11)) rfl rfl rfl (off26_eq c) _
    ((SemArray.slice cc0_scratch13 (Rect.unit ![11] S1.size inb_S15_S1_11)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 11 (by decide)) $$ [Hzs Hz1 Hz2]
  · isplitl [Hzs]; · iexact Hzs
    isplitl [Hz1]; · iexact Hz1
    iexact Hz2
  ihave Hss := (push (F := F) 0 11 (by decide)) $$ [Hss Hs]
  · isplitl [Hss]; · iexact Hss
    iexact Hs
  ihave Hgs := (push (F := F) 0 11 (by decide)) $$ [Hgs Hr]
  · isplitl [Hgs]; · iexact Hgs
    iexact Hr
  ihave Hcs := (peel 12 15 (by decide)) $$ Hcs; icases Hcs with ⟨Hc1, Hcs⟩
  ihave Hcr := (peel 12 15 (by decide)) $$ Hcr; icases Hcr with ⟨Hc2, Hcr⟩
  ihave Hps := (peel 12 15 (by decide)) $$ Hps; icases Hps with ⟨⟨Hp1, Hp2⟩, Hps⟩
  iapply (wait_gs I K c 12 (by decide) (fk (16 + 12)) rfl rfl rfl (off26_eq c) _
    ((SemArray.slice cc0_scratch12 (Rect.unit ![12] S1.size inb_S15_S1_12)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 12 (by decide) (fk (31 + 12)) rfl rfl rfl (off26_eq c) _
    ((SemArray.slice cc0_scratch13 (Rect.unit ![12] S1.size inb_S15_S1_12)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 12 (by decide)) $$ [Hzs Hz1 Hz2]
  · isplitl [Hzs]; · iexact Hzs
    isplitl [Hz1]; · iexact Hz1
    iexact Hz2
  ihave Hss := (push (F := F) 0 12 (by decide)) $$ [Hss Hs]
  · isplitl [Hss]; · iexact Hss
    iexact Hs
  ihave Hgs := (push (F := F) 0 12 (by decide)) $$ [Hgs Hr]
  · isplitl [Hgs]; · iexact Hgs
    iexact Hr
  ihave Hcs := (peel 13 15 (by decide)) $$ Hcs; icases Hcs with ⟨Hc1, Hcs⟩
  ihave Hcr := (peel 13 15 (by decide)) $$ Hcr; icases Hcr with ⟨Hc2, Hcr⟩
  ihave Hps := (peel 13 15 (by decide)) $$ Hps; icases Hps with ⟨⟨Hp1, Hp2⟩, Hps⟩
  iapply (wait_gs I K c 13 (by decide) (fk (16 + 13)) rfl rfl rfl (off26_eq c) _
    ((SemArray.slice cc0_scratch12 (Rect.unit ![13] S1.size inb_S15_S1_13)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 13 (by decide) (fk (31 + 13)) rfl rfl rfl (off26_eq c) _
    ((SemArray.slice cc0_scratch13 (Rect.unit ![13] S1.size inb_S15_S1_13)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 13 (by decide)) $$ [Hzs Hz1 Hz2]
  · isplitl [Hzs]; · iexact Hzs
    isplitl [Hz1]; · iexact Hz1
    iexact Hz2
  ihave Hss := (push (F := F) 0 13 (by decide)) $$ [Hss Hs]
  · isplitl [Hss]; · iexact Hss
    iexact Hs
  ihave Hgs := (push (F := F) 0 13 (by decide)) $$ [Hgs Hr]
  · isplitl [Hgs]; · iexact Hgs
    iexact Hr
  ihave Hcs := (peel 14 15 (by decide)) $$ Hcs; icases Hcs with ⟨Hc1, Hcs⟩
  ihave Hcr := (peel 14 15 (by decide)) $$ Hcr; icases Hcr with ⟨Hc2, Hcr⟩
  ihave Hps := (peel 14 15 (by decide)) $$ Hps; icases Hps with ⟨⟨Hp1, Hp2⟩, Hps⟩
  iapply (wait_gs I K c 14 (by decide) (fk (16 + 14)) rfl rfl rfl (off26_eq c) _
    ((SemArray.slice cc0_scratch12 (Rect.unit ![14] S1.size inb_S15_S1_14)).squeeze S_ squeezes_S1_S_).sem rfl rfl)
  isplitr; · iexact HR
  isplitr; · iexact HL
  isplitl [Hc1]; · iexact Hc1
  isplitl [HO]; · iexact HO
  isplitl [Hp1]; · iexact Hp1
  iintro ⟨HO, Hz1, Hs⟩
  iapply (wait_gr I K c 14 (by decide) (fk (31 + 14)) rfl rfl rfl (off26_eq c) _
    ((SemArray.slice cc0_scratch13 (Rect.unit ![14] S1.size inb_S15_S1_14)).squeeze S_ squeezes_S1_S_).sem rfl rfl)
  isplitr; · iexact HR
  isplitr; · iexact HL
  isplitl [Hc2]; · iexact Hc2
  isplitl [HO]; · iexact HO
  isplitl [Hp2]; · iexact Hp2
  iintro ⟨HO, Hz2, Hr⟩
  ihave Hzs := (push (F := F) 0 14 (by decide)) $$ [Hzs Hz1 Hz2]
  · isplitl [Hzs]; · iexact Hzs
    isplitl [Hz1]; · iexact Hz1
    iexact Hz2
  ihave Hss := (push (F := F) 0 14 (by decide)) $$ [Hss Hs]
  · isplitl [Hss]; · iexact Hss
    iexact Hs
  ihave Hgs := (push (F := F) 0 14 (by decide)) $$ [Hgs Hr]
  · isplitl [Hgs]; · iexact Hgs
    iexact Hr
  iapply Hk
  isplitl [HO]; · iexact HO
  isplitl [Hzs]; · iexact Hzs
  isplitl [Hss]; · iexact Hss
  iexact Hgs

/-! ## The result -/
theorem out_eq (f w : Vec F S1x256x1024 .f32) (y : S1x256x1024.Idx) :
    (oM.access (Rect.unit ![0, 0, 0] S1x256x1024.size inb_S1x256x1024_S1x256x1024_0_0_0)).write (Elt F) f w Finset.univ y = w y := by
  have hy := emb_full (s := S1x256x1024) (off := ![0, 0, 0]) (by decide) inb_S1x256x1024_S1x256x1024_0_0_0 y
  conv_lhs => rw [← hy]
  exact View.write_emb_of_mem (v := oM.access (Rect.unit ![0, 0, 0] S1x256x1024.size inb_S1x256x1024_S1x256x1024_0_0_0)) f w (Finset.mem_univ y)
theorem s11_run (c : Dev nD) {α : Type} {Q : α → sProp 𝕄} {κ : Prog (TpuEff nD τ sig (Elt F) Λ₀ .tc) α} :
    iprop((gbM.view.loc (c : Thread nD τ) ↦{fullShare} gathV I) ∗ (∃ f, oM.view.loc (c : Thread nD τ) ↦{fullShare} f)
        ∗ (((gbM.view.loc (c : Thread nD τ) ↦{fullShare} gathV I) ∗ (oM.view.loc (c : Thread nD τ) ↦{fullShare} resV I)) -∗ WP c κ Q))
      ⊢ WP c (s11 oM gbM κ) Q := by
  unfold s11
  iintro ⟨Hg, ⟨%f, Ho⟩, Hk⟩
  iapply (load_step c (m := gbM) (Finset.subset_univ _))
  isplitl [Hg]; · iexact Hg
  iintro Hg
  iapply (load_step c (m := oM) (Finset.subset_univ _))
  isplitl [Ho]; · iexact Ho
  iintro Ho
  iapply (store_step c (m := oM) (r := Rect.unit ![0, 0, 0] S1x256x1024.size inb_S1x256x1024_S1x256x1024_0_0_0) (f := f) (resV I) (Finset.subset_univ _)
    (fun y _ => (out_eq f _ y).trans (congrFun (congrArg k0_pay1
      (funext fun x => congrArg (gathV I) (emb_full (s := S256x1024) (off := ![0, 0]) (by decide) inb_S256x1024_S256x1024_0_0 x))) y)))
  isplitl [Ho]; · iexact Ho
  iintro Ho
  iapply Hk
  isplitl [Hg]; · iexact Hg
  iexact Ho

end Cert.KernelIdeal.Run
-- ==== Proof.Body.lean ====
module

public import proofs.«01_k».proof.Proof.Local
public import proofs.«01_k».proof.Proof.Third
@[expose] public section
set_option maxRecDepth 16384
noncomputable section
/-! # The whole body of the kernel on one device -/
namespace Cert.KernelIdeal.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F] [Named F]
local notation "𝕄" => MT nD τ sig Unit (Elt F) ℕ UU ℕ

variable (I : Ins F)

variable (I : Ins F)

/-! ## Buffers in pieces -/

theorem bigSep_first {a b : ℕ} (h : a < b) (A : ℕ → sProp 𝕄) : bigSep (Finset.Ico a b) A = iprop(A a ∗ bigSep (Finset.Ico (a + 1) b) A) := by
  rw [show Finset.Ico a b = insert a (Finset.Ico (a + 1) b) by ext x; simp only [Finset.mem_Ico, Finset.mem_insert]; omega, bigSep_insert (by simp)]
  rfl

theorem pRows : (Finset.Ico 0 8).biUnion (fun i => rowSet (n := 240) (m := 1152) (pA i) (pB i)) = Finset.univ := by
  ext y
  have hy : (y 0).val < 240 := (y 0).isLt
  refine ⟨fun _ => Finset.mem_univ _, fun _ => Finset.mem_biUnion.mpr ?_⟩
  by_cases h : (y 0).val < 128
  · exact ⟨0, by decide, mem_rowSet.mpr ⟨Nat.zero_le _, h⟩⟩
  · replace h : 128 ≤ (y 0).val := Nat.le_of_not_lt h
    refine ⟨((y 0).val - 112) / 16, Finset.mem_Ico.mpr ⟨Nat.zero_le _, by omega⟩, mem_rowSet.mpr ?_⟩
    unfold pA pB; rw [if_neg (by omega)]; omega
theorem pRows_disj : ∀ i ∈ Finset.Ico 0 8, ∀ j ∈ Finset.Ico 0 8, i ≠ j → Disjoint (rowSet (n := 240) (m := 1152) (pA i) (pB i)) (rowSet (pA j) (pB j)) :=
  fun i _ j _ h => disj_rows (by unfold pA pB; split <;> split <;> omega)
theorem lRows : (Finset.Ico 0 15).biUnion (fun i => rowSet (n := 240) (m := 1152) (lA (i + 1)) (lB (i + 1))) = Finset.univ := by
  ext y
  have hy : (y 0).val < 240 := (y 0).isLt
  refine ⟨fun _ => Finset.mem_univ _, fun _ => Finset.mem_biUnion.mpr ?_⟩
  by_cases h : (y 0).val < 128
  · exact ⟨0, by decide, mem_rowSet.mpr ⟨Nat.zero_le _, h⟩⟩
  · obtain ⟨k, h1, h2, h3, h4⟩ : ∃ k, 1 ≤ k ∧ k < 8 ∧ 112 + 16 * k ≤ (y 0).val ∧ (y 0).val < 128 + 16 * k := ⟨((y 0).val - 112) / 16, by omega, by omega, by omega, by omega⟩
    refine ⟨2 * k - 1, Finset.mem_Ico.mpr ⟨Nat.zero_le _, by omega⟩, mem_rowSet.mpr ?_⟩
    have e : 2 * k - 1 + 1 = 2 * k := by omega
    rw [e]
    unfold lA lB; simp only [if_neg (show ¬ 2 * k = 1 by omega), if_pos (show 2 * k % 2 = 0 by omega)]; omega
theorem lRows_disj : ∀ i ∈ Finset.Ico 0 15, ∀ j ∈ Finset.Ico 0 15, i ≠ j → Disjoint (rowSet (n := 240) (m := 1152) (lA (i + 1)) (lB (i + 1))) (rowSet (lA (j + 1)) (lB (j + 1))) :=
  fun i _ j _ h => by
    rw [Finset.disjoint_left]; intro y h1 h2
    rw [mem_rowSet] at h1 h2; unfold lA lB at h1 h2
    split at h1 <;> split at h2 <;> (try split at h1) <;> (try split at h2) <;> omega
theorem peer_zero (c : Dev nD) : peer c 0 = c := by revert c; decide +kernel
theorem owner_peer (c : Dev nD) : ∀ r : Fin 256, ∃ j : Fin 16, owner r.val = peer c j.val := by
  have h : ∀ c d : Dev nD, ∃ j : Fin 16, d = peer c j.val := by decide +kernel
  exact fun r => h c (owner r.val)
theorem gRows (c : Dev nD) : (Finset.Ico 0 16).biUnion (fun i => rowSet (n := 256) (m := 1024) (mLo (peer c i)) (mLo (peer c i) + 16)) = Finset.univ := by
  ext y
  have hy : (y 0).val < 256 := (y 0).isLt
  refine ⟨fun _ => Finset.mem_univ _, fun _ => Finset.mem_biUnion.mpr ?_⟩
  obtain ⟨j, hj⟩ := owner_peer c ⟨(y 0).val, hy⟩
  refine ⟨j.val, Finset.mem_Ico.mpr ⟨Nat.zero_le _, j.isLt⟩, mem_rowSet.mpr ?_⟩
  rw [← hj, mLo_owner _ hy]; exact ⟨by show (y 0).val / 16 * 16 ≤ (y 0).val; omega, by show (y 0).val < (y 0).val / 16 * 16 + 16; omega⟩
theorem gRows_disj (c : Dev nD) : ∀ i ∈ Finset.Ico 0 16, ∀ j ∈ Finset.Ico 0 16, i ≠ j →
    Disjoint (rowSet (n := 256) (m := 1024) (mLo (peer c i)) (mLo (peer c i) + 16)) (rowSet (mLo (peer c j)) (mLo (peer c j) + 16)) := by
  have h : ∀ c : Dev nD, ∀ i j : Fin 16, i ≠ j → mLo (peer c i.val) + 16 ≤ mLo (peer c j.val) ∨ mLo (peer c j.val) + 16 ≤ mLo (peer c i.val) := by decide +kernel
  intro i hi j hj hn
  rw [Finset.mem_Ico] at hi hj
  exact disj_rows (h c ⟨i, hi.2⟩ ⟨j, hj.2⟩ (fun e => hn (congrArg Fin.val e)))

theorem ss_pieces (c : Dev nD) (f : Vec F S240x1152 .bf16) :
    ((ssM.view.loc (c : Thread nD τ) ↦{fullShare} f) : sProp 𝕄) = bigSep (Finset.Ico 0 8) fun i => ssPts c (pA i) (pB i) f := by
  rw [← pRows]; exact pointsTo_biUnion _ _ pRows_disj
theorem rs_pieces (c : Dev nD) (f : Vec F S240x1152 .bf16) :
    ((rsM.view.loc (c : Thread nD τ) ↦{fullShare} f) : sProp 𝕄) = bigSep (Finset.Ico 0 8) fun i => rsPts c (pA i) (pB i) f := by
  rw [← pRows]; exact pointsTo_biUnion _ _ pRows_disj
theorem rs_shares (c : Dev nD) (f : Vec F S240x1152 .bf16) :
    ((rsM.view.loc (c : Thread nD τ) ↦{fullShare} f) : sProp 𝕄) = bigSep (Finset.Ico 0 15) fun i => rsPts c (lA (i + 1)) (lB (i + 1)) f := by
  rw [← lRows]; exact pointsTo_biUnion _ _ lRows_disj
theorem gb_pieces (c : Dev nD) (f : Vec F S256x1024 .bf16) :
    ((gbM.view.loc (c : Thread nD τ) ↦{fullShare} f) : sProp 𝕄)
      = iprop(gbPts c (mLo c) (mLo c + 16) fullShare f ∗ bigSep (Finset.Ico 0 15) fun j => gbPts c (mLo (peer c (j + 1))) (mLo (peer c (j + 1)) + 16) fullShare f) := by
  have h : ((gbM.view.loc (c : Thread nD τ) ↦{fullShare} f) : sProp 𝕄) = bigSep (Finset.Ico 0 16) fun i => gbPts c (mLo (peer c i)) (mLo (peer c i) + 16) fullShare f := by
    rw [← gRows c]; exact pointsTo_biUnion _ _ (gRows_disj c)
  rw [h, bigSep_first (by decide), peer_zero]
  have e : Finset.Ico (0 + 1) 16 = (Finset.Ico 0 15).map ⟨fun j => j + 1, fun a b h => Nat.succ.inj h⟩ := by decide
  rw [e, bigSep_map]; rfl

/-! ## The families over a device's 47 cells -/

def cellSplit (Φ : Fin 47 → sProp 𝕄) : sProp 𝕄 :=
  iprop(Φ 46 ∗ Φ 0 ∗ Φ 8 ∗ (bigSep (Finset.Ico 1 8) fun i => iprop(Φ (fk i) ∗ Φ (fk (8 + i)))) ∗ (bigSep (Finset.Ico 0 15) fun j => iprop(Φ (fk (16 + j)) ∗ Φ (fk (31 + j)))))
theorem cells_image : (Finset.univ : Finset (Fin 47)) = {46} ∪ ({0} ∪ ({8} ∪ (((Finset.Ico 1 8).image fk ∪ (Finset.Ico 1 8).image fun i => fk (8 + i)) ∪ ((Finset.Ico 0 15).image (fun j => fk (16 + j)) ∪ (Finset.Ico 0 15).image fun j => fk (31 + j))))) := by decide +kernel
theorem bigSep_fk {s : Finset ℕ} (f : ℕ → Fin 47) (h : Set.InjOn f s) (Φ : Fin 47 → sProp 𝕄) : bigSep (s.image f) Φ = bigSep s fun i => Φ (f i) :=
  Finset.fold_image fun x hx y hy e => h hx hy e
theorem cells_split (Φ : Fin 47 → sProp 𝕄) : bigSep Finset.univ Φ = cellSplit Φ := by
  have i1 : ∀ x ∈ Finset.Ico 1 8, ∀ y ∈ Finset.Ico 1 8, fk x = fk y → x = y := by decide +kernel
  have i2 : ∀ x ∈ Finset.Ico 1 8, ∀ y ∈ Finset.Ico 1 8, fk (8 + x) = fk (8 + y) → x = y := by decide +kernel
  have i3 : ∀ x ∈ Finset.Ico 0 15, ∀ y ∈ Finset.Ico 0 15, fk (16 + x) = fk (16 + y) → x = y := by decide +kernel
  have i4 : ∀ x ∈ Finset.Ico 0 15, ∀ y ∈ Finset.Ico 0 15, fk (31 + x) = fk (31 + y) → x = y := by decide +kernel
  rw [cells_image, bigSep_union (by decide +kernel), bigSep_union (by decide +kernel), bigSep_union (by decide +kernel), bigSep_union (by decide +kernel),
    bigSep_union (by decide +kernel), bigSep_union (by decide +kernel), bigSep_singleton, bigSep_singleton, bigSep_singleton,
    bigSep_fk _ (fun x hx y hy e => i1 x (Finset.mem_coe.mp hx) y (Finset.mem_coe.mp hy) e), bigSep_fk _ (fun x hx y hy e => i2 x (Finset.mem_coe.mp hx) y (Finset.mem_coe.mp hy) e),
    bigSep_fk _ (fun x hx y hy e => i3 x (Finset.mem_coe.mp hx) y (Finset.mem_coe.mp hy) e), bigSep_fk _ (fun x hx y hy e => i4 x (Finset.mem_coe.mp hx) y (Finset.mem_coe.mp hy) e)]
  unfold cellSplit
  rw [bigSep_sep', bigSep_sep']
  rfl

/-! ## The body from end to end -/

/-- What the body needs of the protocol: the records, the levels, what it owes, and the tokens, positions and credit of its cells. -/
def payToks (c : Dev nD) : sProp 𝕄 :=
  iprop((bigSep (Finset.Ico 0 15) fun i => tokAt (peer c (i + 1), 46) (i + 1)) ∗ tokAt (c, 0) 0 ∗ tokAt (peer c 1, 8) 0
    ∗ (bigSep (Finset.Ico 1 8) fun i => iprop(tokAt (F := F) (c, fk i) 0 ∗ tokAt (peer c (mOf i), fk (8 + i)) 0))
    ∗ (bigSep (Finset.Ico 0 15) fun j => iprop(tokAt (F := F) (c, fk (16 + j)) 0 ∗ tokAt (peer c (j + 1), fk (31 + j)) 0)))
def startCreds (c : Dev nD) : sProp 𝕄 :=
  iprop(credAt (c, 46) 15 ∗ credAt (c, 8) (amtQ 12) ∗ (bigSep (Finset.Ico 1 8) fun i => credAt (F := F) (c, fk (8 + i)) (amtQ 13))
    ∗ (bigSep (Finset.Ico 0 15) fun j => credAt (F := F) (c, fk (31 + j)) (amtQ 43)))
/-- The scratch buffers at any contents. -/
def scratch (c : Dev nD) : sProp 𝕄 :=
  iprop((∃ f, accM.view.loc (c : Thread nD τ) ↦{fullShare} f) ∗ (∃ f, ssM.view.loc (c : Thread nD τ) ↦{fullShare} f) ∗ (∃ f, rsM.view.loc (c : Thread nD τ) ↦{fullShare} f)
    ∗ (∃ f, gbM.view.loc (c : Thread nD τ) ↦{fullShare} f) ∗ (∃ f, qM.view.loc (c : Thread nD τ) ↦{fullShare} f) ∗ (∃ f, kbM.view.loc (c : Thread nD τ) ↦{fullShare} f)
    ∗ (∃ f, vbM.view.loc (c : Thread nD τ) ↦{fullShare} f) ∗ (∃ f, ksM.view.loc (c : Thread nD τ) ↦{fullShare} f) ∗ (∃ f, vsM.view.loc (c : Thread nD τ) ↦{fullShare} f))

/-- The device's landing rows and gather rows, dealt to the fifteen others. -/
theorem deal (c : Dev nD) (fr : Vec F S240x1152 .bf16) (fg : Vec F S256x1024 .bf16) :
    iprop((bigSep (Finset.Ico 0 15) fun i => tokAt (peer c (i + 1), 46) (i + 1)) ∗ (rsM.view.loc (c : Thread nD τ) ↦{fullShare} fr) ∗ (gbM.view.loc (c : Thread nD τ) ↦{fullShare} fg))
      ⊢ iprop((bigSep (Finset.Ico 0 15) fun i => iprop(tokAt (peer c (i + 1), 46) (i + 1) ∗ barPay (F := F) (peer c (i + 1)) (i + 1))) ∗ gbPts c (mLo c) (mLo c + 16) fullShare fg) := by
  rw [rs_shares, gb_pieces, bigSep_sep']
  iintro ⟨Ht, Hr, Hg, Hgs⟩
  isplitr [Hg]
  · isplitl [Ht]; · iexact Ht
    iapply (show iprop((bigSep (Finset.Ico 0 15) fun i => rsPts c (lA (i + 1)) (lB (i + 1)) fr) ∗ (bigSep (Finset.Ico 0 15) fun j => gbPts c (mLo (peer c (j + 1))) (mLo (peer c (j + 1)) + 16) fullShare fg))
      ⊢ (bigSep (Finset.Ico 0 15) fun i => barPay (F := F) (peer c (i + 1)) (i + 1) : sProp 𝕄) from by
        rw [← bigSep_sep']
        refine bigSep_mono fun i hi => ?_
        rw [Finset.mem_Ico] at hi
        unfold barPay
        rw [peer_peer c (i + 1) (by omega)]
        show iprop(rsPts c (lA (i + 1)) (lB (i + 1)) fr ∗ gbPts c (mLo (peer c (i + 1))) (mLo (peer c (i + 1)) + 16) fullShare fg) ⊢ _
        iintro ⟨H1, H2⟩
        isplitl [H1]; · iexists fr; iexact H1
        iexists fg; iexact H2)
    isplitl [Hr] <;> iassumption
  iexact Hg

/-- The send rows together again. -/
theorem ss_join (c : Dev nD) (f : Vec F S240x1152 .bf16) :
    iprop(ssPts c (pA 0) (pB 0) f ∗ bigSep (Finset.Ico 1 8) fun i => ssPts c (pA i) (pB i) f) ⊢ iprop(∃ f, ssM.view.loc (c : Thread nD τ) ↦{fullShare} f) := by
  iintro H
  iexists f
  rw [ss_pieces c f, bigSep_first (a := 0) (b := 8) (by decide)]
  iexact H
theorem rs_join (c : Dev nD) (f : Vec F S240x1152 .bf16) :
    iprop(rsPts c (pA 0) (pB 0) f ∗ bigSep (Finset.Ico 1 8) fun i => rsPts c (pA i) (pB i) f) ⊢ iprop(∃ f, rsM.view.loc (c : Thread nD τ) ↦{fullShare} f) := by
  iintro H
  iexists f
  rw [rs_pieces c f, bigSep_first (a := 0) (b := 8) (by decide)]
  iexact H
theorem ss_split (c : Dev nD) (f : Vec F S240x1152 .bf16) :
    ((ssM.view.loc (c : Thread nD τ) ↦{fullShare} f) : sProp 𝕄) ⊢ iprop((∃ f, ssPts c 0 128 f) ∗ bigSep (Finset.Ico 1 8) fun i => iprop(∃ f, ssPts c (pA i) (pB i) f)) := by
  rw [ss_pieces c f, bigSep_first (a := 0) (b := 8) (by decide)]
  iintro ⟨H0, H⟩
  isplitl [H0]; · iexists f; iexact H0
  iapply (show (bigSep (Finset.Ico 1 8) fun i => ssPts c (pA i) (pB i) f) ⊢ (bigSep (Finset.Ico 1 8) fun i => iprop(∃ f, ssPts c (pA i) (pB i) f) : sProp 𝕄) from
    bigSep_mono fun i _ => (show ssPts c (pA i) (pB i) f ⊢ iprop(∃ f, ssPts c (pA i) (pB i) f) from by
      iintro H; iexists f; iexact H))
  iexact H

/-- What the body leaves. -/
def bodyEnd (c : Dev nD) : sProp 𝕄 :=
  iprop(owesE c 38 ∗ inPts I c ∗ (woM.view.loc (c : Thread nD τ) ↦{fullShare} I.wo c) ∗ (oM.view.loc (c : Thread nD τ) ↦{fullShare} resV I)
    ∗ scratch (F := F) c ∗ kvSems (F := F) c ∗ cellSplit fun k => zeroAt (F := F) (c, k))

theorem body_ret (c : Dev nD) {Q : PUnit → sProp 𝕄} : Q ⟨⟩ ⊢ WP c (s11.tail (F := F)) Q := by
  show _ ⊢ wp frame (wpE (defs₀ (F := F)) 𝒱₀ (c : Thread nD τ) none) Set.univ (.ret ⟨⟩) Q
  rw [wp_ret]
  exact fupd_intro

set_option maxHeartbeats 4000000 in
theorem flat_run (K : Dev nD × Fin 47 → ℕ) (c : Dev nD) {Q : PUnit → sProp 𝕄} :
    iprop(records I K ∗ levAts L lv ∗ owesE c 0 ∗ payToks (F := F) c ∗ startCreds (F := F) c ∗ (cellSplit fun k => posAt (F := F) (c, k))
        ∗ inPts I c ∗ (woM.view.loc (c : Thread nD τ) ↦{fullShare} I.wo c) ∗ (∃ f, oM.view.loc (c : Thread nD τ) ↦{fullShare} f)
        ∗ scratch (F := F) c ∗ kvSems (F := F) c ∗ (bodyEnd I c -∗ Q ⟨⟩))
      ⊢ WP c (cc0_body xM (Memref.isWhole_whole _) wqM (Memref.isWhole_whole _) woM (Memref.isWhole_whole _) kM (Memref.isWhole_whole _) vM (Memref.isWhole_whole _) oM (Memref.isWhole_whole _)
          accM (Memref.isWhole_whole _) ssM (Memref.isWhole_whole _) rsM (Memref.isWhole_whole _) gbM (Memref.isWhole_whole _) qM (Memref.isWhole_whole _) kbM (Memref.isWhole_whole _)
          vbM (Memref.isWhole_whole _) ksM (Memref.isWhole_whole _) vsM (Memref.isWhole_whole _) cc0_scratch9 cc0_scratch10 cc0_scratch11 cc0_scratch12 cc0_scratch13) Q := by
  unfold payToks startCreds cellSplit scratch
  rw [flat.eq, s1.eq]
  iintro ⟨#HR, #HL, HO, ⟨HtB, Ht0, Ht8, Hts, Htg⟩, ⟨HcB, Hc8, Hcr, Hcg⟩, ⟨HpB, Hp0, Hp8, Hps, Hpg⟩, Hin, Hwo, Hout, ⟨Hacc, ⟨%fs, Hss⟩, ⟨%fr, Hrs⟩, ⟨%fg, Hgb⟩, Hq, Hkb, Hvb, Hks, Hvs⟩, Hkv, Hk⟩
  ihave Hd := (deal c fr fg) $$ [HtB Hrs Hgb]
  · isplitl [HtB]; · iexact HtB
    isplitl [Hrs] <;> iassumption
  icases Hd with ⟨HB, Hgown⟩
  ihave Hsp := (ss_split c fs) $$ Hss
  icases Hsp with ⟨Hs0, Hs⟩
  iapply (s1_run I K c)
  isplitr; · iexact HR
  isplitl [HO]; · iexact HO
  isplitl [HB]; · iexact HB
  iintro HO
  rw [s2.eq]
  iapply (s2_run I c)
  isplitr; · iexact HL
  isplitl [HO]; · iexact HO
  isplitl [Hin]; · iexact Hin
  isplitl [Hacc]; · iexact Hacc
  isplitl [Hq]; · iexact Hq
  isplitl [Hkb]; · iexact Hkb
  isplitl [Hvb]; · iexact Hvb
  isplitl [Hks]; · iexact Hks
  isplitl [Hvs]; · iexact Hvs
  isplitl [Hkv]; · iexact Hkv
  iintro ⟨HO, Hin, ⟨%fa, %hfa, Ha⟩, Hq, Hkb, Hvb, Hks, Hvs, Hkv⟩
  rw [s3.eq]
  iapply (s3_run I K c fa hfa)
  isplitr; · iexact HR
  isplitr; · iexact HL
  isplitl [HO]; · iexact HO
  isplitl [HcB]; · iexact HcB
  isplitl [HpB]; · iexact HpB
  isplitl [Ha]; · iexact Ha
  isplitl [Hs0]; · iexact Hs0
  isplitl [Ht0]; · iexact Ht0
  isplitl [Ht8]; · iexact Ht8
  iintro ⟨HO, HzB, Ha, Hc0, Hrd, Hgd⟩
  rw [s4.eq]
  iapply (s4_run I c fa)
  isplitl [Ha]; · iexact Ha
  isplitl [Hq]; · iexact Hq
  isplitl [Hkb]; · iexact Hkb
  isplitl [Hvb]; · iexact Hvb
  iintro ⟨⟨%fb, %hfb, Ha⟩, Hq, Hkb, Hvb⟩
  rw [s5.eq]
  iapply (s5_run I K c fb hfb)
  isplitr; · iexact HR
  isplitr; · iexact HL
  isplitl [HO]; · iexact HO
  isplitl [Hc0]; · iexact Hc0
  isplitl [Hc8]; · iexact Hc8
  isplitl [Hp0]; · iexact Hp0
  isplitl [Hp8]; · iexact Hp8
  isplitl [Ha]; · iexact Ha
  iintro ⟨HO, Hz0, Hz8, ⟨%fd, %hfd, Ha⟩, Hs0, Hr0⟩
  rw [s6.eq]
  iapply (s6_run I K c fd hfd)
  isplitr; · iexact HR
  isplitl [HO]; · iexact HO
  isplitl [Ha]; · iexact Ha
  isplitl [Hs]; · iexact Hs
  isplitl [Hrd]; · iexact Hrd
  isplitl [Hts]; · iexact Hts
  iintro ⟨HO, Ha, Hcs⟩
  rw [s7.eq]
  iapply (s7_run I K c fd hfd)
  isplitr; · iexact HR
  isplitr; · iexact HL
  isplitl [HO]; · iexact HO
  isplitl [Ha]; · iexact Ha
  isplitl [Hcs]; · iexact Hcs
  isplitl [Hcr]; · iexact Hcr
  isplitl [Hps]; · iexact Hps
  iintro ⟨HO, Ha, Hzs, Hbs⟩
  rw [s8.eq]
  iapply (s8_run I c)
  isplitl [Hwo]; · iexact Hwo
  isplitl [Hgown]; · iexists fg; iexact Hgown
  iintro ⟨Hwo, Hgown⟩
  rw [s9.eq]
  iapply (s9_run I K c)
  isplitr; · iexact HR
  isplitl [HO]; · iexact HO
  isplitl [Hgown]; · iexact Hgown
  isplitl [Hgd]; · iexact Hgd
  isplitl [Htg]; · iexact Htg
  iintro ⟨HO, Hgown, Hcgs⟩
  rw [s10.eq]
  iapply (s10_run I K c)
  isplitr; · iexact HR
  isplitr; · iexact HL
  isplitl [HO]; · iexact HO
  isplitl [Hcgs]; · iexact Hcgs
  isplitl [Hcg]; · iexact Hcg
  isplitl [Hpg]; · iexact Hpg
  iintro ⟨HO, Hzg, Htk, Hgs⟩
  ihave Hgown := (share_split c (mLo c) (mLo c + 16) (gathV I)).2 $$ [Hgown Htk]
  · isplitl [Hgown] <;> iassumption
  ihave Hgb := (Entails.of_eq (gb_pieces c (gathV I)).symm) $$ [Hgown Hgs]
  · isplitl [Hgown] <;> iassumption
  rw [s11.eq]
  iapply (s11_run I c)
  isplitl [Hgb]; · iexact Hgb
  isplitl [Hout]; · iexact Hout
  iintro ⟨Hgb, Hout⟩
  iapply (body_ret c)
  iapply Hk
  unfold bodyEnd scratch cellSplit
  ihave Hbs := (Entails.of_eq (bigSep_sep' (Finset.Ico 1 8) (fun i => ssPts c (pA i) (pB i) (sendV I c)) (fun i => rsPts c (pA i) (pB i) (landV I c)))) $$ Hbs
  icases Hbs with ⟨Hbs, Hbr⟩
  isplitl [HO]; · iexact HO
  isplitl [Hin]; · iexact Hin
  isplitl [Hwo]; · iexact Hwo
  isplitl [Hout]; · iexact Hout
  isplitl [Ha Hs0 Hbs Hr0 Hbr Hgb Hq Hkb Hvb Hks Hvs]
  · isplitl [Ha]; · iexists fd; iexact Ha
    isplitl [Hs0 Hbs]
    · iapply (ss_join c (sendV I c)); isplitl [Hs0] <;> iassumption
    isplitl [Hr0 Hbr]
    · iapply (rs_join c (landV I c)); isplitl [Hr0] <;> iassumption
    isplitl [Hgb]; · iexists gathV I; iexact Hgb
    isplitl [Hq]; · iexists qV I c; iexact Hq
    isplitl [Hkb]; · iexists wideV (I.k c); iexact Hkb
    isplitl [Hvb]; · iexists wideV (I.v c); iexact Hvb
    isplitl [Hks]; · iexact Hks
    iexact Hvs
  isplitl [Hkv]; · iexact Hkv
  isplitl [HzB]; · iexact HzB
  isplitl [Hz0]; · iexact Hz0
  isplitl [Hz8]; · iexact Hz8
  isplitl [Hzs]; · iexact Hzs
  iexact Hzg

end Cert.KernelIdeal.Run
-- ==== Proof.Launch.lean ====
module

public import proofs.«01_k».proof.Proof.Body
public import proofs.«01_k».proof.Proof.Gen.KernelIdeal.Points
public import Idealize.ShloMosaic.Lib.Pipeline.CollectiveSegs
public import Idealize.ShloMosaic.Lib.Pipeline.Quiescent
public import Idealize.ShloMosaic.Lib.Pipeline.Value
@[expose] public section
set_option maxRecDepth 16384
noncomputable section
/-! # The launch: the sixteen bodies from any memory with idle semaphores -/
namespace Cert.KernelIdeal.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ UU ℕ

variable (m : (ℓ : Loc nD τ sig) → Buf (Elt F) ℓ) (ρ : Dev nD → PrngReg)

/-! ## The pipeline's data -/

/-- The devices' inputs, as the region stages them. -/
def insOf : Ins F where
  x c := (win0_0.blk t0_0).view.read (Elt F) (m ((c : Thread nD τ).loc main_arg0))
  wq c := (win0_1.blk t0_0).view.read (Elt F) (m ((c : Thread nD τ).loc main_arg1))
  wo c := (win0_2.blk t0_0).view.read (Elt F) (m ((c : Thread nD τ).loc main_arg2))
  k c := m ((c : Thread nD τ).loc main_arg3)
  v c := m ((c : Thread nD τ).loc main_arg4)

/-- The two arrays the body copies from itself. -/
abbrev kvPts (c : Dev nD) : sProp 𝕄 :=
  iprop((((c : Thread nD τ).loc main_arg3) ↦{fullShare} m ((c : Thread nD τ).loc main_arg3)) ∗ (((c : Thread nD τ).loc main_arg4) ↦{fullShare} m ((c : Thread nD τ).loc main_arg4)))
/-- What a device has from the protocol at the start. -/
def ghost (c : Dev nD) : sProp 𝕄 :=
  iprop(∃ K, records (insOf m) K ∗ payToks (F := F) c ∗ (cellSplit fun k => posAt (F := F) (c, k)) ∗ kvSems (F := F) c)
def start (c : Dev nD) : sProp 𝕄 := iprop(ghost m c ∗ levAts L lv ∗ startCreds (F := F) c ∗ kvPts m c)
def Φ₀ (c : Dev nD) : sProp 𝕄 := iprop(start m c ∗ scratch (F := F) c)
def Φ₁ (c : Dev nD) : sProp 𝕄 := iprop(kvPts m c ∗ scratch (F := F) c ∗ kvSems (F := F) c ∗ cellSplit fun k => zeroAt (F := F) (c, k))

def dats (_ : Fin 1) (c : Dev nD) : Dat τ (Elt F) Unit ℕ UU ℕ cfg0 c where
  A w := m ((cfg0.win w).arr.view.loc (c : Thread nD τ))
  after w _ := match w with
    | ⟨0, _⟩ => (insOf m).x c
    | ⟨1, _⟩ => (insOf m).wq c
    | ⟨2, _⟩ => (insOf m).wo c
    | ⟨3, _⟩ => resV (insOf m)
  Φ t := match t with
    | ⟨0, _⟩ => Φ₀ m c
    | ⟨_ + 1, _⟩ => Φ₁ m c
  q _ := fullShare
  owed t := match t with
    | ⟨0, _⟩ => oweT c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ m c ∗ (dats m 0 c).owesAt () t0_0.succ ∗ stg c cc0_stg0_0 ((insOf m).x c) ∗ stg c cc0_stg1_0 ((insOf m).wq c)
    ∗ stg c cc0_stg2_0 ((insOf m).wo c) ∗ stg c cc0_stg3_0 (resV (insOf m)))

theorem post_intro (c : Dev nD) : bodyEnd (insOf m) c ⊢ bodyPost m c := by
  unfold bodyEnd bodyPost Φ₁ owesE Dat.owesAt Pipeline.owesWithin
  rw [show (dats m 0 c).owed t0_0.succ = 0 from rfl, oweT_end]
  iintro ⟨⟨%W, HO⟩, ⟨Hx, Hq, Hk, Hv⟩, Hw, Ho, Hs, Hkv, Hz⟩
  isplitl [Hk Hv Hs Hkv Hz]
  · isplitl [Hk Hv]
    · isplitl [Hk]; · iexact Hk
      iexact Hv
    isplitl [Hs]; · iexact Hs
    isplitl [Hkv]; · iexact Hkv
    iexact Hz
  isplitl [HO]
  · iexists W
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Ho

theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  simp only [owns_whole_eq]
  show bodyPre m c ⊢ WP c (cc0_body xM (Memref.isWhole_whole _) wqM (Memref.isWhole_whole _) woM (Memref.isWhole_whole _) kM (Memref.isWhole_whole _) vM (Memref.isWhole_whole _) oM (Memref.isWhole_whole _)
          accM (Memref.isWhole_whole _) ssM (Memref.isWhole_whole _) rsM (Memref.isWhole_whole _) gbM (Memref.isWhole_whole _) qM (Memref.isWhole_whole _) kbM (Memref.isWhole_whole _)
          vbM (Memref.isWhole_whole _) ksM (Memref.isWhole_whole _) vsM (Memref.isWhole_whole _) cc0_scratch9 cc0_scratch10 cc0_scratch11 cc0_scratch12 cc0_scratch13) (fun _ => bodyPost m c)
  unfold bodyPre Φ₀ start ghost
  iintro ⟨⟨⟨⟨%K, #HR, Ht, Hp, Hkv⟩, #HL, Hc, Hk, Hv⟩, Hs⟩, Ho, ⟨%d0, %g0, %hg0, Hx⟩, ⟨%d1, %g1, %hg1, Hq⟩, ⟨%d2, %g2, %hg2, Hw⟩, ⟨%d3, %g3, %hg3, Hout⟩⟩
  have h0 : g0 = (insOf m).x c := by rw [hg0]; unfold Dat.before; rw [if_pos (fetch0_0 t0_0)]; rfl
  have h1 : g1 = (insOf m).wq c := by rw [hg1]; unfold Dat.before; rw [if_pos (fetch0_1 t0_0)]; rfl
  have h2 : g2 = (insOf m).wo c := by rw [hg2]; unfold Dat.before; rw [if_pos (fetch0_2 t0_0)]; rfl
  subst h0 h1 h2
  unfold Dat.owesAt Pipeline.owesWithin
  icases Ho with ⟨%W, %hW, HO⟩
  rw [show (dats m 0 c).owed t0_0.castSucc = oweT c 0 from rfl]
  iapply (flat_run (insOf m) K c)
  isplitr; · iexact HR
  isplitr; · iexact HL
  isplitl [HO]; · unfold owesE; iexists W; iexact HO
  isplitl [Ht]; · iexact Ht
  isplitl [Hc]; · iexact Hc
  isplitl [Hp]; · iexact Hp
  isplitl [Hx Hq Hk Hv]
  · isplitl [Hx]; · iexact Hx
    isplitl [Hq]; · iexact Hq
    isplitl [Hk]; · iexact Hk
    iexact Hv
  isplitl [Hw]; · iexact Hw
  isplitl [Hout]; · iexists g3; iexact Hout
  isplitl [Hs]; · iexact Hs
  isplitl [Hkv]; · iexact Hkv
  iintro H
  iapply (post_intro m c)
  iexact H

/-! ## The launch's ghost state -/

abbrev osem : Fin 54 → SemLoc sig := fun i => .dma ⟨4 + i.val, by have := i.isLt; show _ < 58; omega⟩
theorem ownSemFacts : Pipeline.OwnSemFacts cfg0.spec osem := by decide
theorem share_eq (c : Dev nD) (w : Fin cfg0.W) : (dats m 0 c).share w = fullShare := by unfold Dat.share; split <;> rfl

theorem csem_injective : ∀ k k' : Fin 47, csem k = csem k' → k = k' := by decide +kernel
theorem kcell_injective : Function.Injective (kcell : Dev nD × Fin 47 → GSem nD τ sig) := by
  rintro ⟨c, k⟩ ⟨c', k'⟩ h
  have h1 : c = c' := congrArg (fun g : GSem nD τ sig => g.1.1) h
  subst h1
  rw [csem_injective k k' (congrArg Prod.snd h)]
def ringCells : Finset (GSem nD τ sig) := Finset.univ.map ⟨kcell, kcell_injective⟩
def cellToks : Finset (GSem nD τ sig × ℕ × ℕ) :=
  (Finset.univ : Finset (Dev nD × Fin 47)).map ⟨fun ck => (kcell ck, 0, 0), fun a b h => kcell_injective (congrArg Prod.fst h)⟩
def barToks : Finset (GSem nD τ sig × ℕ × ℕ) :=
  (Finset.univ : Finset (Dev nD × Fin 15)).map ⟨fun ci => (kcell (ci.1, 46), 0, ci.2.val + 1), fun a b h =>
    Prod.ext (congrArg (fun x : GSem nD τ sig × ℕ × ℕ => x.1.1.1) h) (Fin.ext (Nat.succ.inj (congrArg (fun x : GSem nD τ sig × ℕ × ℕ => x.2.2) h)))⟩
theorem toks_disjoint : Disjoint barToks cellToks := by
  rw [Finset.disjoint_left]
  intro x h1 h2
  obtain ⟨a, -, rfl⟩ := Finset.mem_map.mp h1
  obtain ⟨b, -, h⟩ := Finset.mem_map.mp h2
  have h : 0 = a.2.val + 1 := congrArg (fun x : GSem nD τ sig × ℕ × ℕ => x.2.2) h
  omega

def u₀ : UU :=
  (initOf (Pipeline.cells cfgs cellOf_inj) (Pipeline.launchToks cfgs cellOf_inj), (initOf ringCells (barToks ∪ cellToks), 1))

/-- The tokens of device `c`'s own cells. -/
def toks (c : Dev nD) : sProp 𝕄 :=
  iprop((bigSep (Finset.Ico 0 15) fun i => tokAt (F := F) (c, 46) (i + 1)) ∗ cellSplit fun k => tokAt (F := F) (c, k) 0)
def G (c : Dev nD) : sProp 𝕄 :=
  iprop((bigSep Finset.univ fun k : Fin 47 => roundState ER (Rd (insOf m)) (kcell (c, k)) 0)
    ∗ (bigSep Finset.univ fun k : Fin 47 => iprop(posAt (F := F) (c, k) ∗ reached ER (kcell (c, k)) 0)) ∗ toks (F := F) c)

theorem bigSep_fin_Ico {n : ℕ} (Φ : ℕ → sProp 𝕄) : (bigSep Finset.univ fun i : Fin n => Φ i.val) = bigSep (Finset.Ico 0 n) Φ := by
  have h : Finset.Ico 0 n = (Finset.univ : Finset (Fin n)).map Fin.valEmbedding := by
    ext x; simp only [Finset.mem_Ico, Finset.mem_map, Finset.mem_univ, true_and, Fin.valEmbedding_apply]
    exact ⟨fun h => ⟨⟨x, h.2⟩, rfl⟩, fun ⟨a, ha⟩ => ha ▸ ⟨Nat.zero_le _, a.isLt⟩⟩
  rw [h, bigSep_map]; rfl

theorem fund_ring : BI.own (ER (F := F) (initOf ringCells (barToks ∪ cellToks))) ⊢ (|==> bigSep Finset.univ (G m) : sProp 𝕄) := by
  have hX (Φ : GSem nD τ sig → sProp 𝕄) : bigSep ringCells Φ = bigSep Finset.univ fun c : Dev nD => bigSep Finset.univ fun k : Fin 47 => Φ (kcell (c, k)) := by
    unfold ringCells; rw [bigSep_map, bigSep_univ_prod]; rfl
  have hB : bigSep barToks (fun x => (dutyTok ER x.1 x.2.1 x.2.2 : sProp 𝕄)) = bigSep Finset.univ fun c : Dev nD => bigSep (Finset.Ico 0 15) fun i => tokAt (F := F) (c, 46) (i + 1) := by
    unfold barToks; rw [bigSep_map, bigSep_univ_prod]
    exact bigSep_congr fun c _ => bigSep_fin_Ico (n := 15) fun i => tokAt (F := F) (c, 46) (i + 1)
  have hC : bigSep cellToks (fun x => (dutyTok ER x.1 x.2.1 x.2.2 : sProp 𝕄)) = bigSep Finset.univ fun c : Dev nD => cellSplit fun k => tokAt (F := F) (c, k) 0 := by
    unfold cellToks; rw [bigSep_map, bigSep_univ_prod]
    exact bigSep_congr fun c _ => cells_split fun k => tokAt (F := F) (c, k) 0
  have hT : bigSep (barToks ∪ cellToks) (fun x => (dutyTok ER x.1 x.2.1 x.2.2 : sProp 𝕄)) = bigSep Finset.univ fun c : Dev nD => toks (F := F) c := by
    rw [bigSep_union toks_disjoint, hB, hC]; unfold toks; rw [bigSep_sep']; rfl
  iintro HX
  imod (Rounds.fund ER (Rd (insOf m)) ringCells (barToks ∪ cellToks)) $$ HX with ⟨Hst, Hr, Hat, Htok⟩
  imodintro
  ihave Hst' := (Entails.of_eq (hX fun g => roundState ER (Rd (insOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- Where cell `k` sits among the kernel's own 54 semaphores. -/
def place (k : Fin 47) : Fin 54 := if k.val < 16 then ⟨k.val, by have := k.isLt; omega⟩ else ⟨(k.val + 8) % 54, Nat.mod_lt _ (by decide)⟩
theorem own_image : (Finset.univ : Finset (Fin 54)) = (Finset.univ.erase (46 : Fin 47)).image place ∪ {16, 17, 18, 19, 20, 21, 22, 23} := by decide +kernel
theorem place_inj : ∀ a ∈ Finset.univ.erase (46 : Fin 47), ∀ b ∈ Finset.univ.erase (46 : Fin 47), place a = place b → a = b := by decide +kernel
theorem place_sem : ∀ k ∈ Finset.univ.erase (46 : Fin 47), osem (place k) = csem k := by decide +kernel

theorem kv_list (c : Dev nD) : (bigSep ({16, 17, 18, 19, 20, 21, 22, 23} : Finset (Fin 54)) fun i => (semVal ((c : Thread nD τ), osem i) 0 : sProp 𝕄)) = kvSems (F := F) c := by
  rw [bigSep_eq_bigSepL_of_eq [16, 17, 18, 19, 20, 21, 22, 23] (by decide) (by decide)]; rfl
theorem unscopedSems0_eq (c : Dev nD) : (unscopedSems0 c : sProp 𝕄) = zeroAt (F := F) (c, 46) := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = iprop((bigSep (Finset.univ.erase (46 : Fin 47)) fun k => zeroAt (F := F) (c, k)) ∗ kvSems (F := F) c) := by
  show (bigSep (Finset.univ : Finset (Fin 54)) fun i => (semVal ((c : Thread nD τ), osem i) 0 : sProp 𝕄)) = _
  rw [own_image, bigSep_union (by decide +kernel), kv_list]
  rw [show bigSep ((Finset.univ.erase (46 : Fin 47)).image place) (fun i => (semVal ((c : Thread nD τ), osem i) 0 : sProp 𝕄))
    = bigSep (Finset.univ.erase (46 : Fin 47)) fun k => (semVal ((c : Thread nD τ), osem (place k)) 0 : sProp 𝕄) from
      Finset.fold_image fun x hx y hy e => place_inj x hx y hy e]
  rw [bigSep_congr fun k hk => show (semVal ((c : Thread nD τ), osem (place k)) 0 : sProp 𝕄) = zeroAt (F := F) (c, k) by rw [place_sem k hk]]
  rfl
/-- All semaphores of a device: the barrier's and the own ones are the cells' and the copies'. -/
theorem sems0_eq (c : Dev nD) :
    iprop(unscopedSems0 c ∗ Pipeline.ownSems0 (Ix := Unit) (Name := ℕ) (U := UU) (Lvl := ℕ) (Val := Elt F) (τ := τ) osem c)
      = iprop((bigSep Finset.univ fun k => zeroAt (F := F) (c, k)) ∗ kvSems (F := F) c) := by
  rw [ownSems0_eq, unscopedSems0_eq, show (Finset.univ : Finset (Fin 47)) = insert 46 (Finset.univ.erase 46) from (Finset.insert_erase (Finset.mem_univ _)).symm,
    bigSep_insert (Finset.notMem_erase _ _), Finset.insert_erase (Finset.mem_univ _)]
  exact BI.Entails.antisymm (by
    show iprop(zeroAt (F := F) (c, 46) ∗ (bigSep (Finset.univ.erase (46 : Fin 47)) fun k => zeroAt (F := F) (c, k)) ∗ kvSems (F := F) c)
      ⊢ iprop((zeroAt (F := F) (c, 46) ∗ (bigSep (Finset.univ.erase (46 : Fin 47)) fun k => zeroAt (F := F) (c, k))) ∗ kvSems (F := F) c)
    iintro ⟨H1, H2, H3⟩
    isplitr [H3]
    · isplitl [H1] <;> iassumption
    iexact H3) (by
    show iprop((zeroAt (F := F) (c, 46) ∗ (bigSep (Finset.univ.erase (46 : Fin 47)) fun k => zeroAt (F := F) (c, k))) ∗ kvSems (F := F) c)
      ⊢ iprop(zeroAt (F := F) (c, 46) ∗ (bigSep (Finset.univ.erase (46 : Fin 47)) fun k => zeroAt (F := F) (c, k)) ∗ kvSems (F := F) c)
    iintro ⟨⟨H1, H2⟩, H3⟩
    isplitl [H1]; · iexact H1
    isplitl [H2] <;> iassumption)

end Cert.KernelIdeal.Run
-- ==== Proof.Run.lean ====
module

public import proofs.«01_k».proof.Proof.Launch
@[expose] public section
set_option maxRecDepth 16384
noncomputable section
/-! # The run of the sixteen devices from launch to end -/
namespace Cert.KernelIdeal.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ UU ℕ

variable (m : (ℓ : Loc nD τ sig) → Buf (Elt F) ℓ) (ρ : Dev nD → PrngReg)

/-! ## The tokens and the invariants, dealt to the devices -/

theorem comm_sep {I J : Type} [DecidableEq J] (s : Finset J) (t : Finset I) (Φ : I → J → sProp 𝕄) :
    (bigSep t fun i => bigSep s fun j => Φ i j) = bigSep s fun j => bigSep t fun i => Φ i j := by
  induction s using Finset.induction_on with
  | empty => simp only [bigSep_empty]; exact bigSep_emp_const t
  | insert a s ha ih =>
    rw [bigSep_insert ha, ← ih, ← bigSep_sep]
    exact bigSep_congr fun i _ => bigSep_insert ha

/-- Exchanging with the peers at a mask. -/
def peerE (μ : ℕ) (h : μ < 16) : Dev nD ≃ Dev nD := ⟨fun c => peer c μ, fun c => peer c μ, fun c => peer_peer c μ h, fun c => peer_peer c μ h⟩
theorem around {s : Finset ℕ} (μ : ℕ → ℕ) (h : ∀ i ∈ s, μ i < 16) (Φ : Dev nD → ℕ → sProp 𝕄) :
    (bigSep Finset.univ fun c : Dev nD => bigSep s fun i => Φ c i) = bigSep Finset.univ fun c : Dev nD => bigSep s fun i => Φ (peer c (μ i)) i := by
  rw [comm_sep, comm_sep s Finset.univ fun c i => Φ (peer c (μ i)) i]
  exact bigSep_congr fun i hi => bigSep_univ_equiv (peerE (μ i) (h i hi)) fun c => Φ c i

theorem toks_around : (bigSep Finset.univ fun c : Dev nD => toks (F := F) c) ⊢ (bigSep Finset.univ fun c : Dev nD => iprop(payToks (F := F) c) : sProp 𝕄) := by
  have e1 := around (F := F) (s := Finset.Ico 0 15) (fun i => i + 1) (fun i hi => by rw [Finset.mem_Ico] at hi; omega) fun c i => tokAt (F := F) (c, 46) (i + 1)
  have e2 := bigSep_univ_equiv (peerE 1 (by decide)) fun c : Dev nD => tokAt (F := F) (c, 8) 0
  have e3 := around (F := F) (s := Finset.Ico 1 8) mOf (fun i hi => by rw [Finset.mem_Ico] at hi; unfold mOf; split <;> omega) fun c i => tokAt (F := F) (c, fk (8 + i)) 0
  have e4 := around (F := F) (s := Finset.Ico 0 15) (fun i => i + 1) (fun i hi => by rw [Finset.mem_Ico] at hi; omega) fun c j => tokAt (F := F) (c, fk (31 + j)) 0
  unfold toks payToks cellSplit
  simp only [bigSep_sep']
  rw [e1, e2, e3, e4]
  iintro ⟨H1, -, H2, H3, ⟨H4, H5⟩, H6, H7⟩
  isplitl [H1]; · iexact H1
  isplitl [H2]; · iexact H2
  isplitl [H3]; · iexact H3
  isplitl [H4 H5]
  · isplitl [H4] <;> iassumption
  isplitl [H6] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 47 => iprop(∃ κ : ℕ, cellInv ER (Rd (insOf m)) κ (kcell (c, k))))
          ∗ (bigSep Finset.univ fun k : Fin 47 => iprop(posAt (F := F) (c, k) ∗ reached ER (kcell (c, k)) 0)) ∗ toks (F := F) c ∗ kvSems (F := F) c) := by
  unfold G
  iintro ⟨Hos, Hus, Hst, Hat, Htok⟩
  ihave Hv := (Entails.of_eq (sems0_eq (F := F) c)) $$ [Hos Hus]
  · isplitl [Hus] <;> iassumption
  icases Hv with ⟨Hv, Hkv⟩
  imod (show iprop((bigSep Finset.univ fun k : Fin 47 => zeroAt (F := F) (c, k)) ∗ bigSep Finset.univ fun k : Fin 47 => roundState ER (Rd (insOf m)) (kcell (c, k)) 0)
      ⊢ (|={Set.univ}=> bigSep Finset.univ fun k : Fin 47 => iprop(∃ κ : ℕ, cellInv ER (Rd (insOf m)) κ (kcell (c, k))) : sProp 𝕄) from by
        rw [← bigSep_sep']
        exact (bigSep_mono fun k _ => (Rounds.body_intro ER (Rd (insOf m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem bigSep_with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What a device keeps for itself. -/
def linear (c : Dev nD) : sProp 𝕄 := iprop((bigSep Finset.univ fun k => posAt (F := F) (c, k)) ∗ payToks (F := F) c ∗ kvSems (F := F) c)
theorem ghost_intro (K : Dev nD × Fin 47 → ℕ) (c : Dev nD) : iprop(records (insOf m) K ∗ linear (F := F) c) ⊢ ghost m c := by
  unfold linear ghost
  rw [cells_split]
  iintro ⟨#HR, Hp, Ht, Hkv⟩
  iexists K
  isplitr; · iexact HR
  isplitl [Ht]; · iexact Ht
  isplitl [Hp] <;> iassumption

theorem regroup :
    (bigSep Finset.univ fun c : Dev nD => iprop((bigSep Finset.univ fun k : Fin 47 => iprop(∃ κ : ℕ, cellInv ER (Rd (insOf m)) κ (kcell (c, k))))
          ∗ (bigSep Finset.univ fun k : Fin 47 => iprop(posAt (F := F) (c, k) ∗ reached ER (kcell (c, k)) 0)) ∗ toks (F := F) c ∗ kvSems (F := F) c) : sProp 𝕄)
      ⊢ bigSep Finset.univ (ghost m) := by
  rw [bigSep_sep', bigSep_sep', bigSep_sep', ← bigSep_univ_prod (fun ck : Dev nD × Fin 47 => iprop(∃ κ : ℕ, cellInv ER (Rd (insOf m)) κ (kcell ck))),
    bigSep_congr (s := Finset.univ) (fun (c : Dev nD) _ => bigSep_sep' Finset.univ (fun k : Fin 47 => posAt (F := F) (c, k)) (fun k => reached ER (kcell (c, k)) 0)),
    bigSep_sep', ← bigSep_univ_prod (fun ck : Dev nD × Fin 47 => (reached ER (kcell ck) 0 : sProp 𝕄))]
  iintro ⟨HI, ⟨Hat, #HR⟩, Htok, Hkv⟩
  ihave HK := (BI.bigSep_exists_pi Finset.univ (fun (ck : Dev nD × Fin 47) (κ : ℕ) => (cellInv ER (Rd (insOf m)) κ (kcell ck) : sProp 𝕄))) $$ HI
  icases HK with ⟨%K, #HI⟩
  ihave Htk := (toks_around (F := F)) $$ Htok
  iapply (bigSep_with_persistent (R := records (insOf m) K) fun c _ => ghost_intro m K c)
  isplitr
  · unfold records; isplitl; · iexact HI
    iexact HR
  · iapply (show iprop((bigSep Finset.univ fun c : Dev nD => bigSep Finset.univ fun k : Fin 47 => posAt (F := F) (c, k)) ∗ (bigSep Finset.univ fun c : Dev nD => payToks (F := F) c)
        ∗ (bigSep Finset.univ fun c : Dev nD => kvSems (F := F) c)) ⊢ (bigSep Finset.univ (linear (F := F)) : sProp 𝕄) from by
        exact Entails.of_eq (((bigSep_sep' Finset.univ (fun c : Dev nD => bigSep Finset.univ fun k : Fin 47 => posAt (F := F) (c, k)) fun c => iprop(payToks (F := F) c ∗ kvSems (F := F) c)).trans
          (congrArg (fun X => iprop((bigSep Finset.univ fun c : Dev nD => bigSep Finset.univ fun k : Fin 47 => posAt (F := F) (c, k)) ∗ X))
            (bigSep_sep' Finset.univ (fun c : Dev nD => payToks (F := F) c) fun c => kvSems (F := F) c))).symm))
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

/-- The units cell `k` of any device is owed over the run. -/
def owedN (k : Fin 47) : ℕ := ∑ i ∈ Finset.Ico 0 38, if (payAt i).2.1 = k then (payAt i).2.2 else 0
theorem pay_mask : ∀ i, i < 38 → (payAt i).1 < 16 := by decide +kernel
theorem owed_cell (c : Dev nD) (k : Fin 47) : ∑ d : Dev nD, oweT d 0 (kcell (c, k)) () = owedN k := by
  unfold oweT owedN
  simp only [Finset.sum_apply, Finsupp.finset_sum_apply]
  rw [Finset.sum_comm]
  refine Finset.sum_congr rfl fun i hi => ?_
  have hm := pay_mask i (Finset.mem_Ico.mp hi).2
  have h : ∀ d : Dev nD, payT d i (kcell (c, k)) () = if d = peer c (payAt i).1 then (if (payAt i).2.1 = k then (payAt i).2.2 else 0) else 0 := fun d => by
    unfold payT
    rw [tallyAt_apply]
    by_cases hd : d = peer c (payAt i).1
    · subst hd
      rw [peer_peer c _ hm, if_pos rfl]
      by_cases hk : (payAt i).2.1 = k
      · rw [if_pos ⟨by rw [hk], rfl⟩, if_pos hk]
      · rw [if_neg (fun e => hk (congrArg Prod.snd (kcell_injective e.1)).symm), if_neg hk]
    · rw [if_neg hd, if_neg (fun e => hd (by
        have e := congrArg Prod.fst (kcell_injective e.1)
        have e : c = peer d (payAt i).1 := e
        rw [e, peer_peer d _ hm]))]
  rw [Finset.sum_congr rfl fun d _ => h d, Finset.sum_ite_eq' Finset.univ (peer c (payAt i).1), if_pos (Finset.mem_univ _)]
theorem launch_cell (c : Dev nD) (k : Fin 47) :
    tallyOn (kcell (c, k)) (launchCredit (Pipeline.owing fun d : Dev nD => oweT d 0) 0 (kcell (c, k))) = (tallyAt (kcell (c, k)) () (owedN k) : CellTallies nD τ sig Unit) := by
  unfold tallyAt; refine congrArg _ (Finsupp.ext fun u => ?_); cases u
  rw [Pipeline.launchCredit_owing, Finsupp.single_eq_same]
  exact owed_cell c k

theorem owedN_one (k : Fin 47) (j : ℕ) (hj : j < 38) (n : ℕ) (hk : payAt j = ((payAt j).1, k, n)) (h : ∀ i, i < 38 → i ≠ j → (payAt i).2.1 ≠ k) : owedN k = n := by
  unfold owedN
  rw [Finset.sum_eq_single_of_mem j (Finset.mem_Ico.mpr ⟨Nat.zero_le _, hj⟩) fun i hi hn => if_neg (h i (Finset.mem_Ico.mp hi).2 hn), hk, if_pos rfl]
theorem owedN_bar : owedN 46 = 15 := by
  have h : ∀ i ∈ Finset.Ico 0 38, (if (payAt i).2.1 = 46 then (payAt i).2.2 else 0) = if i < 15 then 1 else 0 := fun i hi => by
    by_cases h : i < 15
    · rw [if_pos h]; unfold payAt; rw [if_pos h, if_pos rfl]
    · rw [if_neg h, if_neg ((by decide +kernel : ∀ i, i < 38 → 15 ≤ i → (payAt i).2.1 ≠ 46) i (Finset.mem_Ico.mp hi).2 (by omega))]
  unfold owedN; rw [Finset.sum_congr rfl h]; decide +kernel
theorem owedN_8 : owedN 8 = amtQ 12 := owedN_one 8 15 (by decide) _ rfl (by decide +kernel)
theorem owedN_recv (i : ℕ) (h : i ∈ Finset.Ico 1 8) : owedN (fk (8 + i)) = amtQ 13 := by
  rw [Finset.mem_Ico] at h
  refine owedN_one _ (15 + i) (by omega) _ ?_ fun a ha hn => ?_
  · unfold payAt; rw [if_neg (by omega), if_neg (by omega), if_pos (by omega), show 15 + i - 15 = i by omega]
  · have h0 : ∀ i : Fin 8, 1 ≤ i.val → ∀ a : Fin 38, a.val ≠ 15 + i.val → (payAt a.val).2.1 ≠ fk (8 + i.val) := by decide +kernel
    exact h0 ⟨i, h.2⟩ h.1 ⟨a, ha⟩ hn
theorem owedN_gather (j : ℕ) (h : j ∈ Finset.Ico 0 15) : owedN (fk (31 + j)) = amtQ 43 := by
  rw [Finset.mem_Ico] at h
  refine owedN_one _ (23 + j) (by omega) _ ?_ fun a ha hn => ?_
  · unfold payAt; rw [if_neg (by omega), if_neg (by omega), if_neg (by omega), show 23 + j - 23 = j by omega]
  · have h0 : ∀ i : Fin 15, ∀ a : Fin 38, a.val ≠ 23 + i.val → (payAt a.val).2.1 ≠ fk (31 + i.val) := by decide +kernel
    exact h0 ⟨j, h.2⟩ ⟨a, ha⟩ hn

theorem creds (c : Dev nD) : (Pipeline.launchCred (fun d : Dev nD => oweT d 0) c : sProp 𝕄) ⊢ startCreds (F := F) c := by
  have h1 : (Pipeline.launchCred (fun d : Dev nD => oweT d 0) c : sProp 𝕄) ⊢ cellSplit fun k => credAt (F := F) (c, k) (owedN k) := by
    rw [← cells_split]
    unfold Pipeline.launchCred
    refine (BI.bigSep_subset (Finset.subset_univ ((Finset.univ : Finset (Fin 47)).map ⟨csem, fun a b h => csem_injective a b h⟩))).trans ?_
    rw [bigSep_map]
    exact Entails.of_eq (bigSep_congr fun k _ => congrArg cred (launch_cell c k))
  refine h1.trans ?_
  unfold cellSplit startCreds
  simp only [bigSep_sep']
  rw [owedN_bar, owedN_8, bigSep_congr fun i hi => show credAt (F := F) (c, fk (8 + i)) (owedN (fk (8 + i))) = credAt (c, fk (8 + i)) (amtQ 13) by rw [owedN_recv i hi],
    bigSep_congr fun j hj => show credAt (F := F) (c, fk (31 + j)) (owedN (fk (31 + j))) = credAt (c, fk (31 + j)) (amtQ 43) by rw [owedN_gather j hj]]
  iintro ⟨H1, -, H2, ⟨-, H3⟩, -, H4⟩
  isplitl [H1]; · iexact H1
  isplitl [H2]; · iexact H2
  isplitl [H3] <;> iassumption

/-! ## The region's side conditions -/

theorem start_intro (c : Dev nD) :
    iprop(Pipeline.unscopedRestP Pipeline.Prefetch.none cfg0.spec c (fun b => m ((c : Thread nD τ).loc b)) ∗ levAts L lv
        ∗ Pipeline.launchCred (fun d : Dev nD => oweT d 0) c ∗ prngReg c (ρ c) ∗ ghost m c)
      ⊢ |={Set.univ}=> iprop(start m c ∗ emp) := by
  rw [Pipeline.unscopedRestP_none, unscopedRest0_eq]
  iintro ⟨Hkv, Hlev, Hcr, -, HG⟩
  ihave Hc := (creds (F := F) c) $$ Hcr
  imodintro
  unfold start
  isplitl
  · isplitl [HG]; · iexact HG
    isplitl [Hlev]; · iexact Hlev
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop((unscopedSems0 c ∗ kvPts m c) ∗ Pipeline.ownSems0 osem c ∗ Pipeline.scopedRest cfg0.spec c) := by
  rw [show (dats m 0 c).Φ (Fin.last cfg0.N) = Φ₁ m c from rfl, scopedRest0_eq]
  unfold Φ₁ scratch
  rw [← cells_split]
  iintro ⟨Hk, Hr, Hkv, Hz⟩
  ihave H := (Entails.of_eq (sems0_eq (F := F) c).symm) $$ [Hz Hkv]
  · isplitl [Hz] <;> iassumption
  icases H with ⟨Hu, Ho⟩
  isplitl [Hu Hk]
  · isplitl [Hu] <;> iassumption
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t => by
    have h0 : lvS (.dma ((cfg0.spec w).sem s)) = 0 := by fin_cases w <;> fin_cases s <;> decide
    rcases t with ⟨_ | _, ht⟩
    · exact mayWait_at c _ 0 fun i hi _ => by rw [h0]; exact pay_lv i hi
    · show _ ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m 0 c).arrAt w cfg0.N

/-- What is read off a device's last state besides the windows' arrays: the semaphores at zero, the two unstaged arrays unchanged. -/
def Rest (c : Dev nD) (s : MemSt nD τ sig (Elt F)) : Prop :=
  (∀ sm : SemLoc sig, sm.isScoped .tc = false → s.sem ((c.tc : Thread nD τ), sm) = 0)
    ∧ s.mem ((c : Thread nD τ).loc main_arg3) = m ((c : Thread nD τ).loc main_arg3) ∧ s.mem ((c : Thread nD τ).loc main_arg4) = m ((c : Thread nD τ).loc main_arg4)
theorem read_rest (c : Dev nD) (s' : Phys nD τ sig (Elt F)) :
    iprop((unscopedSems0 c ∗ kvPts m c) ∗ emp ∗ SI s') ⊢ (|={Set.univ}=> iprop(⌜Rest m c s'.mem⌝ ∗ SI s') : sProp 𝕄) := by
  iintro ⟨⟨Hu, Hk, Hv⟩, -, HSI⟩
  icombine HSI Hk gives %h1
  icombine HSI Hv gives %h2
  imod (Pipeline.unscopedSems0_read (X := unscopedSems0 c) (c := c) fupd_intro s') $$ [Hu HSI] with ⟨%h0, HSI⟩
  · isplitl [Hu] <;> iassumption
  imodintro
  isplitr
  · ipureintro
    exact ⟨h0, Buf.eq_of_forall_mem_univ h1, Buf.eq_of_forall_mem_univ h2⟩
  iexact HSI

/-- From any memory with idle semaphores the sixteen devices run to an end, each window's array at its last contents, the
    unstaged arrays unchanged, and every semaphore idle again. -/
theorem run_main : θ_run defs (onTc (τ := τ) (main (F := F))) ⟨m, fun _ => 0, ρ⟩
    (fun r => (∀ c : Dev nD, (∀ w : Fin cfg0.W, r.2.mem ((cfg0.win w).arr.view.loc (c : Thread nD τ)) = finalA m c w) ∧ Rest m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d : Dev nD => oweT d 0) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      ihave H2 := (own_pair_emb embR _ _) $$ HX
      icases H2 with ⟨HX, -⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ kvPts m c)) (Z := fun _ => iprop(emp))
    (hX := start_intro m ρ) (hin := phi0_intro m) (hout := phi1_exit m)
    (QY := fun c s => Rest m c s)
    (hY := read_rest m)
    (hQ := fun _ h hs => ⟨fun c => ⟨(h c).1, (h c).2.2⟩, sem_eq_zero hs fun c => (h c).2.2.1⟩)

end Cert.KernelIdeal.Run
-- ==== Proof.Final.lean ====
module

public import proofs.«01_k».proof.Proof.Run
public import Idealize.ShloMosaic.Lib.Pipeline.Value
@[expose] public section
set_option maxRecDepth 16384
noncomputable section
/-! The run, read at the arrays of the program: the arguments unchanged, the result on every device at the gathered rows. -/
namespace Cert.KernelIdeal.Run
open Cert.KernelIdeal Cert.KernelIdeal.Gen
open Idealize.ShloMosaic Idealize.SL.Sem
open Idealize.ShloMosaic.TcCoe
open Idealize.ShloMosaic.Pipeline
variable {F : FTy → Type} [FloatOps F] [Named F]
variable (m : (ℓ : Loc nD τ sig) → Buf (Elt F) ℓ) (ρ : Dev nD → PrngReg)

theorem finalA_0 (c : Dev nD) : finalA m c 0 = m ((c : Thread nD τ).loc main_arg0) := (dats m 0 c).arrAt_in 0 rfl _
theorem finalA_1 (c : Dev nD) : finalA m c 1 = m ((c : Thread nD τ).loc main_arg1) := (dats m 0 c).arrAt_in 1 rfl _
theorem finalA_2 (c : Dev nD) : finalA m c 2 = m ((c : Thread nD τ).loc main_arg2) := (dats m 0 c).arrAt_in 2 rfl _
theorem set_unit_zero (b : Ref sig .tc) {off : Fin b.ty.shape.rank → Nat} (h : off = fun _ => 0) (inb : ∀ a, off a + b.ty.shape.size a ≤ b.ty.shape.size a) :
    ((Memref.whole b).access (Rect.unit off b.ty.shape.size inb) : View sig .tc _ _ _).set = Finset.univ := by
  subst h; exact Memref.set_access_whole b
/-- The one block of each window is the whole array. -/
theorem off0 : (fun a => win0_0.index t0_0 a * main_arg0.ty.shape.size a) = fun _ => 0 := funext fun a => by fin_cases a <;> decide
theorem off1 : (fun a => win0_1.index t0_0 a * main_arg1.ty.shape.size a) = fun _ => 0 := funext fun a => by fin_cases a <;> decide
theorem off2 : (fun a => win0_2.index t0_0 a * main_arg2.ty.shape.size a) = fun _ => 0 := funext fun a => by fin_cases a <;> decide
theorem off3 : (fun a => win0_3.index t0_0 a * main_v1.ty.shape.size a) = fun _ => 0 := funext fun a => by fin_cases a <;> decide

theorem ins_x (c : Dev nD) : (insOf m).x c = m ((c : Thread nD τ).loc main_arg0) :=
  show (win0_0.blk t0_0).view.read (Elt F) (m ((c : Thread nD τ).loc main_arg0)) = _ from
  Memref.read_access_unit_zero (Elt F) main_arg0 off0 (fun a => by fin_cases a <;> decide) (m ((c : Thread nD τ).loc main_arg0))
theorem ins_wq (c : Dev nD) : (insOf m).wq c = m ((c : Thread nD τ).loc main_arg1) :=
  show (win0_1.blk t0_0).view.read (Elt F) (m ((c : Thread nD τ).loc main_arg1)) = _ from
  Memref.read_access_unit_zero (Elt F) main_arg1 off1 (fun a => by fin_cases a <;> decide) (m ((c : Thread nD τ).loc main_arg1))
theorem ins_wo (c : Dev nD) : (insOf m).wo c = m ((c : Thread nD τ).loc main_arg2) :=
  show (win0_2.blk t0_0).view.read (Elt F) (m ((c : Thread nD τ).loc main_arg2)) = _ from
  Memref.read_access_unit_zero (Elt F) main_arg2 off2 (fun a => by fin_cases a <;> decide) (m ((c : Thread nD τ).loc main_arg2))
theorem ins_k (c : Dev nD) : (insOf m).k c = m ((c : Thread nD τ).loc main_arg3) := rfl
theorem ins_v (c : Dev nD) : (insOf m).v c = m ((c : Thread nD τ).loc main_arg4) := rfl
theorem finalA_3 (c : Dev nD) : finalA m c 3 = (resV (insOf m) : Vec F S1x256x1024 .f32) := by
  refine (dats m 0 c).arrAt_eq_of_cover 3 (resV (insOf m) : Vec F S1x256x1024 .f32) (fun t _ => ?_) fun i => ⟨t0_0, flush0_3 _, ?_⟩
  · obtain rfl := fin_N0 t
    exact (Memref.read_access_unit_zero (Elt F) main_v1 off3 (fun a => by fin_cases a <;> decide) (resV (insOf m) : Vec F S1x256x1024 .f32)).symm
  · exact (set_unit_zero main_v1 off3 (fun a => by fin_cases a <;> decide)).symm ▸ Finset.mem_univ i

/-- Every device ends with its arguments unchanged and the gathered result, every semaphore idle. -/
theorem run_values : θ_run defs (onTc (τ := τ) (main (F := F))) ⟨m, fun _ => 0, ρ⟩ (fun r => (∀ c : Dev nD,
      r.2.mem ((c : Thread nD τ).loc main_v1) = (resV (insOf m) : Vec F S1x256x1024 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun r h => ⟨fun c => ⟨((h.1 c).1 3).trans (finalA_3 m c), ((h.1 c).1 0).trans (finalA_0 m c),
    ((h.1 c).1 1).trans (finalA_1 m c), ((h.1 c).1 2).trans (finalA_2 m c), (h.1 c).2.2.1, (h.1 c).2.2.2⟩, h.2⟩) (run_main m ρ)

end Cert.KernelIdeal.Run
-- ==== Proof.KFlat.lean ====
module

public import proofs.«01_k».proof.Proof.Gen.Kernel.Skeleton
public import Idealize.ShloMosaic.Lib.Tactic
public import Idealize.ShloMosaic.Lib.Tactic.OpenCalls
public import Idealize.ShloMosaic.Lib.Tactic.Stretches

@[expose] public section

set_option maxRecDepth 65536
set_option maxHeartbeats 4000000

namespace Cert.Kernel.Run

open Cert.Kernel Cert.Kernel.Gen

variable {F : Idealize.ShloMosaic.FTy → Type} [Idealize.ShloMosaic.FloatOps F]

set_option open_calls.check false in
open_calls flat := cc0_body [k0_part40, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39]

end Cert.Kernel.Run
-- ==== Proof.KCut.lean ====
module

public import proofs.«01_k».proof.Proof.KGeom
@[expose] public section
set_option maxRecDepth 65536
noncomputable section
/-! The kernel's body cut into eleven stretches, each ending where the next kind of communication begins. -/
namespace Cert.Kernel.Run
open Cert.Kernel Cert.Kernel.Gen
open Idealize.ShloMosaic
variable {F : FTy → Type} [FloatOps F]

set_option maxHeartbeats 8000000 in
cut_chain s := flat at 17, 120, 125, 160, 166, 194, 216, 219, 234, 264

end Cert.Kernel.Run
-- ==== Proof.Maths.lean ====
module

public import Idealize.ShloMosaic.PureOps.Ideal
public import Idealize.ShloMosaic.PureOps.Ideal.Laws
public import Idealize.ShloMosaic.Lib.ValueIdxCore
@[expose] public section
noncomputable section
/-! The mathematics of the claim: attention over 65536 keys as extended real numbers, and the two facts by which the shift
of the scores by their maximum drops out: a positive real factor passes through a finite sum, and cancels in a quotient. -/
namespace Cert.Proof.Attn
open Idealize.ShloMosaic Idealize.ShloMosaic.ValueIdx
open scoped BigOperators

/-- The scale of the scores: the value of the reference's literal. -/
def scale : ℝ := 11863283 / 134217728

/-- Column `128 h + d` of a row of 1024. -/
def hd (h : Fin 8) (d : Fin 128) : Fin 1024 := ⟨128 * h.val + d.val, by omega⟩
/-- The head of a column. -/
def headOf (t : Fin 1024) : Fin 8 := ⟨t.val / 128, by omega⟩
/-- The place of a column within its head. -/
def laneOf (t : Fin 1024) : Fin 128 := ⟨t.val % 128, by omega⟩
theorem hd_headOf (t : Fin 1024) : hd (headOf t) (laneOf t) = t := Fin.ext (Nat.div_add_mod _ _)

variable (x : (⟨3, ![1, 256, 1024]⟩ : Shape).Idx → ℝ) (wq : (⟨2, ![1024, 1024]⟩ : Shape).Idx → ℝ)
variable (k : (⟨4, ![1, 65536, 8, 128]⟩ : Shape).Idx → ℝ) (V : (⟨4, ![1, 65536, 8, 128]⟩ : Shape).Idx → EReal)
variable (Wo : (⟨2, ![1024, 1024]⟩ : Shape).Idx → EReal)

/-- The queries. -/
def query (r : Fin 256) (t : Fin 1024) : ℝ := ∑ i : Fin 1024, x (ix3 0 r i) * wq (ix2 i t)
/-- The scaled score of row `r` against key `J` in head `h`. -/
def score (r : Fin 256) (h : Fin 8) (J : Fin 65536) : ℝ := (∑ d : Fin 128, query x wq r (hd h d) * k (ix4 0 J h d)) * scale
/-- The weight of a key. -/
def weight (r : Fin 256) (h : Fin 8) (J : Fin 65536) : EReal := (Real.exp (score x wq k r h J) : ℝ)
/-- The weighted sum of the values. -/
def numer (r : Fin 256) (h : Fin 8) (d : Fin 128) : EReal := ∑ J : Fin 65536, weight x wq k r h J * V (ix4 0 J h d)
/-- The sum of the weights. -/
def denom (r : Fin 256) (h : Fin 8) : EReal := ∑ J : Fin 65536, weight x wq k r h J
/-- The attention of row `r` in head `h`. -/
def attn (r : Fin 256) (h : Fin 8) (d : Fin 128) : EReal := numer x wq k V r h d * Ideal.div 1 (denom x wq k r h)
/-- The result at row `r` and column `c`. -/
def result (r : Fin 256) (c : Fin 1024) : EReal := ∑ t : Fin 1024, attn x wq k V r (headOf t) (laneOf t) * Wo (ix2 t c)

/-! ## Real factors and finite sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_sum_real {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert b s hb ih =>
    rw [Finset.sum_insert hb, Finset.sum_insert hb, ← ih]
    exact EReal.left_distrib_of_nonneg_of_ne_top (EReal.coe_nonneg.2 ha) (EReal.coe_ne_top a) _ _

/-- The maximum of finitely many reals, one at least, is a real. -/
theorem fold_max_real {ι : Type} (s : Finset ι) (hs : s.Nonempty) (f : ι → ℝ) : ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM]
    exact (EReal.coe_strictMono.monotone.map_max).symm

/-- Shifting every score by one real changes neither the weighted mean. -/
theorem shift_div {ι : Type} [Fintype ι] [Nonempty ι] (s : ι → ℝ) (M : ℝ) (v : ι → EReal) :
    Ideal.div (∑ j, ((Real.exp (s j - M) : ℝ) : EReal) * v j) (∑ j, ((Real.exp (s j - M) : ℝ) : EReal))
      = (∑ j, ((Real.exp (s j) : ℝ) : EReal) * v j) * Ideal.div 1 (∑ j, ((Real.exp (s j) : ℝ) : EReal)) := by
  have he : ∀ j, Real.exp (s j - M) = Real.exp (-M) * Real.exp (s j) := fun j => by rw [← Real.exp_add]; congr 1; ring
  have hpos : (0 : ℝ) < ∑ j, Real.exp (s j) := Finset.sum_pos (fun j _ => Real.exp_pos _) Finset.univ_nonempty
  have ha : (0 : ℝ) < Real.exp (-M) := Real.exp_pos _
  have hn : ∑ j, ((Real.exp (s j - M) : ℝ) : EReal) * v j = (Real.exp (-M) : ℝ) * ∑ j, ((Real.exp (s j) : ℝ) : EReal) * v j := by
    rw [mul_sum_real _ _ ha.le]
    refine Finset.sum_congr rfl fun j _ => ?_
    rw [he, EReal.coe_mul, mul_assoc]
  have hd : ∑ j, ((Real.exp (s j - M) : ℝ) : EReal) = ((Real.exp (-M) * ∑ j, Real.exp (s j) : ℝ) : EReal) := by
    rw [← coe_sum, Finset.mul_sum]
    exact congrArg _ (Finset.sum_congr rfl fun j _ => he j)
  rw [hn, hd, ← coe_sum, Ideal.div_coe (mul_pos ha hpos).ne', Ideal.div_coe hpos.ne', one_mul, mul_comm ((Real.exp (-M) : ℝ) : EReal), mul_assoc,
    ← EReal.coe_mul]
  congr 2
  field_simp

end Cert.Proof.Attn
-- ==== Proof.Value.lean ====
module

public import proofs.«01_k».proof.Proof.Cont
public import proofs.«01_k».proof.Proof.Maths
public import Idealize.ShloMosaic.Lib.MatmulPlain
public import Idealize.ShloMosaic.Lib.KernelVsHost
public import Idealize.ShloMosaic.Lib.IdealHost
public import Idealize.ShloMosaic.PureOps.IdealRules
@[expose] public section
set_option maxRecDepth 16384
noncomputable section
/-! What the gathered result is, as extended real numbers: the attention of `Maths`. First each device's partial attention
at an index; then the two exchanges, whose sums run over all sixteen devices; then the quotient and the last product. -/
namespace Cert.KernelIdeal.Run
open Cert.KernelIdeal Cert.KernelIdeal.Gen
open Idealize.ShloMosaic
open Cert.Proof.Attn
open scoped BigOperators

/-! ## A half's partial attention -/

/-- The scale the kernel multiplies its queries by. -/
def scale2 : ℝ := 11863283 / 134217728 * (Real.log 2)⁻¹

theorem named_scale2 : (Named.named (F := Ideal) κ "scale2" (φ := .f32) 0x3E0293EE#32 : EReal) = (scale2 : ℝ) :=
  IdealRules.named_const.ideal_named_scalar κ "scale2" _ _ rfl

theorem qv_at (X : FVec Ideal S1x256x1024 .f32) (W : FVec Ideal S1024x1024 .f32) (x : S1x256x1024.Idx → ℝ) (w : S1024x1024.Idx → ℝ)
    (hX : ∀ i, X i = (x i : EReal)) (hW : ∀ i, W i = (w i : EReal)) (r : Fin 256) (t : Fin 1024) :
    (k0_pay2 (F := Ideal) X W (ValueIdx.ix2 r t) : EReal) = ((query x w r t * scale2 : ℝ) : EReal) := by
  unfold k0_pay2
  simp only [shapeCast_self]
  show matmul dot_S256x1024_S1024x1024_S256x1024_1_0_0_1_n_n none (truncf .bf16 (shapeCast S256x1024 X shapeCasts_S1x256x1024_S256x1024) bitsLt_bf16_f32)
    (truncf .bf16 W bitsLt_bf16_f32) (constant S256x1024 .f32 0x00000000#32) (ValueIdx.ix2 r t)
    * (Named.named (F := Ideal) κ "scale2" (φ := .f32) 0x3E0293EE#32 : EReal) = _
  rw [named_scale2, EReal.coe_mul]
  refine congrArg (· * ((scale2 : ℝ) : EReal)) ?_
  refine (Ideal.matmul_plain_apply (M := 256) (K := 1024) (N := 1024) none _ _ _ r t).trans ?_
  refine (congrArg (· + _) (Ideal.ofBits_zero_f32)).trans ?_
  rw [zero_add]
  unfold query
  rw [coe_sum]
  refine Finset.sum_congr rfl fun i _ => ?_
  rw [EReal.coe_mul, ← hX, ← hW]
  refine congrArg (· * _) ?_
  exact shapeCast_apply X shapeCasts_S1x256x1024_S256x1024 (ValueIdx.ix2 r i) (ValueIdx.ix3 0 r i) (by
    simp only [Shape.rowMajor_val_three, Shape.rowMajor_val_two]; simp)

variable (q : Vec Ideal S128x1024 .bf16) (k v : Vec Ideal S4096x128 .bf16)

theorem expV_at (h : Fin 8) (r : Fin 128) (j : Fin 4096) :
    expV q k h (ValueIdx.ix2 r j) = Ideal.exp2 (∑ d : Fin 128, q (ValueIdx.ix2 r (hd h d)) * k (ValueIdx.ix2 j d)) := by
  unfold expV
  refine congrArg Ideal.exp2 ?_
  refine (Ideal.matmul_transposedRhs_apply (M := 128) (K := 128) (N := 4096) none _ _ _ r j).trans ?_
  refine (congrArg (· + _) (Ideal.ofBits_zero_f32)).trans ?_
  rw [zero_add]
  refine Finset.sum_congr rfl fun d _ => congrArg (· * _) (congrArg q ?_)
  exact ext2 (Nat.zero_add _) rfl

theorem headOut_at (h : Fin 8) (r d : Fin 128) :
    headOut q k v h (ValueIdx.ix2 r d) = ∑ j : Fin 4096, expV q k h (ValueIdx.ix2 r j) * v (ValueIdx.ix2 j d) := by
  unfold headOut
  rw [shapeCast_self]
  refine (Ideal.matmul_plain_apply (M := 128) (K := 4096) (N := 128) none _ _ _ r d).trans ?_
  refine (congrArg (· + _) (Ideal.ofBits_zero_f32)).trans ?_
  rw [zero_add]
  rfl

theorem headSum_at (h : Fin 8) (r : Fin 128) : headSum q k h (ValueIdx.ix2 r 0) = ∑ j : Fin 4096, expV q k h (ValueIdx.ix2 r j) := by
  unfold headSum
  refine (shapeCast_apply _ _ (ValueIdx.ix2 r 0) (ValueIdx.ix1 r) (by simp only [Shape.rowMajor_val_one, Shape.rowMajor_val_two]; simp)).trans ?_
  refine (Ideal.multiReduction_add_single _ _ _ _ _ _).trans (Finset.sum_congr rfl fun j _ => congrArg (expV q k h) ?_)
  exact ext2 rfl rfl

theorem sumsV_at (kk : Fin 8 → Vec Ideal S4096x128 .bf16) (h : Fin 8) (r : Fin 128) :
    sumsV q kk (ValueIdx.ix2 r (⟨h.val, by omega⟩ : Fin 128)) = headSum q (kk h) h (ValueIdx.ix2 r 0) := by
  unfold sumsV k0_pay59
  simp only [shapeCast_self]
  refine concatenate_apply_piece (t := S128x128) 1 _ _ _ h.val (by have := h.isLt; show _ < 9; omega) S128x1 (headSum q (kk h) h) ?_ rfl h.val ?_
    (ValueIdx.ix2 r 0) ?_ rfl
  · fin_cases h <;> rfl
  · fin_cases h <;> rfl
  · intro b hb
    match b, hb with
    | ⟨0, _⟩, _ => rfl
    | ⟨1, _⟩, hb => exact absurd rfl hb

theorem plane_at (f : Vec Ideal S1x4096x8x128 .f32) (h : Fin 8) (j : Fin 4096) (d : Fin 128) : kbV f h (ValueIdx.ix2 j d) = f (ValueIdx.ix4 0 j h d) := by
  unfold kbV k0_pay3
  refine (shapeCast_apply (plane f h) shapeCasts_S1x4096x128_S4096x128 (ValueIdx.ix2 j d) (ValueIdx.ix3 0 j d) (by
    simp only [Shape.rowMajor_val_three, Shape.rowMajor_val_two]; simp)).trans (congrArg f (funext fun a => ?_))
  match a with
  | ⟨0, _⟩ => rfl
  | ⟨1, _⟩ => rfl
  | ⟨2, _⟩ => rfl
  | ⟨3, _⟩ => rfl

/-! ## The sixteen devices -/

/-- Key `j` of device `c`, among all. -/
def key (c : Fin 16) (j : Fin 4096) : Fin 65536 := finProdFinEquiv (m := 16) (n := 4096) (c, j)
theorem key_val (c : Fin 16) (j : Fin 4096) : (key c j).val = c.val * 4096 + j.val := by
  unfold key; rw [finProdFinEquiv_apply_val]; show j.val + 4096 * c.val = _; omega
theorem sum_keys (g : Fin 65536 → EReal) : ∑ c : Fin 16, ∑ j : Fin 4096, g (key c j) = ∑ J : Fin 65536, g J := by
  rw [← Fintype.sum_prod_type' (f := fun c j => g (key c j))]
  exact Equiv.sum_comp (finProdFinEquiv (m := 16) (n := 4096)) g

/-- The eight summands that a device adds make the sum over all sixteen. -/
theorem sum_peers (f : Dev nD → EReal) (o : Dev nD) :
    (f o + f (peer o 1)) + (f (peer o 2) + f (peer (peer o 2) 1)) + (f (peer o 4) + f (peer (peer o 4) 1)) + (f (peer o 6) + f (peer (peer o 6) 1))
      + (f (peer o 8) + f (peer (peer o 8) 1)) + (f (peer o 10) + f (peer (peer o 10) 1)) + (f (peer o 12) + f (peer (peer o 12) 1))
      + (f (peer o 14) + f (peer (peer o 14) 1)) = ∑ c : Dev nD, f c := by
  have hinv : Function.Involutive (fun c : Dev nD => peer o c.val) := fun c => by revert o c; decide +kernel
  have hs : ∑ c : Dev nD, f c = ∑ m ∈ Finset.range 16, f (peer o m) := by
    rw [← Equiv.sum_comp hinv.toPerm f]
    exact Fin.sum_univ_eq_sum_range (fun m => f (peer o m)) 16
  have h0 : peer o 0 = o := (by decide +kernel : ∀ o : Dev nD, peer o 0 = o) o
  have h2 : peer (peer o 2) 1 = peer o 3 := (by decide +kernel : ∀ o : Dev nD, peer (peer o 2) 1 = peer o 3) o
  have h4 : peer (peer o 4) 1 = peer o 5 := (by decide +kernel : ∀ o : Dev nD, peer (peer o 4) 1 = peer o 5) o
  have h6 : peer (peer o 6) 1 = peer o 7 := (by decide +kernel : ∀ o : Dev nD, peer (peer o 6) 1 = peer o 7) o
  have h8 : peer (peer o 8) 1 = peer o 9 := (by decide +kernel : ∀ o : Dev nD, peer (peer o 8) 1 = peer o 9) o
  have h10 : peer (peer o 10) 1 = peer o 11 := (by decide +kernel : ∀ o : Dev nD, peer (peer o 10) 1 = peer o 11) o
  have h12 : peer (peer o 12) 1 = peer o 13 := (by decide +kernel : ∀ o : Dev nD, peer (peer o 12) 1 = peer o 13) o
  have h14 : peer (peer o 14) 1 = peer o 15 := (by decide +kernel : ∀ o : Dev nD, peer (peer o 14) 1 = peer o 15) o
  rw [hs, h2, h4, h6, h8, h10, h12, h14]
  simp only [Finset.sum_range_succ, Finset.sum_range_zero, zero_add, h0, add_assoc]

variable (I : Ins Ideal)

theorem sumV_at (c : Dev nD) (r : Fin 256) (y : Fin 1152) (hr : kLo c ≤ r.val ∧ r.val < kLo c + 128) :
    (sumV I c (ValueIdx.ix2 r y) : EReal) = (accV I c (ValueIdx.ix2 r y) : EReal) + accV I (peer c 1) (ValueIdx.ix2 r y) := by
  have hk := kLo_cases c
  have hy := y.isLt
  unfold sumV keptV firstV k0_pay87 k0_pay60
  simp only [shapeCast_self]
  refine congrArg₂ (fun a b : EReal => a + b) (congrArg (accV I c) ?_) (congrArg (accV I (peer c 1)) ?_)
  · refine ix2_eq ?_ ?_
    · show kLo c + (r.val % 128) % 128 = r.val
      omega
    · exact Nat.mod_eq_of_lt hy
  · refine ix2_eq ?_ ?_
    · show sLo (peer c 1) + (r.val % 128) % 128 = r.val
      rw [sLo_peer]; omega
    · exact Nat.mod_eq_of_lt hy

/-- The total over all devices of the partial attention. -/
def total (r : Fin 256) (y : Fin 1152) : EReal := ∑ c : Dev nD, (accV I c (ValueIdx.ix2 r y) : EReal)

/-- The eight summands that device `c` adds, sixteen rows. -/
def added (c : Dev nD) : FVec Ideal S16x1152 .f32 :=
  k0_pay98 (k0_pay97 (k0_pay96 (k0_pay95 (rowsB (mLo c) (sumV I c)) (secondV I (peer c 2) 2) (secondV I (peer c 4) 4)) (secondV I (peer c 6) 6) (secondV I (peer c 8) 8))
    (secondV I (peer c 10) 10) (secondV I (peer c 12) 12)) (secondV I (peer c 14) 14)

theorem second_at (c : Dev nD) (i : Fin 7) (j : Fin 16) (y : Fin 1152) :
    (secondV I (peer c (2 * (i.val + 1))) (2 * (i.val + 1)) (ValueIdx.ix2 j y) : EReal)
      = (accV I (peer c (2 * (i.val + 1))) (ValueIdx.ix2 (⟨mLo c + j.val, by have := mLo_bounds c; have := kLo_cases c; omega⟩ : Fin 256) y) : EReal)
        + accV I (peer (peer c (2 * (i.val + 1))) 1) (ValueIdx.ix2 (⟨mLo c + j.val, by have := mLo_bounds c; have := kLo_cases c; omega⟩ : Fin 256) y) := by
  have hb := mLo_bounds c
  have hk := kLo_cases c
  have hj := j.isLt
  have hy := y.isLt
  have hi := i.isLt
  refine Eq.trans ?_ (sumV_at I (peer c (2 * (i.val + 1))) ⟨mLo c + j.val, by omega⟩ y (by rw [kLo_peer]; show kLo c ≤ mLo c + j.val ∧ mLo c + j.val < kLo c + 128; omega))
  unfold secondV k0_pay88
  simp only [shapeCast_self]
  rw [peer_peer c _ (by omega)]
  refine congrArg (sumV I (peer c (2 * (i.val + 1)))) (ix2_eq ?_ ?_)
  · show (mLo c + j.val) = mLo c + j.val
    rfl
  · rfl

theorem added_at (c : Dev nD) (j : Fin 16) (y : Fin 1152) :
    (added I c (ValueIdx.ix2 j y) : EReal) = total I (⟨mLo c + j.val, by have := mLo_bounds c; have := kLo_cases c; omega⟩ : Fin 256) y := by
  have hb := mLo_bounds c
  have hk := kLo_cases c
  have hj := j.isLt
  have h0 : (rowsB (mLo c) (sumV I c) (ValueIdx.ix2 j y) : EReal) = _ :=
    (congrArg (sumV I c) (show ix2 256 1152 (mLo c + j.val) y.val = ValueIdx.ix2 (⟨mLo c + j.val, by omega⟩ : Fin 256) y from ix2_eq rfl rfl)).trans
      (sumV_at I c ⟨mLo c + j.val, by omega⟩ y (by show kLo c ≤ mLo c + j.val ∧ mLo c + j.val < kLo c + 128; omega))
  unfold total
  refine Eq.trans ?_ (sum_peers (fun d => (accV I d (ValueIdx.ix2 (⟨mLo c + j.val, by omega⟩ : Fin 256) y) : EReal)) c)
  refine Eq.trans (b := (((((((rowsB (mLo c) (sumV I c) (ValueIdx.ix2 j y) : EReal) + (secondV I (peer c 2) 2 (ValueIdx.ix2 j y) : EReal)) + (secondV I (peer c 4) 4 (ValueIdx.ix2 j y) : EReal))
    + (secondV I (peer c 6) 6 (ValueIdx.ix2 j y) : EReal)) + (secondV I (peer c 8) 8 (ValueIdx.ix2 j y) : EReal)) + (secondV I (peer c 10) 10 (ValueIdx.ix2 j y) : EReal))
    + (secondV I (peer c 12) 12 (ValueIdx.ix2 j y) : EReal)) + (secondV I (peer c 14) 14 (ValueIdx.ix2 j y) : EReal)) rfl ?_
  rw [h0]
  refine congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) rfl ?_) ?_) ?_) ?_) ?_) ?_) ?_
  · exact second_at I c 0 j y
  · exact second_at I c 1 j y
  · exact second_at I c 2 j y
  · exact second_at I c 3 j y
  · exact second_at I c 4 j y
  · exact second_at I c 5 j y
  · exact second_at I c 6 j y

/-! ## The quotient and the last product -/

/-- Head `n` of the sums, each times the reciprocal of its sum of weights. -/
theorem piece_at (T : FVec Ideal S16x1152 .f32) (L : FVec Ideal S16x8 .f32) (n o : ℕ) (hn : n < 8) (ho : o = 128 * n) (h1 : S16x1152.Slices ![0, o] S16x128)
    (h2 : S16x8.Slices ![0, n] S16x1) (h3 : S16x1.Broadcasts S16x128) (j : Fin 16) (l : Fin 128) :
    (truncf .bf16 (mulf (extractStridedSlice S16x128 ![0, o] T h1) (broadcastTo S16x128 (extractStridedSlice S16x1 ![0, n] L h2) h3)) bitsLt_bf16_f32
      (ValueIdx.ix2 j l) : EReal)
      = (T (ValueIdx.ix2 j (⟨128 * n + l.val, by omega⟩ : Fin 1152)) : EReal) * L (ValueIdx.ix2 j (⟨n, hn⟩ : Fin 8)) := by
  subst ho
  refine congrArg₂ (fun a b : EReal => a * b) (congrArg T ?_) ?_
  · exact ext2 (Nat.zero_add _) rfl
  · refine (broadcastTo_apply _ h3 (ValueIdx.ix2 j l) (ValueIdx.ix2 j 0) fun a => ?_).trans (congrArg L ?_)
    · match a with
      | ⟨0, _⟩ => rfl
      | ⟨1, _⟩ => rfl
    · exact ext2 (Nat.zero_add _) rfl

theorem concat_at (p : Fin 8 → FVec Ideal S16x128 .bf16) (h : Shape.Concatenates [S16x128, S16x128, S16x128, S16x128, S16x128, S16x128, S16x128, S16x128] S16x1024 1)
    (j : Fin 16) (t : Fin 1024) :
    concatenate S16x1024 1 [⟨S16x128, p 0⟩, ⟨S16x128, p 1⟩, ⟨S16x128, p 2⟩, ⟨S16x128, p 3⟩, ⟨S16x128, p 4⟩, ⟨S16x128, p 5⟩, ⟨S16x128, p 6⟩, ⟨S16x128, p 7⟩] h (ValueIdx.ix2 j t)
      = p (headOf t) (ValueIdx.ix2 j (laneOf t)) :=
  concatenate_ofFn_apply (t := S16x1024) (s₁ := S16x128) 1 p h rfl 128 rfl (ValueIdx.ix2 j t) (headOf t) rfl (ValueIdx.ix2 j (laneOf t)) rfl fun b hb => by
    match b, hb with
    | ⟨0, _⟩, _ => rfl
    | ⟨1, _⟩, hb => exact absurd rfl hb

theorem lit_one : Ideal.ofBits .f32 0x3F800000#32 = (1 : EReal) := Ideal.ofBits_one_f32

theorem out_at (a : FVec Ideal S16x1152 .f32) (b : Vec Ideal S16x1152 .bf16) (wo : Vec Ideal S1024x1024 .f32) (j : Fin 16) (t : Fin 1024) :
    (k0_pay107 (k0_pay98 a b) (k0_pay99 a b) (k0_pay100 a b) (k0_pay101 a b) (k0_pay102 a b) (k0_pay103 a b) (k0_pay104 a b) (k0_pay105 a b) (k0_pay106 a b) wo
      (ValueIdx.ix2 j t) : EReal)
      = ∑ i : Fin 1024, ((k0_pay98 a b (ValueIdx.ix2 j (⟨i.val, by omega⟩ : Fin 1152)) : EReal)
          * Ideal.div 1 (k0_pay98 a b (ValueIdx.ix2 j (⟨1024 + i.val / 128, by omega⟩ : Fin 1152)))) * wo (ValueIdx.ix2 i t) := by
  have hl : ∀ n : Fin 8, (k0_pay99 a b (ValueIdx.ix2 j n) : EReal) = Ideal.div 1 (k0_pay98 a b (ValueIdx.ix2 j (⟨1024 + n.val, by omega⟩ : Fin 1152))) := fun n => by
    unfold k0_pay99
    refine congrArg₂ Ideal.div lit_one (congrArg (k0_pay98 a b) ?_)
    exact ext2 (Nat.zero_add _) rfl
  have hp : ∀ n : Fin 8, ∀ l : Fin 128, ((![k0_pay100 a b, k0_pay101 a b, k0_pay102 a b, k0_pay103 a b, k0_pay104 a b, k0_pay105 a b, k0_pay106 a b,
      truncf .bf16 (mulf (extractStridedSlice S16x128 ![0, 896] (k0_pay98 a b) slices_S16x1152_o0_896_S16x128)
        (broadcastTo S16x128 (extractStridedSlice S16x1 ![0, 7] (k0_pay99 a b) slices_S16x8_o0_7_S16x1) broadcasts_S16x1_S16x128)) bitsLt_bf16_f32]
        : Fin 8 → FVec Ideal S16x128 .bf16) n (ValueIdx.ix2 j l) : EReal)
      = (k0_pay98 a b (ValueIdx.ix2 j (⟨128 * n.val + l.val, by omega⟩ : Fin 1152)) : EReal) * k0_pay99 a b (ValueIdx.ix2 j n) := fun n l => by
    match n with
    | ⟨0, _⟩ => exact piece_at (k0_pay98 a b) (k0_pay99 a b) 0 0 (by decide) rfl slices_S16x1152_o0_0_S16x128 slices_S16x8_o0_0_S16x1 broadcasts_S16x1_S16x128 j l
    | ⟨1, _⟩ => exact piece_at (k0_pay98 a b) (k0_pay99 a b) 1 128 (by decide) rfl slices_S16x1152_o0_128_S16x128 slices_S16x8_o0_1_S16x1 broadcasts_S16x1_S16x128 j l
    | ⟨2, _⟩ => exact piece_at (k0_pay98 a b) (k0_pay99 a b) 2 256 (by decide) rfl slices_S16x1152_o0_256_S16x128 slices_S16x8_o0_2_S16x1 broadcasts_S16x1_S16x128 j l
    | ⟨3, _⟩ => exact piece_at (k0_pay98 a b) (k0_pay99 a b) 3 384 (by decide) rfl slices_S16x1152_o0_384_S16x128 slices_S16x8_o0_3_S16x1 broadcasts_S16x1_S16x128 j l
    | ⟨4, _⟩ => exact piece_at (k0_pay98 a b) (k0_pay99 a b) 4 512 (by decide) rfl slices_S16x1152_o0_512_S16x128 slices_S16x8_o0_4_S16x1 broadcasts_S16x1_S16x128 j l
    | ⟨5, _⟩ => exact piece_at (k0_pay98 a b) (k0_pay99 a b) 5 640 (by decide) rfl slices_S16x1152_o0_640_S16x128 slices_S16x8_o0_5_S16x1 broadcasts_S16x1_S16x128 j l
    | ⟨6, _⟩ => exact piece_at (k0_pay98 a b) (k0_pay99 a b) 6 768 (by decide) rfl slices_S16x1152_o0_768_S16x128 slices_S16x8_o0_6_S16x1 broadcasts_S16x1_S16x128 j l
    | ⟨7, _⟩ => exact piece_at (k0_pay98 a b) (k0_pay99 a b) 7 896 (by decide) rfl slices_S16x1152_o0_896_S16x128 slices_S16x8_o0_7_S16x1 broadcasts_S16x1_S16x128 j l
  unfold k0_pay107
  simp only [shapeCast_self]
  refine (Ideal.matmul_plain_apply (M := 16) (K := 1024) (N := 1024) none _ _ _ j t).trans ?_
  refine (congrArg (· + _) (Ideal.ofBits_zero_f32)).trans ?_
  rw [zero_add]
  refine Finset.sum_congr rfl fun i _ => congrArg (· * _) ?_
  refine (concat_at ![k0_pay100 a b, k0_pay101 a b, k0_pay102 a b, k0_pay103 a b, k0_pay104 a b, k0_pay105 a b, k0_pay106 a b, _] _ j i).trans ?_
  refine (hp (headOf i) (laneOf i)).trans ?_
  rw [hl]
  refine congrArg₂ (fun a b : EReal => a * b) (congrArg (k0_pay98 a b) (ext2 rfl ?_)) rfl
  exact Nat.div_add_mod _ _

/-! ## The partial attention of a device, in the reals -/

/-- A power of two at the kernel's scale is an exponential at the reference's. -/
theorem exp2_scale2 (s : ℝ) : Ideal.exp2 (((s * scale2 : ℝ)) : EReal) = (Real.exp (s * scale) : ℝ) := by
  show ((Real.rpow 2 (s * scale2) : ℝ) : EReal) = _
  have hl : Real.log 2 ≠ 0 := (Real.log_pos (by norm_num)).ne'
  refine congrArg _ ((Real.rpow_def_of_pos (by norm_num) _).trans (congrArg Real.exp ?_))
  unfold scale2 scale
  field_simp

section whole
variable (x : S1x256x1024.Idx → ℝ) (w : S1024x1024.Idx → ℝ) (k : (⟨4, ![1, 65536, 8, 128]⟩ : Shape).Idx → ℝ)
  (V : (⟨4, ![1, 65536, 8, 128]⟩ : Shape).Idx → EReal) (Wo : S1024x1024.Idx → EReal)

theorem exp_at (hx : ∀ c i, I.x c i = (x i : EReal)) (hw : ∀ c i, I.wq c i = (w i : EReal))
    (hk : ∀ c j h d, I.k c (ValueIdx.ix4 0 j h d) = (k (ValueIdx.ix4 0 (key c j) h d) : EReal))
    (c : Dev nD) (lo : ℕ) (h : Fin 8) (r' : Fin 128) (j : Fin 4096) (r : Fin 256) (hr : lo + r'.val = r.val) :
    (expV (qHalf I c lo) (kbV (I.k c) h) h (ValueIdx.ix2 r' j) : EReal) = weight x w k r h (key c j) := by
  rw [expV_at]
  have hq : ∀ d : Fin 128, (qHalf I c lo (ValueIdx.ix2 r' (hd h d)) : EReal) = ((query x w r (hd h d) * scale2 : ℝ) : EReal) := fun d => by
    refine Eq.trans ?_ (qv_at (I.x c) (I.wq c) x w (hx c) (hw c) r (hd h d))
    exact congrArg (qV I c) (ix2_eq hr rfl)
  unfold weight score
  rw [← exp2_scale2]
  refine congrArg Ideal.exp2 ?_
  rw [Finset.sum_mul, coe_sum]
  refine Finset.sum_congr rfl fun d _ => ?_
  rw [hq, plane_at, hk, ← EReal.coe_mul]
  exact congrArg _ (by ring)

theorem partial_head (hx : ∀ c i, I.x c i = (x i : EReal)) (hw : ∀ c i, I.wq c i = (w i : EReal))
    (hk : ∀ c j h d, I.k c (ValueIdx.ix4 0 j h d) = (k (ValueIdx.ix4 0 (key c j) h d) : EReal))
    (hv : ∀ c j h d, I.v c (ValueIdx.ix4 0 j h d) = V (ValueIdx.ix4 0 (key c j) h d))
    (c : Dev nD) (r : Fin 256) (t : Fin 1024) :
    (accV I c (ValueIdx.ix2 r (⟨t.val, by omega⟩ : Fin 1152)) : EReal)
      = ∑ j : Fin 4096, weight x w k r (headOf t) (key c j) * V (ValueIdx.ix4 0 (key c j) (headOf t) (laneOf t)) := by
  have ht := t.isLt
  have hr := r.isLt
  have hh : (⟨t.val % 1152 / 128 % 8, Nat.mod_lt _ (by decide)⟩ : Fin 8) = headOf t := Fin.ext (by show t.val % 1152 / 128 % 8 = t.val / 128; omega)
  refine Eq.trans (b := headOut (qHalf I c (r.val / 128 * 128)) (kbV (I.k c) (headOf t)) (kbV (I.v c) (headOf t)) (headOf t)
    (ValueIdx.ix2 (⟨r.val % 128, by omega⟩ : Fin 128) (laneOf t))) ?_ ?_
  · unfold accV blkV
    refine (if_pos (show t.val % 1152 < 1024 by omega)).trans ?_
    refine Eq.trans (b := headOut (qHalf I c (r.val / 128 * 128)) (kbV (I.k c) (⟨t.val % 1152 / 128 % 8, Nat.mod_lt _ (by decide)⟩ : Fin 8))
      (kbV (I.v c) (⟨t.val % 1152 / 128 % 8, Nat.mod_lt _ (by decide)⟩ : Fin 8)) (⟨t.val % 1152 / 128 % 8, Nat.mod_lt _ (by decide)⟩ : Fin 8)
      (ValueIdx.ix2 (⟨r.val % 128, by omega⟩ : Fin 128) (laneOf t))) ?_ (by rw [hh])
    refine congrArg (headOut _ _ _ _) (ix2_eq ?_ ?_)
    · show r.val % 128 % 128 = r.val % 128
      omega
    · show t.val % 1152 % 128 = t.val % 128
      omega
  · rw [headOut_at]
    refine Finset.sum_congr rfl fun j _ => ?_
    rw [exp_at I x w k hx hw hk c _ (headOf t) _ j r (by show r.val / 128 * 128 + r.val % 128 = r.val; omega), plane_at, hv]

theorem partial_sum (hx : ∀ c i, I.x c i = (x i : EReal)) (hw : ∀ c i, I.wq c i = (w i : EReal))
    (hk : ∀ c j h d, I.k c (ValueIdx.ix4 0 j h d) = (k (ValueIdx.ix4 0 (key c j) h d) : EReal))
    (c : Dev nD) (r : Fin 256) (h : Fin 8) :
    (accV I c (ValueIdx.ix2 r (⟨1024 + h.val, by omega⟩ : Fin 1152)) : EReal) = ∑ j : Fin 4096, weight x w k r h (key c j) := by
  have hh := h.isLt
  have hr := r.isLt
  refine Eq.trans (b := sumsV (qHalf I c (r.val / 128 * 128)) (kbV (I.k c)) (ValueIdx.ix2 (⟨r.val % 128, by omega⟩ : Fin 128) (⟨h.val, by omega⟩ : Fin 128))) ?_ ?_
  · unfold accV blkV
    refine (if_neg (show ¬ (1024 + h.val) % 1152 < 1024 by omega)).trans ?_
    refine congrArg (sumsV _ _) (ix2_eq ?_ ?_)
    · show r.val % 128 % 128 = r.val % 128
      omega
    · show (1024 + h.val) % 1152 - 1024 = h.val
      omega
  · rw [sumsV_at, headSum_at]
    exact Finset.sum_congr rfl fun j _ => exp_at I x w k hx hw hk c _ h _ j r (by show r.val / 128 * 128 + r.val % 128 = r.val; omega)

/-! ## The result -/

theorem total_head (hx : ∀ c i, I.x c i = (x i : EReal)) (hw : ∀ c i, I.wq c i = (w i : EReal))
    (hk : ∀ c j h d, I.k c (ValueIdx.ix4 0 j h d) = (k (ValueIdx.ix4 0 (key c j) h d) : EReal))
    (hv : ∀ c j h d, I.v c (ValueIdx.ix4 0 j h d) = V (ValueIdx.ix4 0 (key c j) h d)) (r : Fin 256) (t : Fin 1024) :
    total I r (⟨t.val, by omega⟩ : Fin 1152) = numer x w k V r (headOf t) (laneOf t) :=
  (Finset.sum_congr rfl fun c _ => partial_head I x w k V hx hw hk hv c r t).trans
    (sum_keys fun J => weight x w k r (headOf t) J * V (ValueIdx.ix4 0 J (headOf t) (laneOf t)))

theorem total_sum (hx : ∀ c i, I.x c i = (x i : EReal)) (hw : ∀ c i, I.wq c i = (w i : EReal))
    (hk : ∀ c j h d, I.k c (ValueIdx.ix4 0 j h d) = (k (ValueIdx.ix4 0 (key c j) h d) : EReal)) (r : Fin 256) (h : Fin 8) :
    total I r (⟨1024 + h.val, by omega⟩ : Fin 1152) = denom x w k r h :=
  (Finset.sum_congr rfl fun c _ => partial_sum I x w k hx hw hk c r h).trans (sum_keys fun J => weight x w k r h J)

/-- What a device computes of the result: sixteen rows of the attention of all the keys. -/
theorem part_at (hx : ∀ c i, I.x c i = (x i : EReal)) (hw : ∀ c i, I.wq c i = (w i : EReal)) (ho : ∀ c i, I.wo c i = Wo i)
    (hk : ∀ c j h d, I.k c (ValueIdx.ix4 0 j h d) = (k (ValueIdx.ix4 0 (key c j) h d) : EReal))
    (hv : ∀ c j h d, I.v c (ValueIdx.ix4 0 j h d) = V (ValueIdx.ix4 0 (key c j) h d)) (c : Dev nD) (j : Fin 16) (col : Fin 1024) (r : Fin 256)
    (hr : mLo c + j.val = r.val) : (partV I c (ValueIdx.ix2 j col) : EReal) = result x w k V Wo r col := by
  have hb := mLo_bounds c
  have hc := kLo_cases c
  have hj := j.isLt
  have hrr : (⟨mLo c + j.val, by omega⟩ : Fin 256) = r := Fin.ext hr
  refine (out_at _ (secondV I (peer c 14) 14) (I.wo c) j col).trans ?_
  unfold result
  refine Finset.sum_congr rfl fun t _ => congrArg₂ (fun a b : EReal => a * b) ?_ (ho c _)
  unfold attn
  refine congrArg₂ (fun a b : EReal => a * b) ?_ (congrArg (Ideal.div 1) ?_)
  · refine (added_at I c j (⟨t.val, by omega⟩ : Fin 1152)).trans ?_
    rw [hrr]
    exact total_head I x w k V hx hw hk hv r t
  · refine (added_at I c j (⟨1024 + (headOf t).val, by have := (headOf t).isLt; omega⟩ : Fin 1152)).trans ?_
    rw [hrr]
    exact total_sum I x w k hx hw hk r (headOf t)

/-- The gathered result is the attention of all the keys, projected. -/
theorem res_at (hx : ∀ c i, I.x c i = (x i : EReal)) (hw : ∀ c i, I.wq c i = (w i : EReal)) (ho : ∀ c i, I.wo c i = Wo i)
    (hk : ∀ c j h d, I.k c (ValueIdx.ix4 0 j h d) = (k (ValueIdx.ix4 0 (key c j) h d) : EReal))
    (hv : ∀ c j h d, I.v c (ValueIdx.ix4 0 j h d) = V (ValueIdx.ix4 0 (key c j) h d)) (r : Fin 256) (col : Fin 1024) :
    (resV I (ValueIdx.ix3 0 r col) : EReal) = result x w k V Wo r col := by
  have hr := r.isLt
  refine Eq.trans (b := (gathV I (ValueIdx.ix2 r col) : EReal)) ?_ ?_
  · unfold resV k0_pay1
    exact shapeCast_apply _ _ (ValueIdx.ix3 0 r col) (ValueIdx.ix2 r col) (by simp only [Shape.rowMajor_val_three, Shape.rowMajor_val_two]; simp)
  · refine Eq.trans ?_ (part_at I x w k V Wo hx hw ho hk hv (owner r.val) (⟨r.val % 16, by omega⟩ : Fin 16) col r (by
      rw [mLo_owner r.val hr]; show r.val / 16 * 16 + r.val % 16 = r.val; omega))
    exact congrArg (partV I (owner r.val)) (ix2_eq rfl rfl)
end whole

end Cert.KernelIdeal.Run
-- ==== Proof.RefValue.lean ====
module

public import proofs.«01_k».proof.Proof.Maths
public import proofs.«01_k».proof.Proof.Gen.ReferenceIdeal.Run
public import Idealize.ShloMosaic.Lib.MatmulPlain
public import Idealize.ShloMosaic.Lib.KernelVsHost
public import Idealize.ShloMosaic.Lib.IdealHost
public import Idealize.ShloMosaic.Lib.Pipeline.Value
@[expose] public section
set_option maxRecDepth 16384
noncomputable section
/-! What the reference computes: the attention of `Maths`, at every index of its result, for inputs `x`, `Wq` and `K` that are real. -/
namespace Cert.ReferenceIdeal.RefValue
open Cert.ReferenceIdeal Cert.ReferenceIdeal.Gen
open Idealize.ShloMosaic Idealize.ShloMosaic.ValueIdx
open Cert.Proof.Attn
open scoped BigOperators

variable (X : FVec Ideal S1x256x1024 .f32) (Wq Wo : FVec Ideal S1024x1024 .f32) (K V : FVec Ideal S1x65536x8x128 .f32)

/-- The queries. -/
def qR : FVec Ideal S256x1024 .f32 :=
  Host.dotGeneral (φ₁ := .f32) (φ₂ := .f32) dot_S256x1024_S1024x1024_S256x1024_1_0_0_1_n_n none (shapeCast S256x1024 X shapeCasts_S1x256x1024_S256x1024) Wq
/-- The scaled scores. -/
def sR : FVec Ideal S8x256x65536 .f32 :=
  mulf (Host.dotGeneral (φ₁ := .f32) (φ₂ := .f32) dot_S256x8x128_S65536x8x128_S8x256x65536_2_2_0_0_1_1 none (shapeCast S256x8x128 (qR X Wq) shapeCasts_S256x1024_S256x8x128)
    (shapeCast S65536x8x128 K shapeCasts_S1x65536x8x128_S65536x8x128)) (broadcastInDim S8x256x65536 ![] bcast_S_S8x256x65536 (constant S_ .f32 0x3DB504F3#32))
/-- The largest score of each row. -/
def mR : FVec Ideal S8x256 .f32 := Host.reduce FloatOps.maximumf (sR X Wq K) (constant S_ .f32 0xFF800000#32) reducesTo_S8x256x65536_S8x256_d2 h_S_
/-- The weights. -/
def pR : FVec Ideal S8x256x65536 .f32 :=
  Host.exp (subf (sR X Wq K) (broadcastInDim S8x256x65536 ![0, 1, 2] bcast_S8x256x1_S8x256x65536_0_1_2 (broadcastInDim S8x256x1 ![0, 1] bcast_S8x256_S8x256x1_0_1 (mR X Wq K))))
/-- The sums of the weights. -/
def lR : FVec Ideal S8x256 .f32 := Host.reduceAdd (pR X Wq K) (constant S_ .f32 0x00000000#32) reducesTo_S8x256x65536_S8x256_d2 h_S_
/-- The attention. -/
def oR : FVec Ideal S8x256x128 .f32 :=
  Host.divf (Host.dotGeneral (φ₁ := .f32) (φ₂ := .f32) dot_S8x256x65536_S65536x8x128_S8x256x128_2_0_1_2_0_1 none (pR X Wq K) (shapeCast S65536x8x128 V shapeCasts_S1x65536x8x128_S65536x8x128))
    (broadcastInDim S8x256x128 ![0, 1, 2] bcast_S8x256x1_S8x256x128_0_1_2 (broadcastInDim S8x256x1 ![0, 1] bcast_S8x256_S8x256x1_0_1 (lR X Wq K)))
/-- The result. -/
def outR : FVec Ideal S1x256x1024 .f32 :=
  broadcastInDim S1x256x1024 ![1, 2] bcast_S256x1024_S1x256x1024_1_2 (Host.dotGeneral (φ₁ := .f32) (φ₂ := .f32) dot_S256x1024_S1024x1024_S256x1024_1_0_0_1_n_n none
    (shapeCast S256x1024 (transpose S256x8x128 [1, 0, 2] (oR X Wq K V) transposes_S8x256x128_S256x8x128_1_0_2) shapeCasts_S256x8x128_S256x1024) Wo)

section dots
theorem dot_plain (a : FVec Ideal S256x1024 .f32) (b : FVec Ideal S1024x1024 .f32) (r : Fin 256) (c : Fin 1024) :
    Host.dotGeneral (φ₁ := .f32) (φ₂ := .f32) dot_S256x1024_S1024x1024_S256x1024_1_0_0_1_n_n none a b (ix2 r c) = ∑ t : Fin 1024, a (ix2 r t) * b (ix2 t c) := by
  rw [← matmul_zero_eq_dotGeneral]
  refine (Ideal.matmul_plain_apply (M := 256) (K := 1024) (N := 1024) none a b _ r c).trans ?_
  show Ideal.ofBits .f32 0x00000000#32 + _ = _
  rw [Ideal.ofBits_zero_f32, zero_add]

theorem dot_scores (a : FVec Ideal S256x8x128 .f32) (b : FVec Ideal S65536x8x128 .f32) (h : Fin 8) (r : Fin 256) (J : Fin 65536) :
    Host.dotGeneral (φ₁ := .f32) (φ₂ := .f32) dot_S256x8x128_S65536x8x128_S8x256x65536_2_2_0_0_1_1 none a b (ix3 h r J) = ∑ d : Fin 128, a (ix3 r h d) * b (ix3 J h d) := by
  show FloatOps.dotGeneral _ none _ a b (ix3 h r J) = _
  rw [Ideal.dotGeneral_apply, ← Equiv.sum_comp (contrEquiv1 dot_S256x8x128_S65536x8x128_S8x256x65536_2_2_0_0_1_1 128 rfl rfl).symm]
  refine Finset.sum_congr rfl fun d _ => ?_
  have hk := contrEquiv1_symm_val dot_S256x8x128_S65536x8x128_S8x256x65536_2_2_0_0_1_1 128 rfl rfl d
  refine congrArg₂ (· * ·) (congrArg a ?_) (congrArg b ?_)
  · funext i; apply Fin.ext
    match i with
    | ⟨0, _⟩ => rfl
    | ⟨1, _⟩ => rfl
    | ⟨2, _⟩ => exact hk
  · funext i; apply Fin.ext
    match i with
    | ⟨0, _⟩ => rfl
    | ⟨1, _⟩ => rfl
    | ⟨2, _⟩ => exact hk

theorem dot_values (a : FVec Ideal S8x256x65536 .f32) (b : FVec Ideal S65536x8x128 .f32) (h : Fin 8) (r : Fin 256) (d : Fin 128) :
    Host.dotGeneral (φ₁ := .f32) (φ₂ := .f32) dot_S8x256x65536_S65536x8x128_S8x256x128_2_0_1_2_0_1 none a b (ix3 h r d) = ∑ J : Fin 65536, a (ix3 h r J) * b (ix3 J h d) := by
  show FloatOps.dotGeneral _ none _ a b (ix3 h r d) = _
  rw [Ideal.dotGeneral_apply, ← Equiv.sum_comp (contrEquiv1 dot_S8x256x65536_S65536x8x128_S8x256x128_2_0_1_2_0_1 65536 rfl rfl).symm]
  refine Finset.sum_congr rfl fun d _ => ?_
  have hk := contrEquiv1_symm_val dot_S8x256x65536_S65536x8x128_S8x256x128_2_0_1_2_0_1 65536 rfl rfl d
  refine congrArg₂ (· * ·) (congrArg a ?_) (congrArg b ?_)
  · funext i; apply Fin.ext
    match i with
    | ⟨0, _⟩ => rfl
    | ⟨1, _⟩ => rfl
    | ⟨2, _⟩ => exact hk
  · funext i; apply Fin.ext
    match i with
    | ⟨0, _⟩ => exact hk
    | ⟨1, _⟩ => rfl
    | ⟨2, _⟩ => rfl
end dots

theorem cast_x (r : Fin 256) (t : Fin 1024) : shapeCast S256x1024 X shapeCasts_S1x256x1024_S256x1024 (ix2 r t) = X (ix3 0 r t) :=
  shapeCast_apply _ _ _ _ (by simp only [Shape.rowMajor_val_three, Shape.rowMajor_val_two]; simp)
theorem cast_kv (J : Fin 65536) (h : Fin 8) (d : Fin 128) : shapeCast S65536x8x128 K shapeCasts_S1x65536x8x128_S65536x8x128 (ix3 J h d) = K (ix4 0 J h d) :=
  shapeCast_apply _ _ _ _ (by simp only [Shape.rowMajor_val_three, Shape.rowMajor_val_four]; simp)
theorem cast_q (q : FVec Ideal S256x1024 .f32) (r : Fin 256) (h : Fin 8) (d : Fin 128) :
    shapeCast S256x8x128 q shapeCasts_S256x1024_S256x8x128 (ix3 r h d) = q (ix2 r (hd h d)) :=
  shapeCast_apply _ _ _ _ (by simp only [Shape.rowMajor_val_three, Shape.rowMajor_val_two]; simp [hd]; ring)
theorem cast_o (o : FVec Ideal S8x256x128 .f32) (r : Fin 256) (t : Fin 1024) :
    shapeCast S256x1024 (transpose S256x8x128 [1, 0, 2] o transposes_S8x256x128_S256x8x128_1_0_2) shapeCasts_S256x8x128_S256x1024 (ix2 r t)
      = o (ix3 (headOf t) r (laneOf t)) :=
  (shapeCast_apply _ _ _ (ix3 r (headOf t) (laneOf t)) (by
    simp only [Shape.rowMajor_val_three, Shape.rowMajor_val_two]
    show (r.val * 8 + t.val / 128) * 128 + t.val % 128 = r.val * 1024 + t.val
    omega)).trans
    (transpose_apply _ _ _ _ _ fun b => match b with
      | ⟨0, _⟩ => rfl
      | ⟨1, _⟩ => rfl
      | ⟨2, _⟩ => rfl)

theorem lift_eq (hr : S8x256x65536.Reduces [2] S8x256) (h : Fin 8) (r : Fin 256) (J : Fin 65536) : hr.lift (ix2 h r) J = ix3 h r J := by
  funext i; apply Fin.ext
  match i with
  | ⟨0, _⟩ => rfl
  | ⟨1, _⟩ => rfl
  | ⟨2, _⟩ => rfl

theorem reduces_last : S8x256x65536.Reduces [2] S8x256 := by decide

theorem bcast_row (f : FVec Ideal S8x256 .f32) (h : Fin 8) (r : Fin 256) (J : Fin 65536) :
    broadcastInDim S8x256x65536 ![0, 1, 2] bcast_S8x256x1_S8x256x65536_0_1_2 (broadcastInDim S8x256x1 ![0, 1] bcast_S8x256_S8x256x1_0_1 f) (ix3 h r J) = f (ix2 h r) :=
  (broadcastInDim_apply _ _ _ _ (ix3 h r 0) fun a => match a with
    | ⟨0, _⟩ => rfl
    | ⟨1, _⟩ => rfl
    | ⟨2, _⟩ => rfl).trans
    (broadcastInDim_apply _ _ _ _ _ fun a => match a with
    | ⟨0, _⟩ => rfl
    | ⟨1, _⟩ => rfl)
theorem bcast_lane (f : FVec Ideal S8x256 .f32) (h : Fin 8) (r : Fin 256) (d : Fin 128) :
    broadcastInDim S8x256x128 ![0, 1, 2] bcast_S8x256x1_S8x256x128_0_1_2 (broadcastInDim S8x256x1 ![0, 1] bcast_S8x256_S8x256x1_0_1 f) (ix3 h r d) = f (ix2 h r) :=
  (broadcastInDim_apply _ _ _ _ (ix3 h r 0) fun a => match a with
    | ⟨0, _⟩ => rfl
    | ⟨1, _⟩ => rfl
    | ⟨2, _⟩ => rfl).trans
    (broadcastInDim_apply _ _ _ _ _ fun a => match a with
    | ⟨0, _⟩ => rfl
    | ⟨1, _⟩ => rfl)

theorem lit_scale : Ideal.ofBits .f32 0x3DB504F3#32 = ((scale : ℝ) : EReal) := by
  unfold scale
  simp [Ideal.ofBits, Ideal.ieee]
  exact (EReal.coe_mul _ _).symm.trans (congrArg _ (by norm_num))
theorem lit_bot : Ideal.ofBits .f32 0xFF800000#32 = (⊥ : EReal) := by simp [Ideal.ofBits, Ideal.ieee]

section real
variable (x : S1x256x1024.Idx → ℝ) (wq : S1024x1024.Idx → ℝ) (k : S1x65536x8x128.Idx → ℝ)
variable (hX : ∀ i, X i = (x i : EReal)) (hW : ∀ i, Wq i = (wq i : EReal)) (hK : ∀ i, K i = (k i : EReal))
include hX hW

theorem qR_eq (r : Fin 256) (t : Fin 1024) : qR X Wq (ix2 r t) = ((query x wq r t : ℝ) : EReal) := by
  unfold qR query
  rw [dot_plain, coe_sum]
  refine Finset.sum_congr rfl fun i _ => ?_
  rw [cast_x, hX, hW, EReal.coe_mul]

include hK

theorem sR_eq (h : Fin 8) (r : Fin 256) (J : Fin 65536) : sR X Wq K (ix3 h r J) = ((score x wq k r h J : ℝ) : EReal) := by
  unfold sR score
  rw [mulf_apply, dot_scores, EReal.coe_mul, coe_sum]
  refine congrArg₂ (· * ·) (Finset.sum_congr rfl fun d _ => ?_) ?_
  · rw [cast_q, cast_kv, qR_eq X Wq x wq hX hW, hK, EReal.coe_mul]
  · rw [broadcastInDim_scalar_apply]; exact lit_scale

theorem mR_real (h : Fin 8) (r : Fin 256) : ∃ M : ℝ, mR X Wq K (ix2 h r) = (M : EReal) := by
  obtain ⟨M, hM⟩ := fold_max_real (Finset.univ : Finset (Fin 65536)) Finset.univ_nonempty (score x wq k r h)
  refine ⟨M, ?_⟩
  unfold mR
  rw [Host.reduce_eq_fold_single (FloatOps.maximumf (F := Ideal) (φ := .f32)) _ _ _ reduces_last]
  refine Eq.trans ?_ hM
  have h1 : (constant (F := Ideal) S_ .f32 0xFF800000#32) (Shape.Idx.first h_S_) = (⊥ : EReal) := lit_bot
  have h2 : (sR X Wq K) ∘ reduces_last.lift (ix2 h r) = fun J : Fin 65536 => ((score x wq k r h J : ℝ) : EReal) :=
    funext fun J => (congrArg _ (lift_eq _ h r J)).trans (sR_eq X Wq K x wq k hX hW hK h r J)
  rw [h1, h2]
  rfl

theorem oR_eq (h : Fin 8) (r : Fin 256) (d : Fin 128) : oR X Wq K V (ix3 h r d) = attn x wq k V r h d := by
  obtain ⟨M, hM⟩ := mR_real X Wq K x wq k hX hW hK h r
  have hp : ∀ J, pR X Wq K (ix3 h r J) = ((Real.exp (score x wq k r h J - M) : ℝ) : EReal) := fun J => by
    unfold pR
    show Ideal.exp (sR X Wq K (ix3 h r J) - broadcastInDim S8x256x65536 ![0, 1, 2] bcast_S8x256x1_S8x256x65536_0_1_2 (broadcastInDim S8x256x1 ![0, 1] bcast_S8x256_S8x256x1_0_1 (mR X Wq K)) (ix3 h r J)) = _
    rw [sR_eq X Wq K x wq k hX hW hK, bcast_row, hM, ← EReal.coe_sub]
    rfl
  have hl : lR X Wq K (ix2 h r) = ∑ J : Fin 65536, ((Real.exp (score x wq k r h J - M) : ℝ) : EReal) := by
    unfold lR
    rw [hostReduceAdd_apply, Ideal.hostReduceAdd_single _ reduces_last]
    show Ideal.ofBits .f32 0x00000000#32 + _ = _
    rw [Ideal.ofBits_zero_f32, zero_add]
    exact Finset.sum_congr rfl fun J _ => (congrArg _ (lift_eq _ h r J)).trans (hp J)
  refine Eq.trans ?_ (shift_div (score x wq k r h) M fun J => V (ix4 0 J h d))
  unfold oR
  have hn : ∀ J : Fin 65536, pR X Wq K (ix3 h r J) * shapeCast S65536x8x128 V shapeCasts_S1x65536x8x128_S65536x8x128 (ix3 J h d)
      = ((Real.exp (score x wq k r h J - M) : ℝ) : EReal) * V (ix4 0 J h d) := fun J => by rw [hp, cast_kv]
  rw [hostDivf_apply, dot_values, bcast_lane, hl, Finset.sum_congr rfl fun J _ => hn J]

theorem outR_at (r : Fin 256) (c : Fin 1024) : outR X Wq Wo K V (ix3 0 r c) = result x wq k V Wo r c := by
  unfold outR result
  refine (broadcastInDim_apply _ _ _ _ (ix2 r c) fun a => match a with
    | ⟨0, _⟩ => rfl
    | ⟨1, _⟩ => rfl).trans ?_
  refine (dot_plain _ _ _ _).trans (Finset.sum_congr rfl fun t _ => ?_)
  rw [cast_o, oR_eq X Wq K V x wq k hX hW hK]
end real

end Cert.ReferenceIdeal.RefValue
-- ==== Proof.Finite.lean ====
module

public import proofs.«01_k».proof.Proof.Gen.Pre_finite_scores_KernelIdeal
public import Idealize.ShloMosaic.PureOps.Ideal.Laws
public import Idealize.ShloMosaic.Lib.ReduceAll
public import Idealize.ShloMosaic.Lib.Affine
@[expose] public section
noncomputable section
/-! What the precondition says: every entry of x, of Wq and of the keys is a real number. -/
namespace Cert.Pre_finite_scores_KernelIdeal.Read
open Cert.Pre_finite_scores_KernelIdeal Cert.Pre_finite_scores_KernelIdeal.Gen
open Idealize.ShloMosaic

theorem real_of_olt (x : EReal) (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  refine (EReal.coe_toReal (fun e => ?_) (fun e => ?_)).symm
  · subst e; simp at hlt
  · subst e; simp at hlt

theorem sub_S_ : Subsingleton S_.Idx := ⟨fun _ _ => funext fun a => a.elim0⟩

/-- One of the three tests: all entries of absolute value below infinity are real. -/
theorem real_of_all {s : Shape} (a : FVec Ideal s .f32) (hb : S_.BroadcastsInDim s (![] : Fin 0 → Fin s.rank)) (axes : List (Fin s.rank)) (hr : s.ReducesTo axes S_)
    (j : S_.Idx) (h : Host.reduce IntOp.andi (cmpf .olt (Host.absf a) (broadcastInDim s ![] hb (constant S_ .f32 0x7F800000#32))) (constantI S_ 1 1#1) hr h_S_ j = 1#1)
    (i : s.Idx) : (a i : EReal) = (((a i : EReal).toReal : ℝ) : EReal) :=
  real_of_olt (a i) (haveI := sub_S_; Host.reduce_andi_all _ _ hr h_S_ j h i)

theorem reals (a0 : FVec Ideal S1x256x1024 .f32) (a1 a2 : FVec Ideal S1024x1024 .f32) (a3 a4 : FVec Ideal S1x4096x8x128 .f32)
    (h : fn (F := Ideal) a0 a1 a2 a3 a4 = fun _ => 1#1) :
    (∀ i, (a0 i : EReal) = (((a0 i : EReal).toReal : ℝ) : EReal)) ∧ (∀ i, (a1 i : EReal) = (((a1 i : EReal).toReal : ℝ) : EReal))
      ∧ ∀ i, (a3 i : EReal) = (((a3 i : EReal).toReal : ℝ) : EReal) := by
  have h1 := congrFun h (fun a => a.elim0)
  obtain ⟨h2, hk⟩ := IntOp.andi_eq_one.1 h1
  obtain ⟨hx, hw⟩ := IntOp.andi_eq_one.1 h2
  exact ⟨real_of_all a0 _ _ _ _ hx, real_of_all a1 _ _ _ _ hw, real_of_all a3 _ _ _ _ hk⟩

end Cert.Pre_finite_scores_KernelIdeal.Read
-- ==== Proof.lean ====
module

public import proofs.«01_k».proof.Defs
public import proofs.«01_k».proof.Proof.Final
public import proofs.«01_k».proof.Proof.KFinal
public import proofs.«01_k».proof.Proof.Value
public import proofs.«01_k».proof.Proof.RefValue
public import proofs.«01_k».proof.Proof.Finite
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import Idealize.ShloMosaic.PureOps.IdealRules
public import Idealize.ShloMosaic.Lib.Layout
@[expose] public section
noncomputable section
/-! The claims, from the runs of the three programs; the value claim, from what the two results are as extended real numbers. -/
namespace Cert.Proof
open Idealize.ShloMosaic Idealize.SL.Sem

theorem kernel_quiescent : quiescent_Kernel (hKernel := Cert.Kernel.Gen.facts) := fun m g _ =>
  (θ_run (Cert.Kernel.defs (F := Bits)) _ _).mono (fun _ h => ⟨fun c => (h.1 c).2, h.2⟩) (Cert.Kernel.Run.run_values m g)

theorem ideal_quiescent : quiescent_KernelIdeal (hKernelIdeal := Cert.KernelIdeal.Gen.facts) := fun m g _ =>
  (θ_run (Cert.KernelIdeal.defs (F := Ideal)) _ _).mono (fun _ h => ⟨fun c => (h.1 c).2, h.2⟩) (Cert.KernelIdeal.Run.run_values m g)

theorem reference_quiescent : quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

theorem preserved : preserves_Kernel_KernelIdeal := IdealRules.named_const.statement _ "scale2" .f32 0x3E0293EE#32 _ rfl

/-- A device's block of the keys, or of the values, at an index. -/
theorem block_at (f : (⟨4, ![1, 65536, 8, 128]⟩ : Shape).Idx → EReal) (c : Fin 16) (j : Fin 4096) (h : Fin 8) (d : Fin 128) :
    Layout.block ⟨4, ![1, 4096, 8, 128]⟩ ⟨4, ![1, 65536, 8, 128]⟩ 1 16 c f (by decide) (ValueIdx.ix4 0 j h d)
      = f (ValueIdx.ix4 0 (Cert.KernelIdeal.Run.key c j) h d) := by
  rw [Layout.block_apply]
  refine congrArg f (funext fun a => Fin.ext ?_)
  rw [Layout.Tiles.idx_val]
  match a with
  | ⟨0, _⟩ => rfl
  | ⟨1, _⟩ => exact (Cert.KernelIdeal.Run.key_val c j).symm
  | ⟨2, _⟩ => rfl
  | ⟨3, _⟩ => rfl

/-- Every key lies on some device. -/
theorem exists_key (J : Fin 65536) : ∃ c j, Cert.KernelIdeal.Run.key c j = J :=
  ⟨(finProdFinEquiv (m := 16) (n := 4096)).symm J |>.1, (finProdFinEquiv (m := 16) (n := 4096)).symm J |>.2,
    (finProdFinEquiv (m := 16) (n := 4096)).apply_symm_apply J⟩

/-- On inputs whose scores are finite the gathered result is the reference's, entry by entry. -/
theorem values_eq (I : Cert.KernelIdeal.Run.Ins Ideal) (X : FVec Ideal Cert.KernelIdeal.S1x256x1024 .f32) (Wq Wo : FVec Ideal Cert.KernelIdeal.S1024x1024 .f32)
    (K V : FVec Ideal (⟨4, ![1, 65536, 8, 128]⟩ : Shape) .f32)
    (hx : ∀ c, I.x c = X) (hw : ∀ c, I.wq c = Wq) (ho : ∀ c, I.wo c = Wo)
    (hk : ∀ c, I.k c = Layout.block ⟨4, ![1, 4096, 8, 128]⟩ ⟨4, ![1, 65536, 8, 128]⟩ 1 16 c K)
    (hv : ∀ c, I.v c = Layout.block ⟨4, ![1, 4096, 8, 128]⟩ ⟨4, ![1, 65536, 8, 128]⟩ 1 16 c V)
    (hpre : ∀ c, Cert.Pre_finite_scores_KernelIdeal.fn (F := Ideal) (I.x c) (I.wq c) (I.wo c) (I.k c) (I.v c) = fun _ => 1#1) :
    Cert.KernelIdeal.Run.resV I = Cert.ReferenceIdeal.RefValue.outR X Wq Wo K V := by
  have hr := fun c => Cert.Pre_finite_scores_KernelIdeal.Read.reals _ _ _ _ _ (hpre c)
  have hX : ∀ i, (X i : EReal) = (((X i : EReal).toReal : ℝ) : EReal) := fun i => by
    have := (hr 0).1 i
    rwa [hx] at this
  have hW : ∀ i, (Wq i : EReal) = (((Wq i : EReal).toReal : ℝ) : EReal) := fun i => by
    have := (hr 0).2.1 i
    rwa [hw] at this
  have hK0 : ∀ (J : Fin 65536) (h : Fin 8) (d : Fin 128), (K (ValueIdx.ix4 0 J h d) : EReal) = (((K (ValueIdx.ix4 0 J h d) : EReal).toReal : ℝ) : EReal) := fun J h d => by
    obtain ⟨c, j, rfl⟩ := exists_key J
    have e : I.k c (ValueIdx.ix4 0 j h d) = K (ValueIdx.ix4 0 (Cert.KernelIdeal.Run.key c j) h d) := (congrFun (hk c) _).trans (block_at K c j h d)
    have := (hr c).2.2 (ValueIdx.ix4 0 j h d)
    rwa [e] at this
  have hK : ∀ i, (K i : EReal) = (((K i : EReal).toReal : ℝ) : EReal) := fun i => by
    have hi : i = ValueIdx.ix4 0 (i 1) (i 2) (i 3) := funext fun a => match a with
      | ⟨0, _⟩ => Fin.ext (by have : (i 0).val < 1 := (i 0).isLt; show (i 0).val = 0; omega)
      | ⟨1, _⟩ => rfl
      | ⟨2, _⟩ => rfl
      | ⟨3, _⟩ => rfl
    exact (congrArg (fun z => (K z : EReal) = (((K z : EReal).toReal : ℝ) : EReal)) hi).mpr (hK0 (i 1) (i 2) (i 3))
  refine funext fun y => ?_
  have hy : y = ValueIdx.ix3 0 (y 1) (y 2) := funext fun a => match a with
    | ⟨0, _⟩ => Fin.ext (by have : (y 0).val < 1 := (y 0).isLt; show (y 0).val = 0; omega)
    | ⟨1, _⟩ => rfl
    | ⟨2, _⟩ => rfl
  refine (congrArg _ hy).trans (Eq.trans ?_ (congrArg _ hy).symm)
  exact (Cert.KernelIdeal.Run.res_at I _ _ (fun i => (K i : EReal).toReal) V Wo (fun c i => (congrFun (hx c) i).trans (hX i)) (fun c i => (congrFun (hw c) i).trans (hW i))
    (fun c i => congrFun (ho c) i) (fun c j h d => ((congrFun (hk c) _).trans (block_at K c j h d)).trans (hK _))
    (fun c j h d => (congrFun (hv c) _).trans (block_at V c j h d)) (y 1) (y 2)).trans
    (Cert.ReferenceIdeal.RefValue.outR_at X Wq Wo K V _ _ _ hX hW hK (y 1) (y 2)).symm

theorem agrees : algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Pre_finite_scores_KernelIdeal.Gen.facts) := by
  intro m g m' g' hpre hin
  refine ⟨_, (θ_run (Cert.KernelIdeal.defs (F := Ideal)) _ _).mono (fun _ h => h.1) (Cert.KernelIdeal.Run.run_values m g),
    (θ_run (Cert.ReferenceIdeal.defs (F := Ideal)) _ _).mono (fun r h => ⟨(h 0).1.trans ?_, (h 0).2⟩) (Cert.ReferenceIdeal.Value.run (F := Ideal) m' g')⟩
  refine Eq.symm (values_eq (Cert.KernelIdeal.Run.insOf m) _ _ _ _ _ (fun c => ?_) (fun c => ?_) (fun c => ?_) (fun c => ?_) (fun c => ?_) fun c => ?_)
  · exact (Cert.KernelIdeal.Run.ins_x m c).trans (hin c).1
  · exact (Cert.KernelIdeal.Run.ins_wq m c).trans (hin c).2.1
  · exact (Cert.KernelIdeal.Run.ins_wo m c).trans (hin c).2.2.1
  · exact (Cert.KernelIdeal.Run.ins_k m c).trans (hin c).2.2.2.1
  · exact (Cert.KernelIdeal.Run.ins_v m c).trans (hin c).2.2.2.2
  · rw [Cert.KernelIdeal.Run.ins_x, Cert.KernelIdeal.Run.ins_wq, Cert.KernelIdeal.Run.ins_wo, Cert.KernelIdeal.Run.ins_k, Cert.KernelIdeal.Run.ins_v]
    exact hpre c

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  kernel_quiescent, ideal_quiescent, fun m g _ => ideal_quiescent m g trivial, reference_quiescent, fun m g _ => reference_quiescent m g trivial, preserved, agrees⟩

end Cert.Proof
